-- ==== Defs.lean ====
def Pre_Kernel [hPre_sorted_graphs : Cert.Pre_sorted_graphs.Facts] (m : (ℓ : Loc Cert.Kernel.nD Cert.Kernel.τ Cert.Kernel.sig) → Buf (Elt Bits) ℓ) : Prop :=
  ∀ c : Dev Cert.Kernel.nD,
    (Cert.Pre_sorted_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sorted_graphs : Cert.Pre_sorted_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_graphs [hPre_sorted_graphs : Cert.Pre_sorted_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sorted_graphs : Cert.Pre_sorted_graphs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_graphs [hReferenceIdeal : Cert.ReferenceIdeal.Facts] [hPre_sorted_graphs : Cert.Pre_sorted_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_graphs : Cert.Pre_sorted_graphs.Facts),
    quiescent_Kernel (hKernel := hKernel) (hPre_sorted_graphs := hPre_sorted_graphs)
    ∧ quiescent_KernelIdeal (hKernelIdeal := hKernelIdeal) (hPre_sorted_graphs := hPre_sorted_graphs)
    ∧ quiescent_ReferenceIdeal (hReferenceIdeal := hReferenceIdeal)
    ∧ quiescent_ReferenceIdeal_pre_sorted_graphs (hReferenceIdeal := hReferenceIdeal) (hPre_sorted_graphs := hPre_sorted_graphs)
    ∧ preserves_Kernel_KernelIdeal
    ∧ algebraic_KernelIdeal_ReferenceIdeal (hKernelIdeal := hKernelIdeal) (hReferenceIdeal := hReferenceIdeal) (hPre_sorted_graphs := hPre_sorted_graphs)
-- ==== Pre_sorted_graphs.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x128 .f32) (main_arg1 : IVec S100000 32) (main_arg2 : FVec F S512x256 .f32) (main_arg3 : FVec F S512x128 .f32) (main_arg4 : FVec F S512 .f32) (main_arg5 : FVec F S512 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 256#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg1
  let main_v8 : IVec S99999 32 := (extractStridedSlice S99999 ![1] · slices_S100000_S99999_1) main_arg1
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S25x4000 : Shape := ⟨2, ![25, 4000]⟩
abbrev S25x1 : Shape := ⟨2, ![25, 1]⟩
abbrev S25 : Shape := ⟨1, ![25]⟩
abbrev S_ : Shape := ⟨0, ![]⟩
abbrev S1 : Shape := ⟨1, ![1]⟩
abbrev S8 : Shape := ⟨1, ![8]⟩
abbrev S1x8 : Shape := ⟨2, ![1, 8]⟩
abbrev S25x8 : Shape := ⟨2, ![25, 8]⟩
abbrev S201 : Shape := ⟨1, ![201]⟩
abbrev S25x8x1 : Shape := ⟨3, ![25, 8, 1]⟩
abbrev S200 : Shape := ⟨1, ![200]⟩
abbrev S1x512 : Shape := ⟨2, ![1, 512]⟩
abbrev S256x256 : Shape := ⟨2, ![256, 256]⟩
abbrev S288x128 : Shape := ⟨2, ![288, 128]⟩
abbrev S256x128 : Shape := ⟨2, ![256, 128]⟩
abbrev S200x32x1 : Shape := ⟨3, ![200, 32, 1]⟩
abbrev S200x32x128 : Shape := ⟨3, ![200, 32, 128]⟩
abbrev S256x512 : Shape := ⟨2, ![256, 512]⟩
abbrev S4000x128 : Shape := ⟨2, ![4000, 128]⟩
abbrev S1x4000 : Shape := ⟨2, ![1, 4000]⟩
abbrev S32x1 : Shape := ⟨2, ![32, 1]⟩
abbrev S32x4000 : Shape := ⟨2, ![32, 4000]⟩
abbrev S32x128 : Shape := ⟨2, ![32, 128]⟩
abbrev S32 : Shape := ⟨1, ![32]⟩
abbrev S4000 : Shape := ⟨1, ![4000]⟩
abbrev S1x32x1 : Shape := ⟨3, ![1, 32, 1]⟩
abbrev S1x32x128 : Shape := ⟨3, ![1, 32, 128]⟩
abbrev S256x1 : Shape := ⟨2, ![256, 1]⟩

abbrev nBuf : Space → Nat
  | .hbm => 99
  | .vmem => 16
  | .smem => 3
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S25x4000, .i32⟩
  | .hbm, ⟨7, _⟩ => ⟨S25x1, .i32⟩
  | .hbm, ⟨8, _⟩ => ⟨S25, .i32⟩
  | .hbm, ⟨9, _⟩ => ⟨S25x1, .i32⟩
  | .hbm, ⟨10, _⟩ => ⟨S25, .i32⟩
  | .hbm, ⟨11, _⟩ => ⟨S_, .i32⟩
  | .hbm, ⟨12, _⟩ => ⟨S25, .i32⟩
  | .hbm, ⟨13, _⟩ => ⟨S25, .i32⟩
  | .hbm, ⟨14, _⟩ => ⟨S25, .i32⟩
  | .hbm, ⟨15, _⟩ => ⟨S_, .i32⟩
  | .hbm, ⟨16, _⟩ => ⟨S_, .i32⟩
  | .hbm, ⟨17, _⟩ => ⟨S25, .i32⟩
  | .hbm, ⟨18, _⟩ => ⟨S25, .i32⟩
  | .hbm, ⟨19, _⟩ => ⟨S25, .i32⟩
  | .hbm, ⟨20, _⟩ => ⟨S_, .i32⟩
  | .hbm, ⟨21, _⟩ => ⟨S25, .i32⟩
  | .hbm, ⟨22, _⟩ => ⟨S25, .i1⟩
  | .hbm, ⟨23, _⟩ => ⟨S25, .i32⟩
  | .hbm, ⟨24, _⟩ => ⟨S25, .i32⟩
  | .hbm, ⟨25, _⟩ => ⟨S_, .i32⟩
  | .hbm, ⟨26, _⟩ => ⟨S25, .i32⟩
  | .hbm, ⟨27, _⟩ => ⟨S25, .i1⟩
  | .hbm, ⟨28, _⟩ => ⟨S25, .i1⟩
  | .hbm, ⟨29, _⟩ => ⟨S_, .i32⟩
  | .hbm, ⟨30, _⟩ => ⟨S25, .i32⟩
  | .hbm, ⟨31, _⟩ => ⟨S25, .i32⟩
  | .hbm, ⟨32, _⟩ => ⟨S25, .i32⟩
  | .hbm, ⟨33, _⟩ => ⟨S_, .i32⟩
  | .hbm, ⟨34, _⟩ => ⟨S25, .i32⟩
  | .hbm, ⟨35, _⟩ => ⟨S25, .i32⟩
  | .hbm, ⟨36, _⟩ => ⟨S_, .i32⟩
  | .hbm, ⟨37, _⟩ => ⟨S_, .i32⟩
  | .hbm, ⟨38, _⟩ => ⟨S25, .i32⟩
  | .hbm, ⟨39, _⟩ => ⟨S25, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S1, .i32⟩
  | .hbm, ⟨46, _⟩ => ⟨S8, .i32⟩
  | .hbm, ⟨47, _⟩ => ⟨S25x1, .i32⟩
  | .hbm, ⟨48, _⟩ => ⟨S1x8, .i32⟩
  | .hbm, ⟨49, _⟩ => ⟨S25x8, .i32⟩
  | .hbm, ⟨50, _⟩ => ⟨S25x8, .i32⟩
  | .hbm, ⟨51, _⟩ => ⟨S25x8, .i32⟩
  | .hbm, ⟨52, _⟩ => ⟨S1x8, .i32⟩
  | .hbm, ⟨53, _⟩ => ⟨S25x1, .i32⟩
  | .hbm, ⟨54, _⟩ => ⟨S25x8, .i32⟩
  | .hbm, ⟨55, _⟩ => ⟨S25x8, .i32⟩
  | .hbm, ⟨56, _⟩ => ⟨S25x8, .i1⟩
  | .hbm, ⟨57, _⟩ => ⟨S_, .i32⟩
  | .hbm, ⟨58, _⟩ => ⟨S_, .i32⟩
  | .hbm, ⟨59, _⟩ => ⟨S25x8, .i32⟩
  | .hbm, ⟨60, _⟩ => ⟨S25x8, .i32⟩
  | .hbm, ⟨61, _⟩ => ⟨S25, .i32⟩
  | .hbm, ⟨62, _⟩ => ⟨S25x1, .i32⟩
  | .hbm, ⟨63, _⟩ => ⟨S25x8, .i32⟩
  | .hbm, ⟨64, _⟩ => ⟨S25x1, .i32⟩
  | .hbm, ⟨65, _⟩ => ⟨S1x8, .i32⟩
  | .hbm, ⟨66, _⟩ => ⟨S_, .i32⟩
  | .hbm, ⟨67, _⟩ => ⟨S1x8, .i32⟩
  | .hbm, ⟨68, _⟩ => ⟨S1x8, .i32⟩
  | .hbm, ⟨69, _⟩ => ⟨S25x8, .i32⟩
  | .hbm, ⟨70, _⟩ => ⟨S25x8, .i32⟩
  | .hbm, ⟨71, _⟩ => ⟨S25x8, .i32⟩
  | .hbm, ⟨72, _⟩ => ⟨S_, .i32⟩
  | .hbm, ⟨73, _⟩ => ⟨S201, .i32⟩
  | .hbm, ⟨74, _⟩ => ⟨S_, .i32⟩
  | .hbm, ⟨75, _⟩ => ⟨S25x8, .i32⟩
  | .hbm, ⟨76, _⟩ => ⟨S25x8, .i1⟩
  | .hbm, ⟨77, _⟩ => ⟨S_, .i32⟩
  | .hbm, ⟨78, _⟩ => ⟨S25x8, .i32⟩
  | .hbm, ⟨79, _⟩ => ⟨S25x8, .i32⟩
  | .hbm, ⟨80, _⟩ => ⟨S25x8, .i32⟩
  | .hbm, ⟨81, _⟩ => ⟨S25x8x1, .i32⟩
  | .hbm, ⟨82, _⟩ => ⟨S201, .i32⟩
  | .hbm, ⟨83, _⟩ => ⟨S200, .i32⟩
  | .hbm, ⟨84, _⟩ => ⟨S_, .i32⟩
  | .hbm, ⟨85, _⟩ => ⟨S201, .i32⟩
  | .hbm, ⟨86, _⟩ => ⟨S_, .i32⟩
  | .hbm, ⟨87, _⟩ => ⟨S25x8, .i32⟩
  | .hbm, ⟨88, _⟩ => ⟨S25x8, .i1⟩
  | .hbm, ⟨89, _⟩ => ⟨S_, .i32⟩
  | .hbm, ⟨90, _⟩ => ⟨S25x8, .i32⟩
  | .hbm, ⟨91, _⟩ => ⟨S25x8, .i32⟩
  | .hbm, ⟨92, _⟩ => ⟨S25x8, .i32⟩
  | .hbm, ⟨93, _⟩ => ⟨S25x8x1, .i32⟩
  | .hbm, ⟨94, _⟩ => ⟨S201, .i32⟩
  | .hbm, ⟨95, _⟩ => ⟨S200, .i32⟩
  | .hbm, ⟨96, _⟩ => ⟨S1x512, .f32⟩
  | .hbm, ⟨97, _⟩ => ⟨S1x512, .f32⟩
  | .hbm, ⟨98, _⟩ => ⟨S256x256, .f32⟩
  | .local _ .vmem, ⟨0, _⟩ => ⟨S100000x128, .f32⟩
  | .local _ .vmem, ⟨1, _⟩ => ⟨S25x4000, .i32⟩
  | .local _ .vmem, ⟨2, _⟩ => ⟨S512x256, .f32⟩
  | .local _ .vmem, ⟨3, _⟩ => ⟨S512x128, .f32⟩
  | .local _ .vmem, ⟨4, _⟩ => ⟨S1x512, .f32⟩
  | .local _ .vmem, ⟨5, _⟩ => ⟨S1x512, .f32⟩
  | .local _ .vmem, ⟨6, _⟩ => ⟨S256x256, .f32⟩
  | .local _ .vmem, ⟨7, _⟩ => ⟨S288x128, .f32⟩
  | .local _ .vmem, ⟨8, _⟩ => ⟨S256x128, .f32⟩
  | .local _ .vmem, ⟨9, _⟩ => ⟨S256x256, .f32⟩
  | .local _ .vmem, ⟨10, _⟩ => ⟨S288x128, .f32⟩
  | .local _ .vmem, ⟨11, _⟩ => ⟨S288x128, .f32⟩
  | .local _ .vmem, ⟨12, _⟩ => ⟨S288x128, .f32⟩
  | .local _ .vmem, ⟨13, _⟩ => ⟨S200x32x1, .f32⟩
  | .local _ .vmem, ⟨14, _⟩ => ⟨S200x32x1, .f32⟩
  | .local _ .vmem, ⟨15, _⟩ => ⟨S200x32x128, .f32⟩
  | .local _ .smem, ⟨0, _⟩ => ⟨S200, .i32⟩
  | .local _ .smem, ⟨1, _⟩ => ⟨S200, .i32⟩
  | .local _ .smem, ⟨2, _⟩ => ⟨S1, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_c_0 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_c : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_c_0 : Ref sig .tc := ⟨.hbm, 29, rfl⟩
abbrev main_call0_call0_v12 : Ref sig .tc := ⟨.hbm, 30, rfl⟩
abbrev main_call0_call0_v13 : Ref sig .tc := ⟨.hbm, 31, rfl⟩
abbrev main_call0_v8 : Ref sig .tc := ⟨.hbm, 32, rfl⟩
abbrev main_call0_c_1 : Ref sig .tc := ⟨.hbm, 33, rfl⟩
abbrev main_call0_v9 : Ref sig .tc := ⟨.hbm, 34, rfl⟩
abbrev main_call0_v10 : Ref sig .tc := ⟨.hbm, 35, rfl⟩
abbrev main_call0_call1_call0_c : Ref sig .tc := ⟨.hbm, 36, rfl⟩
abbrev main_call0_call1_call0_v0 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_call0_v17 : Ref sig .tc := ⟨.hbm, 44, rfl⟩
abbrev main_call0_v18 : Ref sig .tc := ⟨.hbm, 45, rfl⟩
abbrev main_call0_v19 : Ref sig .tc := ⟨.hbm, 46, rfl⟩
abbrev main_call0_v20 : Ref sig .tc := ⟨.hbm, 47, rfl⟩
abbrev main_call0_v21 : Ref sig .tc := ⟨.hbm, 48, rfl⟩
abbrev main_call0_v22 : Ref sig .tc := ⟨.hbm, 49, rfl⟩
abbrev main_call0_v23 : Ref sig .tc := ⟨.hbm, 50, rfl⟩
abbrev main_call0_v24 : Ref sig .tc := ⟨.hbm, 51, rfl⟩
abbrev main_call0_v25 : Ref sig .tc := ⟨.hbm, 52, rfl⟩
abbrev main_call0_v26 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_c_2 : Ref sig .tc := ⟨.hbm, 57, rfl⟩
abbrev main_call0_call2_v0 : Ref sig .tc := ⟨.hbm, 58, rfl⟩
abbrev main_call0_call2_v1 : Ref sig .tc := ⟨.hbm, 59, rfl⟩
abbrev main_call0_v30 : Ref sig .tc := ⟨.hbm, 60, rfl⟩
abbrev main_call0_v31 : Ref sig .tc := ⟨.hbm, 61, rfl⟩
abbrev main_call0_v32 : Ref sig .tc := ⟨.hbm, 62, rfl⟩
abbrev main_call0_v33 : Ref sig .tc := ⟨.hbm, 63, rfl⟩
abbrev main_call0_v34 : Ref sig .tc := ⟨.hbm, 64, rfl⟩
abbrev main_call0_v35 : Ref sig .tc := ⟨.hbm, 65, rfl⟩
abbrev main_call0_c_3 : Ref sig .tc := ⟨.hbm, 66, rfl⟩
abbrev main_call0_v36 : Ref sig .tc := ⟨.hbm, 67, rfl⟩
abbrev main_call0_v37 : Ref sig .tc := ⟨.hbm, 68, rfl⟩
abbrev main_call0_v38 : Ref sig .tc := ⟨.hbm, 69, rfl⟩
abbrev main_call0_v39 : Ref sig .tc := ⟨.hbm, 70, rfl⟩
abbrev main_call0_v40 : Ref sig .tc := ⟨.hbm, 71, rfl⟩
abbrev main_call0_c_4 : Ref sig .tc := ⟨.hbm, 72, rfl⟩
abbrev main_call0_v41 : Ref sig .tc := ⟨.hbm, 73, rfl⟩
abbrev main_call0_c_5 : Ref sig .tc := ⟨.hbm, 74, rfl⟩
abbrev main_call0_v42 : Ref sig .tc := ⟨.hbm, 75, rfl⟩
abbrev main_call0_v43 : Ref sig .tc := ⟨.hbm, 76, rfl⟩
abbrev main_call0_c_6 : Ref sig .tc := ⟨.hbm, 77, rfl⟩
abbrev main_call0_v44 : Ref sig .tc := ⟨.hbm, 78, rfl⟩
abbrev main_call0_v45 : Ref sig .tc := ⟨.hbm, 79, rfl⟩
abbrev main_call0_v46 : Ref sig .tc := ⟨.hbm, 80, rfl⟩
abbrev main_call0_v47 : Ref sig .tc := ⟨.hbm, 81, rfl⟩
abbrev main_call0_v48 : Ref sig .tc := ⟨.hbm, 82, rfl⟩
abbrev main_call0_v49 : Ref sig .tc := ⟨.hbm, 83, rfl⟩
abbrev main_call0_c_7 : Ref sig .tc := ⟨.hbm, 84, rfl⟩
abbrev main_call0_v50 : Ref sig .tc := ⟨.hbm, 85, rfl⟩
abbrev main_call0_c_8 : Ref sig .tc := ⟨.hbm, 86, rfl⟩
abbrev main_call0_v51 : Ref sig .tc := ⟨.hbm, 87, rfl⟩
abbrev main_call0_v52 : Ref sig .tc := ⟨.hbm, 88, rfl⟩
abbrev main_call0_c_9 : Ref sig .tc := ⟨.hbm, 89, rfl⟩
abbrev main_call0_v53 : Ref sig .tc := ⟨.hbm, 90, rfl⟩
abbrev main_call0_v54 : Ref sig .tc := ⟨.hbm, 91, rfl⟩
abbrev main_call0_v55 : Ref sig .tc := ⟨.hbm, 92, rfl⟩
abbrev main_call0_v56 : Ref sig .tc := ⟨.hbm, 93, rfl⟩
abbrev main_call0_v57 : Ref sig .tc := ⟨.hbm, 94, rfl⟩
abbrev main_call0_v58 : Ref sig .tc := ⟨.hbm, 95, rfl⟩
abbrev main_call0_v59 : Ref sig .tc := ⟨.hbm, 96, rfl⟩
abbrev main_call0_v60 : Ref sig .tc := ⟨.hbm, 97, rfl⟩
abbrev main_v0 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop (v55 : BitVec 32) : Scf.Loop 32 :=
  let c0_i32 : BitVec 32 := 0#32
  let v56 : BitVec 32 := Scalar.subi v55 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_35 : BitVec 32 := 1#32
  ⟨c0_i32, v60, c1_i32_35⟩

def k0_off1 (v55 : BitVec 32) (k0_t1 : Fin (k0_t1_loop v55).trips) : Fin 1 → Nat :=
  let c0_i32 : BitVec 32 := 0#32
  let c1_i32_35 : BitVec 32 := 1#32
  let arg19 : BitVec 32 := Scf.iv c0_i32 c1_i32_35 k0_t1
  let v263 : Index := Scalar.indexCast arg19
  ![v263.toNat]
def k0_off2 (v264 : BitVec 32) : Fin 2 → Nat :=
  let c4000_i32 : BitVec 32 := 4000#32
  let v267 : BitVec 32 := Scalar.muli v264 c4000_i32
  let v268 : Index := Scalar.indexCast v267
  let c0_176 : Index := 0#32
  ![v268.toNat, 0]

def k0_off3 (v264 : BitVec 32) : Fin 2 → Nat :=
  let v270 : Index := Scalar.indexCast v264
  let c0_177 : Index := 0#32
  ![v270.toNat, 0]

def k0_chk2 (v264 : BitVec 32) : Prop :=
  (∀ a, (k0_off2 v264) a + S4000x128.size a ≤ S100000x128.size a) ∧
  (∀ a, (k0_off3 v264) a + S1x4000.size a ≤ S25x4000.size a)
theorem k0_off2_inb : ∀ (v264 : BitVec 32) (k0_hw2 : k0_chk2 v264), ∀ a, (k0_off2 v264) a + S4000x128.size a ≤ S100000x128.size a := fun v264 k0_hw2 => k0_hw2.1
theorem k0_off3_inb : ∀ (v264 : BitVec 32) (k0_hw2 : k0_chk2 v264), ∀ a, (k0_off3 v264) a + S1x4000.size a ≤ S25x4000.size a := fun v264 k0_hw2 => k0_hw2.2

def k0_off4 (v266 : BitVec 32) : Fin 2 → Nat :=
  let v281 : Index := Scalar.indexCast v266
  let c0_178 : Index := 0#32
  ![v281.toNat, 0]

def k0_chk3 (v266 : BitVec 32) : Prop :=
  (∀ a, (k0_off4 v266) a + S32x128.size a ≤ S288x128.size a)
theorem k0_off4_inb : ∀ (v266 : BitVec 32) (k0_hw3 : k0_chk3 v266), ∀ a, (k0_off4 v266) a + S32x128.size a ≤ S288x128.size a := fun v266 k0_hw3 => k0_hw3

def k0_off5 (v55 : BitVec 32) (k0_t1 : Fin (k0_t1_loop v55).trips) : Fin 3 → Nat :=
  let c0_i32 : BitVec 32 := 0#32
  let c1_i32_35 : BitVec 32 := 1#32
  let arg19 : BitVec 32 := Scf.iv c0_i32 c1_i32_35 k0_t1
  let v299 : Index := Scalar.indexCast arg19
  let c0_185 : Index := 0#32
  let c0_186 : Index := 0#32
  ![v299.toNat, 0, 0]
def k0_off6 (v55 : BitVec 32) (k0_t1 : Fin (k0_t1_loop v55).trips) : Fin 3 → Nat :=
  let c0_i32 : BitVec 32 := 0#32
  let c1_i32_35 : BitVec 32 := 1#32
  let arg19 : BitVec 32 := Scf.iv c0_i32 c1_i32_35 k0_t1
  let v307 : Index := Scalar.indexCast arg19
  let c0_189 : Index := 0#32
  let c0_190 : Index := 0#32
  ![v307.toNat, 0, 0]
@[reducible] def k0_t2_loop (v55 : BitVec 32) : Scf.Loop 32 :=
  let c0_i32 : BitVec 32 := 0#32
  let v56 : BitVec 32 := Scalar.subi v55 c0_i32
  let c1_i32 : BitVec 32 := 1#32
  let v58 : BitVec 32 := Scalar.divsi v56 c1_i32
  let v59 : BitVec 32 := Scalar.muli v58 c1_i32
  let v60 : BitVec 32 := Scalar.addi c0_i32 v59
  let v57 : BitVec 32 := Scalar.addi c0_i32 v56
  let c1_i32_36 : BitVec 32 := 1#32
  ⟨v60, v57, c1_i32_36⟩
def k0_off7 (v55 : BitVec 32) (k0_t2 : Fin (k0_t2_loop v55).trips) : Fin 1 → Nat :=
  let c0_i32 : BitVec 32 := 0#32
  let v56 : BitVec 32 := Scalar.subi v55 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_36 : BitVec 32 := 1#32
  let arg19 : BitVec 32 := Scf.iv v60 c1_i32_36 k0_t2
  let v263 : Index := Scalar.indexCast arg19
  ![v263.toNat]
def k0_off8 (v264 : BitVec 32) : Fin 2 → Nat :=
  let c4000_i32 : BitVec 32 := 4000#32
  let v267 : BitVec 32 := Scalar.muli v264 c4000_i32
  let v268 : Index := Scalar.indexCast v267
  let c0_176 : Index := 0#32
  ![v268.toNat, 0]

def k0_off9 (v264 : BitVec 32) : Fin 2 → Nat :=
  let v270 : Index := Scalar.indexCast v264
  let c0_177 : Index := 0#32
  ![v270.toNat, 0]

def k0_chk4 (v264 : BitVec 32) : Prop :=
  (∀ a, (k0_off8 v264) a + S4000x128.size a ≤ S100000x128.size a) ∧
  (∀ a, (k0_off9 v264) a + S1x4000.size a ≤ S25x4000.size a)
theorem k0_off8_inb : ∀ (v264 : BitVec 32) (k0_hw4 : k0_chk4 v264), ∀ a, (k0_off8 v264) a + S4000x128.size a ≤ S100000x128.size a := fun v264 k0_hw4 => k0_hw4.1
theorem k0_off9_inb : ∀ (v264 : BitVec 32) (k0_hw4 : k0_chk4 v264), ∀ a, (k0_off9 v264) a + S1x4000.size a ≤ S25x4000.size a := fun v264 k0_hw4 => k0_hw4.2

def k0_off10 (v266 : BitVec 32) : Fin 2 → Nat :=
  let v281 : Index := Scalar.indexCast v266
  let c0_178 : Index := 0#32
  ![v281.toNat, 0]

def k0_chk5 (v266 : BitVec 32) : Prop :=
  (∀ a, (k0_off10 v266) a + S32x128.size a ≤ S288x128.size a)
theorem k0_off10_inb : ∀ (v266 : BitVec 32) (k0_hw5 : k0_chk5 v266), ∀ a, (k0_off10 v266) a + S32x128.size a ≤ S288x128.size a := fun v266 k0_hw5 => k0_hw5

def k0_off11 (v55 : BitVec 32) (k0_t2 : Fin (k0_t2_loop v55).trips) : Fin 3 → Nat :=
  let c0_i32 : BitVec 32 := 0#32
  let v56 : BitVec 32 := Scalar.subi v55 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_36 : BitVec 32 := 1#32
  let arg19 : BitVec 32 := Scf.iv v60 c1_i32_36 k0_t2
  let v299 : Index := Scalar.indexCast arg19
  let c0_185 : Index := 0#32
  let c0_186 : Index := 0#32
  ![v299.toNat, 0, 0]
def k0_off12 (v55 : BitVec 32) (k0_t2 : Fin (k0_t2_loop v55).trips) : Fin 3 → Nat :=
  let c0_i32 : BitVec 32 := 0#32
  let v56 : BitVec 32 := Scalar.subi v55 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_36 : BitVec 32 := 1#32
  let arg19 : BitVec 32 := Scf.iv v60 c1_i32_36 k0_t2
  let v307 : Index := Scalar.indexCast arg19
  let c0_189 : Index := 0#32
  let c0_190 : Index := 0#32
  ![v307.toNat, 0, 0]

def k0_chk1 (v55 : BitVec 32) : Prop :=
  ((k0_t1_loop v55).OK) ∧
  (∀ k0_t1 : Fin (k0_t1_loop v55).trips, ∀ a, (k0_off1 v55 k0_t1) a + S1.size a ≤ S200.size a) ∧
  (∀ k0_t1 : Fin (k0_t1_loop v55).trips, ∀ a, (k0_off5 v55 k0_t1) a + S1x32x1.size a ≤ S200x32x1.size a) ∧
  (∀ k0_t1 : Fin (k0_t1_loop v55).trips, ∀ a, (k0_off6 v55 k0_t1) a + S1x32x128.size a ≤ S200x32x128.size a) ∧
  ((k0_t2_loop v55).OK) ∧
  (∀ k0_t2 : Fin (k0_t2_loop v55).trips, ∀ a, (k0_off7 v55 k0_t2) a + S1.size a ≤ S200.size a) ∧
  (∀ k0_t2 : Fin (k0_t2_loop v55).trips, ∀ a, (k0_off11 v55 k0_t2) a + S1x32x1.size a ≤ S200x32x1.size a) ∧
  (∀ k0_t2 : Fin (k0_t2_loop v55).trips, ∀ a, (k0_off12 v55 k0_t2) a + S1x32x128.size a ≤ S200x32x128.size a)
theorem k0_t1_ok : ∀ (v55 : BitVec 32) (k0_hw1 : k0_chk1 v55), (k0_t1_loop v55).OK := fun v55 k0_hw1 => k0_hw1.1
theorem k0_off1_inb : ∀ (v55 : BitVec 32) (k0_hw1 : k0_chk1 v55) (k0_t1 : Fin (k0_t1_loop v55).trips), ∀ a, (k0_off1 v55 k0_t1) a + S1.size a ≤ S200.size a := fun v55 k0_hw1 k0_t1 => k0_hw1.2.1 k0_t1
theorem k0_off5_inb : ∀ (v55 : BitVec 32) (k0_hw1 : k0_chk1 v55) (k0_t1 : Fin (k0_t1_loop v55).trips), ∀ a, (k0_off5 v55 k0_t1) a + S1x32x1.size a ≤ S200x32x1.size a := fun v55 k0_hw1 k0_t1 => k0_hw1.2.2.1 k0_t1
theorem k0_off6_inb : ∀ (v55 : BitVec 32) (k0_hw1 : k0_chk1 v55) (k0_t1 : Fin (k0_t1_loop v55).trips), ∀ a, (k0_off6 v55 k0_t1) a + S1x32x128.size a ≤ S200x32x128.size a := fun v55 k0_hw1 k0_t1 => k0_hw1.2.2.2.1 k0_t1
theorem k0_t2_ok : ∀ (v55 : BitVec 32) (k0_hw1 : k0_chk1 v55), (k0_t2_loop v55).OK := fun v55 k0_hw1 => k0_hw1.2.2.2.2.1
theorem k0_off7_inb : ∀ (v55 : BitVec 32) (k0_hw1 : k0_chk1 v55) (k0_t2 : Fin (k0_t2_loop v55).trips), ∀ a, (k0_off7 v55 k0_t2) a + S1.size a ≤ S200.size a := fun v55 k0_hw1 k0_t2 => k0_hw1.2.2.2.2.2.1 k0_t2
theorem k0_off11_inb : ∀ (v55 : BitVec 32) (k0_hw1 : k0_chk1 v55) (k0_t2 : Fin (k0_t2_loop v55).trips), ∀ a, (k0_off11 v55 k0_t2) a + S1x32x1.size a ≤ S200x32x1.size a := fun v55 k0_hw1 k0_t2 => k0_hw1.2.2.2.2.2.2.1 k0_t2
theorem k0_off12_inb : ∀ (v55 : BitVec 32) (k0_hw1 : k0_chk1 v55) (k0_t2 : Fin (k0_t2_loop v55).trips), ∀ a, (k0_off12 v55 k0_t2) a + S1x32x128.size a ≤ S200x32x128.size a := fun v55 k0_hw1 k0_t2 => k0_hw1.2.2.2.2.2.2.2 k0_t2

@[reducible] def k0_t3_loop (v63 : BitVec 32) : Scf.Loop 32 :=
  let c0_i32_38 : BitVec 32 := 0#32
  let v64 : BitVec 32 := Scalar.subi v63 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let c1_i32_41 : BitVec 32 := 1#32
  ⟨c0_i32_38, v68, c1_i32_41⟩

def k0_off13 (v63 : BitVec 32) (k0_t3 : Fin (k0_t3_loop v63).trips) : Fin 1 → Nat :=
  let c0_i32_38 : BitVec 32 := 0#32
  let c1_i32_41 : BitVec 32 := 1#32
  let arg19 : BitVec 32 := Scf.iv c0_i32_38 c1_i32_41 k0_t3
  let v263 : Index := Scalar.indexCast arg19
  ![v263.toNat]
def k0_off14 (v264 : BitVec 32) : Fin 2 → Nat :=
  let v265 : Index := Scalar.indexCast v264
  let c0_176 : Index := 0#32
  ![v265.toNat, 0]

def k0_chk7 (v264 : BitVec 32) : Prop :=
  (∀ a, (k0_off14 v264) a + S32x1.size a ≤ S288x128.size a)
theorem k0_off14_inb : ∀ (v264 : BitVec 32) (k0_hw7 : k0_chk7 v264), ∀ a, (k0_off14 v264) a + S32x1.size a ≤ S288x128.size a := fun v264 k0_hw7 => k0_hw7

def k0_off15 (v63 : BitVec 32) (k0_t3 : Fin (k0_t3_loop v63).trips) : Fin 3 → Nat :=
  let c0_i32_38 : BitVec 32 := 0#32
  let c1_i32_41 : BitVec 32 := 1#32
  let arg19 : BitVec 32 := Scf.iv c0_i32_38 c1_i32_41 k0_t3
  let v267 : Index := Scalar.indexCast arg19
  let c0_177 : Index := 0#32
  let c0_178 : Index := 0#32
  ![v267.toNat, 0, 0]
@[reducible] def k0_t4_loop (v63 : BitVec 32) : Scf.Loop 32 :=
  let c0_i32_38 : BitVec 32 := 0#32
  let v64 : BitVec 32 := Scalar.subi v63 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let v65 : BitVec 32 := Scalar.addi c0_i32_38 v64
  let c1_i32_42 : BitVec 32 := 1#32
  ⟨v68, v65, c1_i32_42⟩
def k0_off16 (v63 : BitVec 32) (k0_t4 : Fin (k0_t4_loop v63).trips) : Fin 1 → Nat :=
  let c0_i32_38 : BitVec 32 := 0#32
  let v64 : BitVec 32 := Scalar.subi v63 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let c1_i32_42 : BitVec 32 := 1#32
  let arg19 : BitVec 32 := Scf.iv v68 c1_i32_42 k0_t4
  let v263 : Index := Scalar.indexCast arg19
  ![v263.toNat]
def k0_off17 (v264 : BitVec 32) : Fin 2 → Nat :=
  let v265 : Index := Scalar.indexCast v264
  let c0_176 : Index := 0#32
  ![v265.toNat, 0]

def k0_chk8 (v264 : BitVec 32) : Prop :=
  (∀ a, (k0_off17 v264) a + S32x1.size a ≤ S288x128.size a)
theorem k0_off17_inb : ∀ (v264 : BitVec 32) (k0_hw8 : k0_chk8 v264), ∀ a, (k0_off17 v264) a + S32x1.size a ≤ S288x128.size a := fun v264 k0_hw8 => k0_hw8

def k0_off18 (v63 : BitVec 32) (k0_t4 : Fin (k0_t4_loop v63).trips) : Fin 3 → Nat :=
  let c0_i32_38 : BitVec 32 := 0#32
  let v64 : BitVec 32 := Scalar.subi v63 c0_i32_38
  let c1_i32_40 : BitVec 32 := 1#32
  let v66 : BitVec 32 := Scalar.divsi v64 c1_i32_40
  let v67 : BitVec 32 := Scalar.muli v66 c1_i32_40
  let v68 : BitVec 32 := Scalar.addi c0_i32_38 v67
  let c1_i32_42 : BitVec 32 := 1#32
  let arg19 : BitVec 32 := Scf.iv v68 c1_i32_42 k0_t4
  let v267 : Index := Scalar.indexCast arg19
  let c0_177 : Index := 0#32
  let c0_178 : Index := 0#32
  ![v267.toNat, 0, 0]

def k0_chk6 (v63 : BitVec 32) : Prop :=
  ((k0_t3_loop v63).OK) ∧
  (∀ k0_t3 : Fin (k0_t3_loop v63).trips, ∀ a, (k0_off13 v63 k0_t3) a + S1.size a ≤ S200.size a) ∧
  (∀ k0_t3 : Fin (k0_t3_loop v63).trips, ∀ a, (k0_off15 v63 k0_t3) a + S1x32x1.size a ≤ S200x32x1.size a) ∧
  ((k0_t4_loop v63).OK) ∧
  (∀ k0_t4 : Fin (k0_t4_loop v63).trips, ∀ a, (k0_off16 v63 k0_t4) a + S1.size a ≤ S200.size a) ∧
  (∀ k0_t4 : Fin (k0_t4_loop v63).trips, ∀ a, (k0_off18 v63 k0_t4) a + S1x32x1.size a ≤ S200x32x1.size a)
theorem k0_t3_ok : ∀ (v63 : BitVec 32) (k0_hw6 : k0_chk6 v63), (k0_t3_loop v63).OK := fun v63 k0_hw6 => k0_hw6.1
theorem k0_off13_inb : ∀ (v63 : BitVec 32) (k0_hw6 : k0_chk6 v63) (k0_t3 : Fin (k0_t3_loop v63).trips), ∀ a, (k0_off13 v63 k0_t3) a + S1.size a ≤ S200.size a := fun v63 k0_hw6 k0_t3 => k0_hw6.2.1 k0_t3
theorem k0_off15_inb : ∀ (v63 : BitVec 32) (k0_hw6 : k0_chk6 v63) (k0_t3 : Fin (k0_t3_loop v63).trips), ∀ a, (k0_off15 v63 k0_t3) a + S1x32x1.size a ≤ S200x32x1.size a := fun v63 k0_hw6 k0_t3 => k0_hw6.2.2.1 k0_t3
theorem k0_t4_ok : ∀ (v63 : BitVec 32) (k0_hw6 : k0_chk6 v63), (k0_t4_loop v63).OK := fun v63 k0_hw6 => k0_hw6.2.2.2.1
theorem k0_off16_inb : ∀ (v63 : BitVec 32) (k0_hw6 : k0_chk6 v63) (k0_t4 : Fin (k0_t4_loop v63).trips), ∀ a, (k0_off16 v63 k0_t4) a + S1.size a ≤ S200.size a := fun v63 k0_hw6 k0_t4 => k0_hw6.2.2.2.2.1 k0_t4
theorem k0_off18_inb : ∀ (v63 : BitVec 32) (k0_hw6 : k0_chk6 v63) (k0_t4 : Fin (k0_t4_loop v63).trips), ∀ a, (k0_off18 v63 k0_t4) a + S1x32x1.size a ≤ S200x32x1.size a := fun v63 k0_hw6 k0_t4 => k0_hw6.2.2.2.2.2 k0_t4

@[reducible] def k0_t5_loop (v75 : BitVec 32) : Scf.Loop 32 :=
  let c0_i32_47 : BitVec 32 := 0#32
  let v76 : BitVec 32 := Scalar.subi v75 c0_i32_47
  let c1_i32_49 : BitVec 32 := 1#32
  let v78 : BitVec 32 := Scalar.divsi v76 c1_i32_49
  let v79 : BitVec 32 := Scalar.muli v78 c1_i32_49
  let v80 : BitVec 32 := Scalar.addi c0_i32_47 v79
  let c1_i32_50 : BitVec 32 := 1#32
  ⟨c0_i32_47, v80, c1_i32_50⟩

def k0_off19 (v75 : BitVec 32) (k0_t5 : Fin (k0_t5_loop v75).trips) : Fin 1 → Nat :=
  let c0_i32_47 : BitVec 32 := 0#32
  let c1_i32_50 : BitVec 32 := 1#32
  let arg19 : BitVec 32 := Scf.iv c0_i32_47 c1_i32_50 k0_t5
  let v263 : Index := Scalar.indexCast arg19
  ![v263.toNat]
def k0_off20 (v75 : BitVec 32) (k0_t5 : Fin (k0_t5_loop v75).trips) : Fin 3 → Nat :=
  let c0_i32_47 : BitVec 32 := 0#32
  let c1_i32_50 : BitVec 32 := 1#32
  let arg19 : BitVec 32 := Scf.iv c0_i32_47 c1_i32_50 k0_t5
  let v265 : Index := Scalar.indexCast arg19
  let c0_176 : Index := 0#32
  let c0_177 : Index := 0#32
  ![v265.toNat, 0, 0]
def k0_off21 (v264 : BitVec 32) : Fin 2 → Nat :=
  let v268 : Index := Scalar.indexCast v264
  let c0_178 : Index := 0#32
  ![v268.toNat, 0]

def k0_off22 (v75 : BitVec 32) (k0_t5 : Fin (k0_t5_loop v75).trips) : Fin 3 → Nat :=
  let c0_i32_47 : BitVec 32 := 0#32
  let c1_i32_50 : BitVec 32 := 1#32
  let arg19 : BitVec 32 := Scf.iv c0_i32_47 c1_i32_50 k0_t5
  let v274 : Index := Scalar.indexCast arg19
  let c0_180 : Index := 0#32
  let c0_181 : Index := 0#32
  ![v274.toNat, 0, 0]
def k0_off23 (v264 : BitVec 32) : Fin 2 → Nat :=
  let v283 : Index := Scalar.indexCast v264
  let c0_183 : Index := 0#32
  ![v283.toNat, 0]

def k0_chk10 (v264 : BitVec 32) : Prop :=
  (∀ a, (k0_off21 v264) a + S32x1.size a ≤ S288x128.size a) ∧
  (∀ a, (k0_off23 v264) a + S32x128.size a ≤ S288x128.size a)
theorem k0_off21_inb : ∀ (v264 : BitVec 32) (k0_hw10 : k0_chk10 v264), ∀ a, (k0_off21 v264) a + S32x1.size a ≤ S288x128.size a := fun v264 k0_hw10 => k0_hw10.1
theorem k0_off23_inb : ∀ (v264 : BitVec 32) (k0_hw10 : k0_chk10 v264), ∀ a, (k0_off23 v264) a + S32x128.size a ≤ S288x128.size a := fun v264 k0_hw10 => k0_hw10.2

def k0_off24 (v75 : BitVec 32) (k0_t5 : Fin (k0_t5_loop v75).trips) : Fin 3 → Nat :=
  let c0_i32_47 : BitVec 32 := 0#32
  let c1_i32_50 : BitVec 32 := 1#32
  let arg19 : BitVec 32 := Scf.iv c0_i32_47 c1_i32_50 k0_t5
  let v285 : Index := Scalar.indexCast arg19
  let c0_184 : Index := 0#32
  let c0_185 : Index := 0#32
  ![v285.toNat, 0, 0]
@[reducible] def k0_t6_loop (v75 : BitVec 32) : Scf.Loop 32 :=
  let c0_i32_47 : BitVec 32 := 0#32
  let v76 : BitVec 32 := Scalar.subi v75 c0_i32_47
  let c1_i32_49 : BitVec 32 := 1#32
  let v78 : BitVec 32 := Scalar.divsi v76 c1_i32_49
  let v79 : BitVec 32 := Scalar.muli v78 c1_i32_49
  let v80 : BitVec 32 := Scalar.addi c0_i32_47 v79
  let v77 : BitVec 32 := Scalar.addi c0_i32_47 v76
  let c1_i32_51 : BitVec 32 := 1#32
  ⟨v80, v77, c1_i32_51⟩
def k0_off25 (v75 : BitVec 32) (k0_t6 : Fin (k0_t6_loop v75).trips) : Fin 1 → Nat :=
  let c0_i32_47 : BitVec 32 := 0#32
  let v76 : BitVec 32 := Scalar.subi v75 c0_i32_47
  let c1_i32_49 : BitVec 32 := 1#32
  let v78 : BitVec 32 := Scalar.divsi v76 c1_i32_49
  let v79 : BitVec 32 := Scalar.muli v78 c1_i32_49
  let v80 : BitVec 32 := Scalar.addi c0_i32_47 v79
  let c1_i32_51 : BitVec 32 := 1#32
  let arg19 : BitVec 32 := Scf.iv v80 c1_i32_51 k0_t6
  let v263 : Index := Scalar.indexCast arg19
  ![v263.toNat]
def k0_off26 (v75 : BitVec 32) (k0_t6 : Fin (k0_t6_loop v75).trips) : Fin 3 → Nat :=
  let c0_i32_47 : BitVec 32 := 0#32
  let v76 : BitVec 32 := Scalar.subi v75 c0_i32_47
  let c1_i32_49 : BitVec 32 := 1#32
  let v78 : BitVec 32 := Scalar.divsi v76 c1_i32_49
  let v79 : BitVec 32 := Scalar.muli v78 c1_i32_49
  let v80 : BitVec 32 := Scalar.addi c0_i32_47 v79
  let c1_i32_51 : BitVec 32 := 1#32
  let arg19 : BitVec 32 := Scf.iv v80 c1_i32_51 k0_t6
  let v265 : Index := Scalar.indexCast arg19
  let c0_176 : Index := 0#32
  let c0_177 : Index := 0#32
  ![v265.toNat, 0, 0]
def k0_off27 (v264 : BitVec 32) : Fin 2 → Nat :=
  let v268 : Index := Scalar.indexCast v264
  let c0_178 : Index := 0#32
  ![v268.toNat, 0]

def k0_off28 (v75 : BitVec 32) (k0_t6 : Fin (k0_t6_loop v75).trips) : Fin 3 → Nat :=
  let c0_i32_47 : BitVec 32 := 0#32
  let v76 : BitVec 32 := Scalar.subi v75 c0_i32_47
  let c1_i32_49 : BitVec 32 := 1#32
  let v78 : BitVec 32 := Scalar.divsi v76 c1_i32_49
  let v79 : BitVec 32 := Scalar.muli v78 c1_i32_49
  let v80 : BitVec 32 := Scalar.addi c0_i32_47 v79
  let c1_i32_51 : BitVec 32 := 1#32
  let arg19 : BitVec 32 := Scf.iv v80 c1_i32_51 k0_t6
  let v274 : Index := Scalar.indexCast arg19
  let c0_180 : Index := 0#32
  let c0_181 : Index := 0#32
  ![v274.toNat, 0, 0]
def k0_off29 (v264 : BitVec 32) : Fin 2 → Nat :=
  let v283 : Index := Scalar.indexCast v264
  let c0_183 : Index := 0#32
  ![v283.toNat, 0]

def k0_chk11 (v264 : BitVec 32) : Prop :=
  (∀ a, (k0_off27 v264) a + S32x1.size a ≤ S288x128.size a) ∧
  (∀ a, (k0_off29 v264) a + S32x128.size a ≤ S288x128.size a)
theorem k0_off27_inb : ∀ (v264 : BitVec 32) (k0_hw11 : k0_chk11 v264), ∀ a, (k0_off27 v264) a + S32x1.size a ≤ S288x128.size a := fun v264 k0_hw11 => k0_hw11.1
theorem k0_off29_inb : ∀ (v264 : BitVec 32) (k0_hw11 : k0_chk11 v264), ∀ a, (k0_off29 v264) a + S32x128.size a ≤ S288x128.size a := fun v264 k0_hw11 => k0_hw11.2

def k0_off30 (v75 : BitVec 32) (k0_t6 : Fin (k0_t6_loop v75).trips) : Fin 3 → Nat :=
  let c0_i32_47 : BitVec 32 := 0#32
  let v76 : BitVec 32 := Scalar.subi v75 c0_i32_47
  let c1_i32_49 : BitVec 32 := 1#32
  let v78 : BitVec 32 := Scalar.divsi v76 c1_i32_49
  let v79 : BitVec 32 := Scalar.muli v78 c1_i32_49
  let v80 : BitVec 32 := Scalar.addi c0_i32_47 v79
  let c1_i32_51 : BitVec 32 := 1#32
  let arg19 : BitVec 32 := Scf.iv v80 c1_i32_51 k0_t6
  let v285 : Index := Scalar.indexCast arg19
  let c0_184 : Index := 0#32
  let c0_185 : Index := 0#32
  ![v285.toNat, 0, 0]

def k0_chk9 (v75 : BitVec 32) : Prop :=
  ((k0_t5_loop v75).OK) ∧
  (∀ k0_t5 : Fin (k0_t5_loop v75).trips, ∀ a, (k0_off19 v75 k0_t5) a + S1.size a ≤ S200.size a) ∧
  (∀ k0_t5 : Fin (k0_t5_loop v75).trips, ∀ a, (k0_off20 v75 k0_t5) a + S1x32x1.size a ≤ S200x32x1.size a) ∧
  (∀ k0_t5 : Fin (k0_t5_loop v75).trips, ∀ a, (k0_off22 v75 k0_t5) a + S1x32x1.size a ≤ S200x32x1.size a) ∧
  (∀ k0_t5 : Fin (k0_t5_loop v75).trips, ∀ a, (k0_off24 v75 k0_t5) a + S1x32x128.size a ≤ S200x32x128.size a) ∧
  ((k0_t6_loop v75).OK) ∧
  (∀ k0_t6 : Fin (k0_t6_loop v75).trips, ∀ a, (k0_off25 v75 k0_t6) a + S1.size a ≤ S200.size a) ∧
  (∀ k0_t6 : Fin (k0_t6_loop v75).trips, ∀ a, (k0_off26 v75 k0_t6) a + S1x32x1.size a ≤ S200x32x1.size a) ∧
  (∀ k0_t6 : Fin (k0_t6_loop v75).trips, ∀ a, (k0_off28 v75 k0_t6) a + S1x32x1.size a ≤ S200x32x1.size a) ∧
  (∀ k0_t6 : Fin (k0_t6_loop v75).trips, ∀ a, (k0_off30 v75 k0_t6) a + S1x32x128.size a ≤ S200x32x128.size a)
theorem k0_t5_ok : ∀ (v75 : BitVec 32) (k0_hw9 : k0_chk9 v75), (k0_t5_loop v75).OK := fun v75 k0_hw9 => k0_hw9.1
theorem k0_off19_inb : ∀ (v75 : BitVec 32) (k0_hw9 : k0_chk9 v75) (k0_t5 : Fin (k0_t5_loop v75).trips), ∀ a, (k0_off19 v75 k0_t5) a + S1.size a ≤ S200.size a := fun v75 k0_hw9 k0_t5 => k0_hw9.2.1 k0_t5
theorem k0_off20_inb : ∀ (v75 : BitVec 32) (k0_hw9 : k0_chk9 v75) (k0_t5 : Fin (k0_t5_loop v75).trips), ∀ a, (k0_off20 v75 k0_t5) a + S1x32x1.size a ≤ S200x32x1.size a := fun v75 k0_hw9 k0_t5 => k0_hw9.2.2.1 k0_t5
theorem k0_off22_inb : ∀ (v75 : BitVec 32) (k0_hw9 : k0_chk9 v75) (k0_t5 : Fin (k0_t5_loop v75).trips), ∀ a, (k0_off22 v75 k0_t5) a + S1x32x1.size a ≤ S200x32x1.size a := fun v75 k0_hw9 k0_t5 => k0_hw9.2.2.2.1 k0_t5
theorem k0_off24_inb : ∀ (v75 : BitVec 32) (k0_hw9 : k0_chk9 v75) (k0_t5 : Fin (k0_t5_loop v75).trips), ∀ a, (k0_off24 v75 k0_t5) a + S1x32x128.size a ≤ S200x32x128.size a := fun v75 k0_hw9 k0_t5 => k0_hw9.2.2.2.2.1 k0_t5
theorem k0_t6_ok : ∀ (v75 : BitVec 32) (k0_hw9 : k0_chk9 v75), (k0_t6_loop v75).OK := fun v75 k0_hw9 => k0_hw9.2.2.2.2.2.1
theorem k0_off25_inb : ∀ (v75 : BitVec 32) (k0_hw9 : k0_chk9 v75) (k0_t6 : Fin (k0_t6_loop v75).trips), ∀ a, (k0_off25 v75 k0_t6) a + S1.size a ≤ S200.size a := fun v75 k0_hw9 k0_t6 => k0_hw9.2.2.2.2.2.2.1 k0_t6
theorem k0_off26_inb : ∀ (v75 : BitVec 32) (k0_hw9 : k0_chk9 v75) (k0_t6 : Fin (k0_t6_loop v75).trips), ∀ a, (k0_off26 v75 k0_t6) a + S1x32x1.size a ≤ S200x32x1.size a := fun v75 k0_hw9 k0_t6 => k0_hw9.2.2.2.2.2.2.2.1 k0_t6
theorem k0_off28_inb : ∀ (v75 : BitVec 32) (k0_hw9 : k0_chk9 v75) (k0_t6 : Fin (k0_t6_loop v75).trips), ∀ a, (k0_off28 v75 k0_t6) a + S1x32x1.size a ≤ S200x32x1.size a := fun v75 k0_hw9 k0_t6 => k0_hw9.2.2.2.2.2.2.2.2.1 k0_t6
theorem k0_off30_inb : ∀ (v75 : BitVec 32) (k0_hw9 : k0_chk9 v75) (k0_t6 : Fin (k0_t6_loop v75).trips), ∀ a, (k0_off30 v75 k0_t6) a + S1x32x128.size a ≤ S200x32x128.size a := fun v75 k0_hw9 k0_t6 => k0_hw9.2.2.2.2.2.2.2.2.2 k0_t6

@[reducible] def k0_t7_loop (v138 : BitVec 32) : Scf.Loop 32 :=
  let c0_i32_87 : BitVec 32 := 0#32
  let v139 : BitVec 32 := Scalar.subi v138 c0_i32_87
  let c1_i32_89 : BitVec 32 := 1#32
  let v141 : BitVec 32 := Scalar.divsi v139 c1_i32_89
  let v142 : BitVec 32 := Scalar.muli v141 c1_i32_89
  let v143 : BitVec 32 := Scalar.addi c0_i32_87 v142
  let c1_i32_90 : BitVec 32 := 1#32
  ⟨c0_i32_87, v143, c1_i32_90⟩

def k0_off31 (v138 : BitVec 32) (k0_t7 : Fin (k0_t7_loop v138).trips) : Fin 1 → Nat :=
  let c0_i32_87 : BitVec 32 := 0#32
  let c1_i32_90 : BitVec 32 := 1#32
  let arg19 : BitVec 32 := Scf.iv c0_i32_87 c1_i32_90 k0_t7
  let v263 : Index := Scalar.indexCast arg19
  ![v263.toNat]
def k0_off32 (v264 : BitVec 32) : Fin 2 → Nat :=
  let c4000_i32 : BitVec 32 := 4000#32
  let v267 : BitVec 32 := Scalar.muli v264 c4000_i32
  let v268 : Index := Scalar.indexCast v267
  let c0_176 : Index := 0#32
  ![v268.toNat, 0]

def k0_off33 (v264 : BitVec 32) : Fin 2 → Nat :=
  let v270 : Index := Scalar.indexCast v264
  let c0_177 : Index := 0#32
  ![v270.toNat, 0]

def k0_chk13 (v264 : BitVec 32) : Prop :=
  (∀ a, (k0_off32 v264) a + S4000x128.size a ≤ S100000x128.size a) ∧
  (∀ a, (k0_off33 v264) a + S1x4000.size a ≤ S25x4000.size a)
theorem k0_off32_inb : ∀ (v264 : BitVec 32) (k0_hw13 : k0_chk13 v264), ∀ a, (k0_off32 v264) a + S4000x128.size a ≤ S100000x128.size a := fun v264 k0_hw13 => k0_hw13.1
theorem k0_off33_inb : ∀ (v264 : BitVec 32) (k0_hw13 : k0_chk13 v264), ∀ a, (k0_off33 v264) a + S1x4000.size a ≤ S25x4000.size a := fun v264 k0_hw13 => k0_hw13.2

def k0_off34 (v266 : BitVec 32) : Fin 2 → Nat :=
  let v281 : Index := Scalar.indexCast v266
  let c0_178 : Index := 0#32
  ![v281.toNat, 0]

def k0_chk14 (v266 : BitVec 32) : Prop :=
  (∀ a, (k0_off34 v266) a + S32x128.size a ≤ S288x128.size a)
theorem k0_off34_inb : ∀ (v266 : BitVec 32) (k0_hw14 : k0_chk14 v266), ∀ a, (k0_off34 v266) a + S32x128.size a ≤ S288x128.size a := fun v266 k0_hw14 => k0_hw14

def k0_off35 (v138 : BitVec 32) (k0_t7 : Fin (k0_t7_loop v138).trips) : Fin 3 → Nat :=
  let c0_i32_87 : BitVec 32 := 0#32
  let c1_i32_90 : BitVec 32 := 1#32
  let arg19 : BitVec 32 := Scf.iv c0_i32_87 c1_i32_90 k0_t7
  let v299 : Index := Scalar.indexCast arg19
  let c0_185 : Index := 0#32
  let c0_186 : Index := 0#32
  ![v299.toNat, 0, 0]
def k0_off36 (v138 : BitVec 32) (k0_t7 : Fin (k0_t7_loop v138).trips) : Fin 3 → Nat :=
  let c0_i32_87 : BitVec 32 := 0#32
  let c1_i32_90 : BitVec 32 := 1#32
  let arg19 : BitVec 32 := Scf.iv c0_i32_87 c1_i32_90 k0_t7
  let v307 : Index := Scalar.indexCast arg19
  let c0_189 : Index := 0#32
  let c0_190 : Index := 0#32
  ![v307.toNat, 0, 0]
@[reducible] def k0_t8_loop (v138 : BitVec 32) : Scf.Loop 32 :=
  let c0_i32_87 : BitVec 32 := 0#32
  let v139 : BitVec 32 := Scalar.subi v138 c0_i32_87
  let c1_i32_89 : BitVec 32 := 1#32
  let v141 : BitVec 32 := Scalar.divsi v139 c1_i32_89
  let v142 : BitVec 32 := Scalar.muli v141 c1_i32_89
  let v143 : BitVec 32 := Scalar.addi c0_i32_87 v142
  let v140 : BitVec 32 := Scalar.addi c0_i32_87 v139
  let c1_i32_91 : BitVec 32 := 1#32
  ⟨v143, v140, c1_i32_91⟩
def k0_off37 (v138 : BitVec 32) (k0_t8 : Fin (k0_t8_loop v138).trips) : Fin 1 → Nat :=
  let c0_i32_87 : BitVec 32 := 0#32
  let v139 : BitVec 32 := Scalar.subi v138 c0_i32_87
  let c1_i32_89 : BitVec 32 := 1#32
  let v141 : BitVec 32 := Scalar.divsi v139 c1_i32_89
  let v142 : BitVec 32 := Scalar.muli v141 c1_i32_89
  let v143 : BitVec 32 := Scalar.addi c0_i32_87 v142
  let c1_i32_91 : BitVec 32 := 1#32
  let arg19 : BitVec 32 := Scf.iv v143 c1_i32_91 k0_t8
  let v263 : Index := Scalar.indexCast arg19
  ![v263.toNat]
def k0_off38 (v264 : BitVec 32) : Fin 2 → Nat :=
  let c4000_i32 : BitVec 32 := 4000#32
  let v267 : BitVec 32 := Scalar.muli v264 c4000_i32
  let v268 : Index := Scalar.indexCast v267
  let c0_176 : Index := 0#32
  ![v268.toNat, 0]

def k0_off39 (v264 : BitVec 32) : Fin 2 → Nat :=
  let v270 : Index := Scalar.indexCast v264
  let c0_177 : Index := 0#32
  ![v270.toNat, 0]

def k0_chk15 (v264 : BitVec 32) : Prop :=
  (∀ a, (k0_off38 v264) a + S4000x128.size a ≤ S100000x128.size a) ∧
  (∀ a, (k0_off39 v264) a + S1x4000.size a ≤ S25x4000.size a)
theorem k0_off38_inb : ∀ (v264 : BitVec 32) (k0_hw15 : k0_chk15 v264), ∀ a, (k0_off38 v264) a + S4000x128.size a ≤ S100000x128.size a := fun v264 k0_hw15 => k0_hw15.1
theorem k0_off39_inb : ∀ (v264 : BitVec 32) (k0_hw15 : k0_chk15 v264), ∀ a, (k0_off39 v264) a + S1x4000.size a ≤ S25x4000.size a := fun v264 k0_hw15 => k0_hw15.2

def k0_off40 (v266 : BitVec 32) : Fin 2 → Nat :=
  let v281 : Index := Scalar.indexCast v266
  let c0_178 : Index := 0#32
  ![v281.toNat, 0]

def k0_chk16 (v266 : BitVec 32) : Prop :=
  (∀ a, (k0_off40 v266) a + S32x128.size a ≤ S288x128.size a)
theorem k0_off40_inb : ∀ (v266 : BitVec 32) (k0_hw16 : k0_chk16 v266), ∀ a, (k0_off40 v266) a + S32x128.size a ≤ S288x128.size a := fun v266 k0_hw16 => k0_hw16

def k0_off41 (v138 : BitVec 32) (k0_t8 : Fin (k0_t8_loop v138).trips) : Fin 3 → Nat :=
  let c0_i32_87 : BitVec 32 := 0#32
  let v139 : BitVec 32 := Scalar.subi v138 c0_i32_87
  let c1_i32_89 : BitVec 32 := 1#32
  let v141 : BitVec 32 := Scalar.divsi v139 c1_i32_89
  let v142 : BitVec 32 := Scalar.muli v141 c1_i32_89
  let v143 : BitVec 32 := Scalar.addi c0_i32_87 v142
  let c1_i32_91 : BitVec 32 := 1#32
  let arg19 : BitVec 32 := Scf.iv v143 c1_i32_91 k0_t8
  let v299 : Index := Scalar.indexCast arg19
  let c0_185 : Index := 0#32
  let c0_186 : Index := 0#32
  ![v299.toNat, 0, 0]
def k0_off42 (v138 : BitVec 32) (k0_t8 : Fin (k0_t8_loop v138).trips) : Fin 3 → Nat :=
  let c0_i32_87 : BitVec 32 := 0#32
  let v139 : BitVec 32 := Scalar.subi v138 c0_i32_87
  let c1_i32_89 : BitVec 32 := 1#32
  let v141 : BitVec 32 := Scalar.divsi v139 c1_i32_89
  let v142 : BitVec 32 := Scalar.muli v141 c1_i32_89
  let v143 : BitVec 32 := Scalar.addi c0_i32_87 v142
  let c1_i32_91 : BitVec 32 := 1#32
  let arg19 : BitVec 32 := Scf.iv v143 c1_i32_91 k0_t8
  let v307 : Index := Scalar.indexCast arg19
  let c0_189 : Index := 0#32
  let c0_190 : Index := 0#32
  ![v307.toNat, 0, 0]

def k0_chk12 (v138 : BitVec 32) : Prop :=
  ((k0_t7_loop v138).OK) ∧
  (∀ k0_t7 : Fin (k0_t7_loop v138).trips, ∀ a, (k0_off31 v138 k0_t7) a + S1.size a ≤ S200.size a) ∧
  (∀ k0_t7 : Fin (k0_t7_loop v138).trips, ∀ a, (k0_off35 v138 k0_t7) a + S1x32x1.size a ≤ S200x32x1.size a) ∧
  (∀ k0_t7 : Fin (k0_t7_loop v138).trips, ∀ a, (k0_off36 v138 k0_t7) a + S1x32x128.size a ≤ S200x32x128.size a) ∧
  ((k0_t8_loop v138).OK) ∧
  (∀ k0_t8 : Fin (k0_t8_loop v138).trips, ∀ a, (k0_off37 v138 k0_t8) a + S1.size a ≤ S200.size a) ∧
  (∀ k0_t8 : Fin (k0_t8_loop v138).trips, ∀ a, (k0_off41 v138 k0_t8) a + S1x32x1.size a ≤ S200x32x1.size a) ∧
  (∀ k0_t8 : Fin (k0_t8_loop v138).trips, ∀ a, (k0_off42 v138 k0_t8) a + S1x32x128.size a ≤ S200x32x128.size a)
theorem k0_t7_ok : ∀ (v138 : BitVec 32) (k0_hw12 : k0_chk12 v138), (k0_t7_loop v138).OK := fun v138 k0_hw12 => k0_hw12.1
theorem k0_off31_inb : ∀ (v138 : BitVec 32) (k0_hw12 : k0_chk12 v138) (k0_t7 : Fin (k0_t7_loop v138).trips), ∀ a, (k0_off31 v138 k0_t7) a + S1.size a ≤ S200.size a := fun v138 k0_hw12 k0_t7 => k0_hw12.2.1 k0_t7
theorem k0_off35_inb : ∀ (v138 : BitVec 32) (k0_hw12 : k0_chk12 v138) (k0_t7 : Fin (k0_t7_loop v138).trips), ∀ a, (k0_off35 v138 k0_t7) a + S1x32x1.size a ≤ S200x32x1.size a := fun v138 k0_hw12 k0_t7 => k0_hw12.2.2.1 k0_t7
theorem k0_off36_inb : ∀ (v138 : BitVec 32) (k0_hw12 : k0_chk12 v138) (k0_t7 : Fin (k0_t7_loop v138).trips), ∀ a, (k0_off36 v138 k0_t7) a + S1x32x128.size a ≤ S200x32x128.size a := fun v138 k0_hw12 k0_t7 => k0_hw12.2.2.2.1 k0_t7
theorem k0_t8_ok : ∀ (v138 : BitVec 32) (k0_hw12 : k0_chk12 v138), (k0_t8_loop v138).OK := fun v138 k0_hw12 => k0_hw12.2.2.2.2.1
theorem k0_off37_inb : ∀ (v138 : BitVec 32) (k0_hw12 : k0_chk12 v138) (k0_t8 : Fin (k0_t8_loop v138).trips), ∀ a, (k0_off37 v138 k0_t8) a + S1.size a ≤ S200.size a := fun v138 k0_hw12 k0_t8 => k0_hw12.2.2.2.2.2.1 k0_t8
theorem k0_off41_inb : ∀ (v138 : BitVec 32) (k0_hw12 : k0_chk12 v138) (k0_t8 : Fin (k0_t8_loop v138).trips), ∀ a, (k0_off41 v138 k0_t8) a + S1x32x1.size a ≤ S200x32x1.size a := fun v138 k0_hw12 k0_t8 => k0_hw12.2.2.2.2.2.2.1 k0_t8
theorem k0_off42_inb : ∀ (v138 : BitVec 32) (k0_hw12 : k0_chk12 v138) (k0_t8 : Fin (k0_t8_loop v138).trips), ∀ a, (k0_off42 v138 k0_t8) a + S1x32x128.size a ≤ S200x32x128.size a := fun v138 k0_hw12 k0_t8 => k0_hw12.2.2.2.2.2.2.2 k0_t8

@[reducible] def k0_t9_loop (v146 : BitVec 32) : Scf.Loop 32 :=
  let c0_i32_93 : BitVec 32 := 0#32
  let v147 : BitVec 32 := Scalar.subi v146 c0_i32_93
  let c1_i32_95 : BitVec 32 := 1#32
  let v149 : BitVec 32 := Scalar.divsi v147 c1_i32_95
  let v150 : BitVec 32 := Scalar.muli v149 c1_i32_95
  let v151 : BitVec 32 := Scalar.addi c0_i32_93 v150
  let c1_i32_96 : BitVec 32 := 1#32
  ⟨c0_i32_93, v151, c1_i32_96⟩

def k0_off43 (v146 : BitVec 32) (k0_t9 : Fin (k0_t9_loop v146).trips) : Fin 1 → Nat :=
  let c0_i32_93 : BitVec 32 := 0#32
  let c1_i32_96 : BitVec 32 := 1#32
  let arg19 : BitVec 32 := Scf.iv c0_i32_93 c1_i32_96 k0_t9
  let v263 : Index := Scalar.indexCast arg19
  ![v263.toNat]
def k0_off44 (v264 : BitVec 32) : Fin 2 → Nat :=
  let v265 : Index := Scalar.indexCast v264
  let c0_176 : Index := 0#32
  ![v265.toNat, 0]

def k0_chk18 (v264 : BitVec 32) : Prop :=
  (∀ a, (k0_off44 v264) a + S32x1.size a ≤ S288x128.size a)
theorem k0_off44_inb : ∀ (v264 : BitVec 32) (k0_hw18 : k0_chk18 v264), ∀ a, (k0_off44 v264) a + S32x1.size a ≤ S288x128.size a := fun v264 k0_hw18 => k0_hw18

def k0_off45 (v146 : BitVec 32) (k0_t9 : Fin (k0_t9_loop v146).trips) : Fin 3 → Nat :=
  let c0_i32_93 : BitVec 32 := 0#32
  let c1_i32_96 : BitVec 32 := 1#32
  let arg19 : BitVec 32 := Scf.iv c0_i32_93 c1_i32_96 k0_t9
  let v267 : Index := Scalar.indexCast arg19
  let c0_177 : Index := 0#32
  let c0_178 : Index := 0#32
  ![v267.toNat, 0, 0]
@[reducible] def k0_t10_loop (v146 : BitVec 32) : Scf.Loop 32 :=
  let c0_i32_93 : BitVec 32 := 0#32
  let v147 : BitVec 32 := Scalar.subi v146 c0_i32_93
  let c1_i32_95 : BitVec 32 := 1#32
  let v149 : BitVec 32 := Scalar.divsi v147 c1_i32_95
  let v150 : BitVec 32 := Scalar.muli v149 c1_i32_95
  let v151 : BitVec 32 := Scalar.addi c0_i32_93 v150
  let v148 : BitVec 32 := Scalar.addi c0_i32_93 v147
  let c1_i32_97 : BitVec 32 := 1#32
  ⟨v151, v148, c1_i32_97⟩
def k0_off46 (v146 : BitVec 32) (k0_t10 : Fin (k0_t10_loop v146).trips) : Fin 1 → Nat :=
  let c0_i32_93 : BitVec 32 := 0#32
  let v147 : BitVec 32 := Scalar.subi v146 c0_i32_93
  let c1_i32_95 : BitVec 32 := 1#32
  let v149 : BitVec 32 := Scalar.divsi v147 c1_i32_95
  let v150 : BitVec 32 := Scalar.muli v149 c1_i32_95
  let v151 : BitVec 32 := Scalar.addi c0_i32_93 v150
  let c1_i32_97 : BitVec 32 := 1#32
  let arg19 : BitVec 32 := Scf.iv v151 c1_i32_97 k0_t10
  let v263 : Index := Scalar.indexCast arg19
  ![v263.toNat]
def k0_off47 (v264 : BitVec 32) : Fin 2 → Nat :=
  let v265 : Index := Scalar.indexCast v264
  let c0_176 : Index := 0#32
  ![v265.toNat, 0]

def k0_chk19 (v264 : BitVec 32) : Prop :=
  (∀ a, (k0_off47 v264) a + S32x1.size a ≤ S288x128.size a)
theorem k0_off47_inb : ∀ (v264 : BitVec 32) (k0_hw19 : k0_chk19 v264), ∀ a, (k0_off47 v264) a + S32x1.size a ≤ S288x128.size a := fun v264 k0_hw19 => k0_hw19

def k0_off48 (v146 : BitVec 32) (k0_t10 : Fin (k0_t10_loop v146).trips) : Fin 3 → Nat :=
  let c0_i32_93 : BitVec 32 := 0#32
  let v147 : BitVec 32 := Scalar.subi v146 c0_i32_93
  let c1_i32_95 : BitVec 32 := 1#32
  let v149 : BitVec 32 := Scalar.divsi v147 c1_i32_95
  let v150 : BitVec 32 := Scalar.muli v149 c1_i32_95
  let v151 : BitVec 32 := Scalar.addi c0_i32_93 v150
  let c1_i32_97 : BitVec 32 := 1#32
  let arg19 : BitVec 32 := Scf.iv v151 c1_i32_97 k0_t10
  let v267 : Index := Scalar.indexCast arg19
  let c0_177 : Index := 0#32
  let c0_178 : Index := 0#32
  ![v267.toNat, 0, 0]

def k0_chk17 (v146 : BitVec 32) : Prop :=
  ((k0_t9_loop v146).OK) ∧
  (∀ k0_t9 : Fin (k0_t9_loop v146).trips, ∀ a, (k0_off43 v146 k0_t9) a + S1.size a ≤ S200.size a) ∧
  (∀ k0_t9 : Fin (k0_t9_loop v146).trips, ∀ a, (k0_off45 v146 k0_t9) a + S1x32x1.size a ≤ S200x32x1.size a) ∧
  ((k0_t10_loop v146).OK) ∧
  (∀ k0_t10 : Fin (k0_t10_loop v146).trips, ∀ a, (k0_off46 v146 k0_t10) a + S1.size a ≤ S200.size a) ∧
  (∀ k0_t10 : Fin (k0_t10_loop v146).trips, ∀ a, (k0_off48 v146 k0_t10) a + S1x32x1.size a ≤ S200x32x1.size a)
theorem k0_t9_ok : ∀ (v146 : BitVec 32) (k0_hw17 : k0_chk17 v146), (k0_t9_loop v146).OK := fun v146 k0_hw17 => k0_hw17.1
theorem k0_off43_inb : ∀ (v146 : BitVec 32) (k0_hw17 : k0_chk17 v146) (k0_t9 : Fin (k0_t9_loop v146).trips), ∀ a, (k0_off43 v146 k0_t9) a + S1.size a ≤ S200.size a := fun v146 k0_hw17 k0_t9 => k0_hw17.2.1 k0_t9
theorem k0_off45_inb : ∀ (v146 : BitVec 32) (k0_hw17 : k0_chk17 v146) (k0_t9 : Fin (k0_t9_loop v146).trips), ∀ a, (k0_off45 v146 k0_t9) a + S1x32x1.size a ≤ S200x32x1.size a := fun v146 k0_hw17 k0_t9 => k0_hw17.2.2.1 k0_t9
theorem k0_t10_ok : ∀ (v146 : BitVec 32) (k0_hw17 : k0_chk17 v146), (k0_t10_loop v146).OK := fun v146 k0_hw17 => k0_hw17.2.2.2.1
theorem k0_off46_inb : ∀ (v146 : BitVec 32) (k0_hw17 : k0_chk17 v146) (k0_t10 : Fin (k0_t10_loop v146).trips), ∀ a, (k0_off46 v146 k0_t10) a + S1.size a ≤ S200.size a := fun v146 k0_hw17 k0_t10 => k0_hw17.2.2.2.2.1 k0_t10
theorem k0_off48_inb : ∀ (v146 : BitVec 32) (k0_hw17 : k0_chk17 v146) (k0_t10 : Fin (k0_t10_loop v146).trips), ∀ a, (k0_off48 v146 k0_t10) a + S1x32x1.size a ≤ S200x32x1.size a := fun v146 k0_hw17 k0_t10 => k0_hw17.2.2.2.2.2 k0_t10

@[reducible] def k0_t11_loop (v158 : BitVec 32) : Scf.Loop 32 :=
  let c0_i32_102 : BitVec 32 := 0#32
  let v159 : BitVec 32 := Scalar.subi v158 c0_i32_102
  let c1_i32_104 : BitVec 32 := 1#32
  let v161 : BitVec 32 := Scalar.divsi v159 c1_i32_104
  let v162 : BitVec 32 := Scalar.muli v161 c1_i32_104
  let v163 : BitVec 32 := Scalar.addi c0_i32_102 v162
  let c1_i32_105 : BitVec 32 := 1#32
  ⟨c0_i32_102, v163, c1_i32_105⟩

def k0_off49 (v158 : BitVec 32) (k0_t11 : Fin (k0_t11_loop v158).trips) : Fin 1 → Nat :=
  let c0_i32_102 : BitVec 32 := 0#32
  let c1_i32_105 : BitVec 32 := 1#32
  let arg19 : BitVec 32 := Scf.iv c0_i32_102 c1_i32_105 k0_t11
  let v263 : Index := Scalar.indexCast arg19
  ![v263.toNat]
def k0_off50 (v158 : BitVec 32) (k0_t11 : Fin (k0_t11_loop v158).trips) : Fin 3 → Nat :=
  let c0_i32_102 : BitVec 32 := 0#32
  let c1_i32_105 : BitVec 32 := 1#32
  let arg19 : BitVec 32 := Scf.iv c0_i32_102 c1_i32_105 k0_t11
  let v265 : Index := Scalar.indexCast arg19
  let c0_176 : Index := 0#32
  let c0_177 : Index := 0#32
  ![v265.toNat, 0, 0]
def k0_off51 (v264 : BitVec 32) : Fin 2 → Nat :=
  let v268 : Index := Scalar.indexCast v264
  let c0_178 : Index := 0#32
  ![v268.toNat, 0]

def k0_off52 (v158 : BitVec 32) (k0_t11 : Fin (k0_t11_loop v158).trips) : Fin 3 → Nat :=
  let c0_i32_102 : BitVec 32 := 0#32
  let c1_i32_105 : BitVec 32 := 1#32
  let arg19 : BitVec 32 := Scf.iv c0_i32_102 c1_i32_105 k0_t11
  let v274 : Index := Scalar.indexCast arg19
  let c0_180 : Index := 0#32
  let c0_181 : Index := 0#32
  ![v274.toNat, 0, 0]
def k0_off53 (v264 : BitVec 32) : Fin 2 → Nat :=
  let v283 : Index := Scalar.indexCast v264
  let c0_183 : Index := 0#32
  ![v283.toNat, 0]

def k0_chk21 (v264 : BitVec 32) : Prop :=
  (∀ a, (k0_off51 v264) a + S32x1.size a ≤ S288x128.size a) ∧
  (∀ a, (k0_off53 v264) a + S32x128.size a ≤ S288x128.size a)
theorem k0_off51_inb : ∀ (v264 : BitVec 32) (k0_hw21 : k0_chk21 v264), ∀ a, (k0_off51 v264) a + S32x1.size a ≤ S288x128.size a := fun v264 k0_hw21 => k0_hw21.1
theorem k0_off53_inb : ∀ (v264 : BitVec 32) (k0_hw21 : k0_chk21 v264), ∀ a, (k0_off53 v264) a + S32x128.size a ≤ S288x128.size a := fun v264 k0_hw21 => k0_hw21.2

def k0_off54 (v158 : BitVec 32) (k0_t11 : Fin (k0_t11_loop v158).trips) : Fin 3 → Nat :=
  let c0_i32_102 : BitVec 32 := 0#32
  let c1_i32_105 : BitVec 32 := 1#32
  let arg19 : BitVec 32 := Scf.iv c0_i32_102 c1_i32_105 k0_t11
  let v285 : Index := Scalar.indexCast arg19
  let c0_184 : Index := 0#32
  let c0_185 : Index := 0#32
  ![v285.toNat, 0, 0]
@[reducible] def k0_t12_loop (v158 : BitVec 32) : Scf.Loop 32 :=
  let c0_i32_102 : BitVec 32 := 0#32
  let v159 : BitVec 32 := Scalar.subi v158 c0_i32_102
  let c1_i32_104 : BitVec 32 := 1#32
  let v161 : BitVec 32 := Scalar.divsi v159 c1_i32_104
  let v162 : BitVec 32 := Scalar.muli v161 c1_i32_104
  let v163 : BitVec 32 := Scalar.addi c0_i32_102 v162
  let v160 : BitVec 32 := Scalar.addi c0_i32_102 v159
  let c1_i32_106 : BitVec 32 := 1#32
  ⟨v163, v160, c1_i32_106⟩
def k0_off55 (v158 : BitVec 32) (k0_t12 : Fin (k0_t12_loop v158).trips) : Fin 1 → Nat :=
  let c0_i32_102 : BitVec 32 := 0#32
  let v159 : BitVec 32 := Scalar.subi v158 c0_i32_102
  let c1_i32_104 : BitVec 32 := 1#32
  let v161 : BitVec 32 := Scalar.divsi v159 c1_i32_104
  let v162 : BitVec 32 := Scalar.muli v161 c1_i32_104
  let v163 : BitVec 32 := Scalar.addi c0_i32_102 v162
  let c1_i32_106 : BitVec 32 := 1#32
  let arg19 : BitVec 32 := Scf.iv v163 c1_i32_106 k0_t12
  let v263 : Index := Scalar.indexCast arg19
  ![v263.toNat]
def k0_off56 (v158 : BitVec 32) (k0_t12 : Fin (k0_t12_loop v158).trips) : Fin 3 → Nat :=
  let c0_i32_102 : BitVec 32 := 0#32
  let v159 : BitVec 32 := Scalar.subi v158 c0_i32_102
  let c1_i32_104 : BitVec 32 := 1#32
  let v161 : BitVec 32 := Scalar.divsi v159 c1_i32_104
  let v162 : BitVec 32 := Scalar.muli v161 c1_i32_104
  let v163 : BitVec 32 := Scalar.addi c0_i32_102 v162
  let c1_i32_106 : BitVec 32 := 1#32
  let arg19 : BitVec 32 := Scf.iv v163 c1_i32_106 k0_t12
  let v265 : Index := Scalar.indexCast arg19
  let c0_176 : Index := 0#32
  let c0_177 : Index := 0#32
  ![v265.toNat, 0, 0]
def k0_off57 (v264 : BitVec 32) : Fin 2 → Nat :=
  let v268 : Index := Scalar.indexCast v264
  let c0_178 : Index := 0#32
  ![v268.toNat, 0]

def k0_off58 (v158 : BitVec 32) (k0_t12 : Fin (k0_t12_loop v158).trips) : Fin 3 → Nat :=
  let c0_i32_102 : BitVec 32 := 0#32
  let v159 : BitVec 32 := Scalar.subi v158 c0_i32_102
  let c1_i32_104 : BitVec 32 := 1#32
  let v161 : BitVec 32 := Scalar.divsi v159 c1_i32_104
  let v162 : BitVec 32 := Scalar.muli v161 c1_i32_104
  let v163 : BitVec 32 := Scalar.addi c0_i32_102 v162
  let c1_i32_106 : BitVec 32 := 1#32
  let arg19 : BitVec 32 := Scf.iv v163 c1_i32_106 k0_t12
  let v274 : Index := Scalar.indexCast arg19
  let c0_180 : Index := 0#32
  let c0_181 : Index := 0#32
  ![v274.toNat, 0, 0]
def k0_off59 (v264 : BitVec 32) : Fin 2 → Nat :=
  let v283 : Index := Scalar.indexCast v264
  let c0_183 : Index := 0#32
  ![v283.toNat, 0]

def k0_chk22 (v264 : BitVec 32) : Prop :=
  (∀ a, (k0_off57 v264) a + S32x1.size a ≤ S288x128.size a) ∧
  (∀ a, (k0_off59 v264) a + S32x128.size a ≤ S288x128.size a)
theorem k0_off57_inb : ∀ (v264 : BitVec 32) (k0_hw22 : k0_chk22 v264), ∀ a, (k0_off57 v264) a + S32x1.size a ≤ S288x128.size a := fun v264 k0_hw22 => k0_hw22.1
theorem k0_off59_inb : ∀ (v264 : BitVec 32) (k0_hw22 : k0_chk22 v264), ∀ a, (k0_off59 v264) a + S32x128.size a ≤ S288x128.size a := fun v264 k0_hw22 => k0_hw22.2

def k0_off60 (v158 : BitVec 32) (k0_t12 : Fin (k0_t12_loop v158).trips) : Fin 3 → Nat :=
  let c0_i32_102 : BitVec 32 := 0#32
  let v159 : BitVec 32 := Scalar.subi v158 c0_i32_102
  let c1_i32_104 : BitVec 32 := 1#32
  let v161 : BitVec 32 := Scalar.divsi v159 c1_i32_104
  let v162 : BitVec 32 := Scalar.muli v161 c1_i32_104
  let v163 : BitVec 32 := Scalar.addi c0_i32_102 v162
  let c1_i32_106 : BitVec 32 := 1#32
  let arg19 : BitVec 32 := Scf.iv v163 c1_i32_106 k0_t12
  let v285 : Index := Scalar.indexCast arg19
  let c0_184 : Index := 0#32
  let c0_185 : Index := 0#32
  ![v285.toNat, 0, 0]

def k0_chk20 (v158 : BitVec 32) : Prop :=
  ((k0_t11_loop v158).OK) ∧
  (∀ k0_t11 : Fin (k0_t11_loop v158).trips, ∀ a, (k0_off49 v158 k0_t11) a + S1.size a ≤ S200.size a) ∧
  (∀ k0_t11 : Fin (k0_t11_loop v158).trips, ∀ a, (k0_off50 v158 k0_t11) a + S1x32x1.size a ≤ S200x32x1.size a) ∧
  (∀ k0_t11 : Fin (k0_t11_loop v158).trips, ∀ a, (k0_off52 v158 k0_t11) a + S1x32x1.size a ≤ S200x32x1.size a) ∧
  (∀ k0_t11 : Fin (k0_t11_loop v158).trips, ∀ a, (k0_off54 v158 k0_t11) a + S1x32x128.size a ≤ S200x32x128.size a) ∧
  ((k0_t12_loop v158).OK) ∧
  (∀ k0_t12 : Fin (k0_t12_loop v158).trips, ∀ a, (k0_off55 v158 k0_t12) a + S1.size a ≤ S200.size a) ∧
  (∀ k0_t12 : Fin (k0_t12_loop v158).trips, ∀ a, (k0_off56 v158 k0_t12) a + S1x32x1.size a ≤ S200x32x1.size a) ∧
  (∀ k0_t12 : Fin (k0_t12_loop v158).trips, ∀ a, (k0_off58 v158 k0_t12) a + S1x32x1.size a ≤ S200x32x1.size a) ∧
  (∀ k0_t12 : Fin (k0_t12_loop v158).trips, ∀ a, (k0_off60 v158 k0_t12) a + S1x32x128.size a ≤ S200x32x128.size a)
theorem k0_t11_ok : ∀ (v158 : BitVec 32) (k0_hw20 : k0_chk20 v158), (k0_t11_loop v158).OK := fun v158 k0_hw20 => k0_hw20.1
theorem k0_off49_inb : ∀ (v158 : BitVec 32) (k0_hw20 : k0_chk20 v158) (k0_t11 : Fin (k0_t11_loop v158).trips), ∀ a, (k0_off49 v158 k0_t11) a + S1.size a ≤ S200.size a := fun v158 k0_hw20 k0_t11 => k0_hw20.2.1 k0_t11
theorem k0_off50_inb : ∀ (v158 : BitVec 32) (k0_hw20 : k0_chk20 v158) (k0_t11 : Fin (k0_t11_loop v158).trips), ∀ a, (k0_off50 v158 k0_t11) a + S1x32x1.size a ≤ S200x32x1.size a := fun v158 k0_hw20 k0_t11 => k0_hw20.2.2.1 k0_t11
theorem k0_off52_inb : ∀ (v158 : BitVec 32) (k0_hw20 : k0_chk20 v158) (k0_t11 : Fin (k0_t11_loop v158).trips), ∀ a, (k0_off52 v158 k0_t11) a + S1x32x1.size a ≤ S200x32x1.size a := fun v158 k0_hw20 k0_t11 => k0_hw20.2.2.2.1 k0_t11
theorem k0_off54_inb : ∀ (v158 : BitVec 32) (k0_hw20 : k0_chk20 v158) (k0_t11 : Fin (k0_t11_loop v158).trips), ∀ a, (k0_off54 v158 k0_t11) a + S1x32x128.size a ≤ S200x32x128.size a := fun v158 k0_hw20 k0_t11 => k0_hw20.2.2.2.2.1 k0_t11
theorem k0_t12_ok : ∀ (v158 : BitVec 32) (k0_hw20 : k0_chk20 v158), (k0_t12_loop v158).OK := fun v158 k0_hw20 => k0_hw20.2.2.2.2.2.1
theorem k0_off55_inb : ∀ (v158 : BitVec 32) (k0_hw20 : k0_chk20 v158) (k0_t12 : Fin (k0_t12_loop v158).trips), ∀ a, (k0_off55 v158 k0_t12) a + S1.size a ≤ S200.size a := fun v158 k0_hw20 k0_t12 => k0_hw20.2.2.2.2.2.2.1 k0_t12
theorem k0_off56_inb : ∀ (v158 : BitVec 32) (k0_hw20 : k0_chk20 v158) (k0_t12 : Fin (k0_t12_loop v158).trips), ∀ a, (k0_off56 v158 k0_t12) a + S1x32x1.size a ≤ S200x32x1.size a := fun v158 k0_hw20 k0_t12 => k0_hw20.2.2.2.2.2.2.2.1 k0_t12
theorem k0_off58_inb : ∀ (v158 : BitVec 32) (k0_hw20 : k0_chk20 v158) (k0_t12 : Fin (k0_t12_loop v158).trips), ∀ a, (k0_off58 v158 k0_t12) a + S1x32x1.size a ≤ S200x32x1.size a := fun v158 k0_hw20 k0_t12 => k0_hw20.2.2.2.2.2.2.2.2.1 k0_t12
theorem k0_off60_inb : ∀ (v158 : BitVec 32) (k0_hw20 : k0_chk20 v158) (k0_t12 : Fin (k0_t12_loop v158).trips), ∀ a, (k0_off60 v158 k0_t12) a + S1x32x128.size a ≤ S200x32x128.size a := fun v158 k0_hw20 k0_t12 => k0_hw20.2.2.2.2.2.2.2.2.2 k0_t12

@[reducible] def k0_t13_loop (v221 : BitVec 32) : Scf.Loop 32 :=
  let c0_i32_143 : BitVec 32 := 0#32
  let v222 : BitVec 32 := Scalar.subi v221 c0_i32_143
  let c1_i32_145 : BitVec 32 := 1#32
  let v224 : BitVec 32 := Scalar.divsi v222 c1_i32_145
  let v225 : BitVec 32 := Scalar.muli v224 c1_i32_145
  let v226 : BitVec 32 := Scalar.addi c0_i32_143 v225
  let c1_i32_146 : BitVec 32 := 1#32
  ⟨c0_i32_143, v226, c1_i32_146⟩

def k0_off61 (v221 : BitVec 32) (k0_t13 : Fin (k0_t13_loop v221).trips) : Fin 1 → Nat :=
  let c0_i32_143 : BitVec 32 := 0#32
  let c1_i32_146 : BitVec 32 := 1#32
  let arg19 : BitVec 32 := Scf.iv c0_i32_143 c1_i32_146 k0_t13
  let v263 : Index := Scalar.indexCast arg19
  ![v263.toNat]
def k0_off62 (v264 : BitVec 32) : Fin 2 → Nat :=
  let c4000_i32 : BitVec 32 := 4000#32
  let v267 : BitVec 32 := Scalar.muli v264 c4000_i32
  let v268 : Index := Scalar.indexCast v267
  let c0_176 : Index := 0#32
  ![v268.toNat, 0]

def k0_off63 (v264 : BitVec 32) : Fin 2 → Nat :=
  let v270 : Index := Scalar.indexCast v264
  let c0_177 : Index := 0#32
  ![v270.toNat, 0]

def k0_chk24 (v264 : BitVec 32) : Prop :=
  (∀ a, (k0_off62 v264) a + S4000x128.size a ≤ S100000x128.size a) ∧
  (∀ a, (k0_off63 v264) a + S1x4000.size a ≤ S25x4000.size a)
theorem k0_off62_inb : ∀ (v264 : BitVec 32) (k0_hw24 : k0_chk24 v264), ∀ a, (k0_off62 v264) a + S4000x128.size a ≤ S100000x128.size a := fun v264 k0_hw24 => k0_hw24.1
theorem k0_off63_inb : ∀ (v264 : BitVec 32) (k0_hw24 : k0_chk24 v264), ∀ a, (k0_off63 v264) a + S1x4000.size a ≤ S25x4000.size a := fun v264 k0_hw24 => k0_hw24.2

def k0_off64 (v266 : BitVec 32) : Fin 2 → Nat :=
  let v281 : Index := Scalar.indexCast v266
  let c0_178 : Index := 0#32
  ![v281.toNat, 0]

def k0_chk25 (v266 : BitVec 32) : Prop :=
  (∀ a, (k0_off64 v266) a + S32x128.size a ≤ S288x128.size a)
theorem k0_off64_inb : ∀ (v266 : BitVec 32) (k0_hw25 : k0_chk25 v266), ∀ a, (k0_off64 v266) a + S32x128.size a ≤ S288x128.size a := fun v266 k0_hw25 => k0_hw25

def k0_off65 (v221 : BitVec 32) (k0_t13 : Fin (k0_t13_loop v221).trips) : Fin 3 → Nat :=
  let c0_i32_143 : BitVec 32 := 0#32
  let c1_i32_146 : BitVec 32 := 1#32
  let arg19 : BitVec 32 := Scf.iv c0_i32_143 c1_i32_146 k0_t13
  let v299 : Index := Scalar.indexCast arg19
  let c0_185 : Index := 0#32
  let c0_186 : Index := 0#32
  ![v299.toNat, 0, 0]
def k0_off66 (v221 : BitVec 32) (k0_t13 : Fin (k0_t13_loop v221).trips) : Fin 3 → Nat :=
  let c0_i32_143 : BitVec 32 := 0#32
  let c1_i32_146 : BitVec 32 := 1#32
  let arg19 : BitVec 32 := Scf.iv c0_i32_143 c1_i32_146 k0_t13
  let v307 : Index := Scalar.indexCast arg19
  let c0_189 : Index := 0#32
  let c0_190 : Index := 0#32
  ![v307.toNat, 0, 0]
@[reducible] def k0_t14_loop (v221 : BitVec 32) : Scf.Loop 32 :=
  let c0_i32_143 : BitVec 32 := 0#32
  let v222 : BitVec 32 := Scalar.subi v221 c0_i32_143
  let c1_i32_145 : BitVec 32 := 1#32
  let v224 : BitVec 32 := Scalar.divsi v222 c1_i32_145
  let v225 : BitVec 32 := Scalar.muli v224 c1_i32_145
  let v226 : BitVec 32 := Scalar.addi c0_i32_143 v225
  let v223 : BitVec 32 := Scalar.addi c0_i32_143 v222
  let c1_i32_147 : BitVec 32 := 1#32
  ⟨v226, v223, c1_i32_147⟩
def k0_off67 (v221 : BitVec 32) (k0_t14 : Fin (k0_t14_loop v221).trips) : Fin 1 → Nat :=
  let c0_i32_143 : BitVec 32 := 0#32
  let v222 : BitVec 32 := Scalar.subi v221 c0_i32_143
  let c1_i32_145 : BitVec 32 := 1#32
  let v224 : BitVec 32 := Scalar.divsi v222 c1_i32_145
  let v225 : BitVec 32 := Scalar.muli v224 c1_i32_145
  let v226 : BitVec 32 := Scalar.addi c0_i32_143 v225
  let c1_i32_147 : BitVec 32 := 1#32
  let arg19 : BitVec 32 := Scf.iv v226 c1_i32_147 k0_t14
  let v263 : Index := Scalar.indexCast arg19
  ![v263.toNat]
def k0_off68 (v264 : BitVec 32) : Fin 2 → Nat :=
  let c4000_i32 : BitVec 32 := 4000#32
  let v267 : BitVec 32 := Scalar.muli v264 c4000_i32
  let v268 : Index := Scalar.indexCast v267
  let c0_176 : Index := 0#32
  ![v268.toNat, 0]

def k0_off69 (v264 : BitVec 32) : Fin 2 → Nat :=
  let v270 : Index := Scalar.indexCast v264
  let c0_177 : Index := 0#32
  ![v270.toNat, 0]

def k0_chk26 (v264 : BitVec 32) : Prop :=
  (∀ a, (k0_off68 v264) a + S4000x128.size a ≤ S100000x128.size a) ∧
  (∀ a, (k0_off69 v264) a + S1x4000.size a ≤ S25x4000.size a)
theorem k0_off68_inb : ∀ (v264 : BitVec 32) (k0_hw26 : k0_chk26 v264), ∀ a, (k0_off68 v264) a + S4000x128.size a ≤ S100000x128.size a := fun v264 k0_hw26 => k0_hw26.1
theorem k0_off69_inb : ∀ (v264 : BitVec 32) (k0_hw26 : k0_chk26 v264), ∀ a, (k0_off69 v264) a + S1x4000.size a ≤ S25x4000.size a := fun v264 k0_hw26 => k0_hw26.2

def k0_off70 (v266 : BitVec 32) : Fin 2 → Nat :=
  let v281 : Index := Scalar.indexCast v266
  let c0_178 : Index := 0#32
  ![v281.toNat, 0]

def k0_chk27 (v266 : BitVec 32) : Prop :=
  (∀ a, (k0_off70 v266) a + S32x128.size a ≤ S288x128.size a)
theorem k0_off70_inb : ∀ (v266 : BitVec 32) (k0_hw27 : k0_chk27 v266), ∀ a, (k0_off70 v266) a + S32x128.size a ≤ S288x128.size a := fun v266 k0_hw27 => k0_hw27

def k0_off71 (v221 : BitVec 32) (k0_t14 : Fin (k0_t14_loop v221).trips) : Fin 3 → Nat :=
  let c0_i32_143 : BitVec 32 := 0#32
  let v222 : BitVec 32 := Scalar.subi v221 c0_i32_143
  let c1_i32_145 : BitVec 32 := 1#32
  let v224 : BitVec 32 := Scalar.divsi v222 c1_i32_145
  let v225 : BitVec 32 := Scalar.muli v224 c1_i32_145
  let v226 : BitVec 32 := Scalar.addi c0_i32_143 v225
  let c1_i32_147 : BitVec 32 := 1#32
  let arg19 : BitVec 32 := Scf.iv v226 c1_i32_147 k0_t14
  let v299 : Index := Scalar.indexCast arg19
  let c0_185 : Index := 0#32
  let c0_186 : Index := 0#32
  ![v299.toNat, 0, 0]
def k0_off72 (v221 : BitVec 32) (k0_t14 : Fin (k0_t14_loop v221).trips) : Fin 3 → Nat :=
  let c0_i32_143 : BitVec 32 := 0#32
  let v222 : BitVec 32 := Scalar.subi v221 c0_i32_143
  let c1_i32_145 : BitVec 32 := 1#32
  let v224 : BitVec 32 := Scalar.divsi v222 c1_i32_145
  let v225 : BitVec 32 := Scalar.muli v224 c1_i32_145
  let v226 : BitVec 32 := Scalar.addi c0_i32_143 v225
  let c1_i32_147 : BitVec 32 := 1#32
  let arg19 : BitVec 32 := Scf.iv v226 c1_i32_147 k0_t14
  let v307 : Index := Scalar.indexCast arg19
  let c0_189 : Index := 0#32
  let c0_190 : Index := 0#32
  ![v307.toNat, 0, 0]

def k0_chk23 (v221 : BitVec 32) : Prop :=
  ((k0_t13_loop v221).OK) ∧
  (∀ k0_t13 : Fin (k0_t13_loop v221).trips, ∀ a, (k0_off61 v221 k0_t13) a + S1.size a ≤ S200.size a) ∧
  (∀ k0_t13 : Fin (k0_t13_loop v221).trips, ∀ a, (k0_off65 v221 k0_t13) a + S1x32x1.size a ≤ S200x32x1.size a) ∧
  (∀ k0_t13 : Fin (k0_t13_loop v221).trips, ∀ a, (k0_off66 v221 k0_t13) a + S1x32x128.size a ≤ S200x32x128.size a) ∧
  ((k0_t14_loop v221).OK) ∧
  (∀ k0_t14 : Fin (k0_t14_loop v221).trips, ∀ a, (k0_off67 v221 k0_t14) a + S1.size a ≤ S200.size a) ∧
  (∀ k0_t14 : Fin (k0_t14_loop v221).trips, ∀ a, (k0_off71 v221 k0_t14) a + S1x32x1.size a ≤ S200x32x1.size a) ∧
  (∀ k0_t14 : Fin (k0_t14_loop v221).trips, ∀ a, (k0_off72 v221 k0_t14) a + S1x32x128.size a ≤ S200x32x128.size a)
theorem k0_t13_ok : ∀ (v221 : BitVec 32) (k0_hw23 : k0_chk23 v221), (k0_t13_loop v221).OK := fun v221 k0_hw23 => k0_hw23.1
theorem k0_off61_inb : ∀ (v221 : BitVec 32) (k0_hw23 : k0_chk23 v221) (k0_t13 : Fin (k0_t13_loop v221).trips), ∀ a, (k0_off61 v221 k0_t13) a + S1.size a ≤ S200.size a := fun v221 k0_hw23 k0_t13 => k0_hw23.2.1 k0_t13
theorem k0_off65_inb : ∀ (v221 : BitVec 32) (k0_hw23 : k0_chk23 v221) (k0_t13 : Fin (k0_t13_loop v221).trips), ∀ a, (k0_off65 v221 k0_t13) a + S1x32x1.size a ≤ S200x32x1.size a := fun v221 k0_hw23 k0_t13 => k0_hw23.2.2.1 k0_t13
theorem k0_off66_inb : ∀ (v221 : BitVec 32) (k0_hw23 : k0_chk23 v221) (k0_t13 : Fin (k0_t13_loop v221).trips), ∀ a, (k0_off66 v221 k0_t13) a + S1x32x128.size a ≤ S200x32x128.size a := fun v221 k0_hw23 k0_t13 => k0_hw23.2.2.2.1 k0_t13
theorem k0_t14_ok : ∀ (v221 : BitVec 32) (k0_hw23 : k0_chk23 v221), (k0_t14_loop v221).OK := fun v221 k0_hw23 => k0_hw23.2.2.2.2.1
theorem k0_off67_inb : ∀ (v221 : BitVec 32) (k0_hw23 : k0_chk23 v221) (k0_t14 : Fin (k0_t14_loop v221).trips), ∀ a, (k0_off67 v221 k0_t14) a + S1.size a ≤ S200.size a := fun v221 k0_hw23 k0_t14 => k0_hw23.2.2.2.2.2.1 k0_t14
theorem k0_off71_inb : ∀ (v221 : BitVec 32) (k0_hw23 : k0_chk23 v221) (k0_t14 : Fin (k0_t14_loop v221).trips), ∀ a, (k0_off71 v221 k0_t14) a + S1x32x1.size a ≤ S200x32x1.size a := fun v221 k0_hw23 k0_t14 => k0_hw23.2.2.2.2.2.2.1 k0_t14
theorem k0_off72_inb : ∀ (v221 : BitVec 32) (k0_hw23 : k0_chk23 v221) (k0_t14 : Fin (k0_t14_loop v221).trips), ∀ a, (k0_off72 v221 k0_t14) a + S1x32x128.size a ≤ S200x32x128.size a := fun v221 k0_hw23 k0_t14 => k0_hw23.2.2.2.2.2.2.2 k0_t14

@[reducible] def k0_t15_loop (v229 : BitVec 32) : Scf.Loop 32 :=
  let c0_i32_149 : BitVec 32 := 0#32
  let v230 : BitVec 32 := Scalar.subi v229 c0_i32_149
  let c1_i32_151 : BitVec 32 := 1#32
  let v232 : BitVec 32 := Scalar.divsi v230 c1_i32_151
  let v233 : BitVec 32 := Scalar.muli v232 c1_i32_151
  let v234 : BitVec 32 := Scalar.addi c0_i32_149 v233
  let c1_i32_152 : BitVec 32 := 1#32
  ⟨c0_i32_149, v234, c1_i32_152⟩

def k0_off73 (v229 : BitVec 32) (k0_t15 : Fin (k0_t15_loop v229).trips) : Fin 1 → Nat :=
  let c0_i32_149 : BitVec 32 := 0#32
  let c1_i32_152 : BitVec 32 := 1#32
  let arg19 : BitVec 32 := Scf.iv c0_i32_149 c1_i32_152 k0_t15
  let v263 : Index := Scalar.indexCast arg19
  ![v263.toNat]
def k0_off74 (v264 : BitVec 32) : Fin 2 → Nat :=
  let v265 : Index := Scalar.indexCast v264
  let c0_176 : Index := 0#32
  ![v265.toNat, 0]

def k0_chk29 (v264 : BitVec 32) : Prop :=
  (∀ a, (k0_off74 v264) a + S32x1.size a ≤ S288x128.size a)
theorem k0_off74_inb : ∀ (v264 : BitVec 32) (k0_hw29 : k0_chk29 v264), ∀ a, (k0_off74 v264) a + S32x1.size a ≤ S288x128.size a := fun v264 k0_hw29 => k0_hw29

def k0_off75 (v229 : BitVec 32) (k0_t15 : Fin (k0_t15_loop v229).trips) : Fin 3 → Nat :=
  let c0_i32_149 : BitVec 32 := 0#32
  let c1_i32_152 : BitVec 32 := 1#32
  let arg19 : BitVec 32 := Scf.iv c0_i32_149 c1_i32_152 k0_t15
  let v267 : Index := Scalar.indexCast arg19
  let c0_177 : Index := 0#32
  let c0_178 : Index := 0#32
  ![v267.toNat, 0, 0]
@[reducible] def k0_t16_loop (v229 : BitVec 32) : Scf.Loop 32 :=
  let c0_i32_149 : BitVec 32 := 0#32
  let v230 : BitVec 32 := Scalar.subi v229 c0_i32_149
  let c1_i32_151 : BitVec 32 := 1#32
  let v232 : BitVec 32 := Scalar.divsi v230 c1_i32_151
  let v233 : BitVec 32 := Scalar.muli v232 c1_i32_151
  let v234 : BitVec 32 := Scalar.addi c0_i32_149 v233
  let v231 : BitVec 32 := Scalar.addi c0_i32_149 v230
  let c1_i32_153 : BitVec 32 := 1#32
  ⟨v234, v231, c1_i32_153⟩
def k0_off76 (v229 : BitVec 32) (k0_t16 : Fin (k0_t16_loop v229).trips) : Fin 1 → Nat :=
  let c0_i32_149 : BitVec 32 := 0#32
  let v230 : BitVec 32 := Scalar.subi v229 c0_i32_149
  let c1_i32_151 : BitVec 32 := 1#32
  let v232 : BitVec 32 := Scalar.divsi v230 c1_i32_151
  let v233 : BitVec 32 := Scalar.muli v232 c1_i32_151
  let v234 : BitVec 32 := Scalar.addi c0_i32_149 v233
  let c1_i32_153 : BitVec 32 := 1#32
  let arg19 : BitVec 32 := Scf.iv v234 c1_i32_153 k0_t16
  let v263 : Index := Scalar.indexCast arg19
  ![v263.toNat]
def k0_off77 (v264 : BitVec 32) : Fin 2 → Nat :=
  let v265 : Index := Scalar.indexCast v264
  let c0_176 : Index := 0#32
  ![v265.toNat, 0]

def k0_chk30 (v264 : BitVec 32) : Prop :=
  (∀ a, (k0_off77 v264) a + S32x1.size a ≤ S288x128.size a)
theorem k0_off77_inb : ∀ (v264 : BitVec 32) (k0_hw30 : k0_chk30 v264), ∀ a, (k0_off77 v264) a + S32x1.size a ≤ S288x128.size a := fun v264 k0_hw30 => k0_hw30

def k0_off78 (v229 : BitVec 32) (k0_t16 : Fin (k0_t16_loop v229).trips) : Fin 3 → Nat :=
  let c0_i32_149 : BitVec 32 := 0#32
  let v230 : BitVec 32 := Scalar.subi v229 c0_i32_149
  let c1_i32_151 : BitVec 32 := 1#32
  let v232 : BitVec 32 := Scalar.divsi v230 c1_i32_151
  let v233 : BitVec 32 := Scalar.muli v232 c1_i32_151
  let v234 : BitVec 32 := Scalar.addi c0_i32_149 v233
  let c1_i32_153 : BitVec 32 := 1#32
  let arg19 : BitVec 32 := Scf.iv v234 c1_i32_153 k0_t16
  let v267 : Index := Scalar.indexCast arg19
  let c0_177 : Index := 0#32
  let c0_178 : Index := 0#32
  ![v267.toNat, 0, 0]

def k0_chk28 (v229 : BitVec 32) : Prop :=
  ((k0_t15_loop v229).OK) ∧
  (∀ k0_t15 : Fin (k0_t15_loop v229).trips, ∀ a, (k0_off73 v229 k0_t15) a + S1.size a ≤ S200.size a) ∧
  (∀ k0_t15 : Fin (k0_t15_loop v229).trips, ∀ a, (k0_off75 v229 k0_t15) a + S1x32x1.size a ≤ S200x32x1.size a) ∧
  ((k0_t16_loop v229).OK) ∧
  (∀ k0_t16 : Fin (k0_t16_loop v229).trips, ∀ a, (k0_off76 v229 k0_t16) a + S1.size a ≤ S200.size a) ∧
  (∀ k0_t16 : Fin (k0_t16_loop v229).trips, ∀ a, (k0_off78 v229 k0_t16) a + S1x32x1.size a ≤ S200x32x1.size a)
theorem k0_t15_ok : ∀ (v229 : BitVec 32) (k0_hw28 : k0_chk28 v229), (k0_t15_loop v229).OK := fun v229 k0_hw28 => k0_hw28.1
theorem k0_off73_inb : ∀ (v229 : BitVec 32) (k0_hw28 : k0_chk28 v229) (k0_t15 : Fin (k0_t15_loop v229).trips), ∀ a, (k0_off73 v229 k0_t15) a + S1.size a ≤ S200.size a := fun v229 k0_hw28 k0_t15 => k0_hw28.2.1 k0_t15
theorem k0_off75_inb : ∀ (v229 : BitVec 32) (k0_hw28 : k0_chk28 v229) (k0_t15 : Fin (k0_t15_loop v229).trips), ∀ a, (k0_off75 v229 k0_t15) a + S1x32x1.size a ≤ S200x32x1.size a := fun v229 k0_hw28 k0_t15 => k0_hw28.2.2.1 k0_t15
theorem k0_t16_ok : ∀ (v229 : BitVec 32) (k0_hw28 : k0_chk28 v229), (k0_t16_loop v229).OK := fun v229 k0_hw28 => k0_hw28.2.2.2.1
theorem k0_off76_inb : ∀ (v229 : BitVec 32) (k0_hw28 : k0_chk28 v229) (k0_t16 : Fin (k0_t16_loop v229).trips), ∀ a, (k0_off76 v229 k0_t16) a + S1.size a ≤ S200.size a := fun v229 k0_hw28 k0_t16 => k0_hw28.2.2.2.2.1 k0_t16
theorem k0_off78_inb : ∀ (v229 : BitVec 32) (k0_hw28 : k0_chk28 v229) (k0_t16 : Fin (k0_t16_loop v229).trips), ∀ a, (k0_off78 v229 k0_t16) a + S1x32x1.size a ≤ S200x32x1.size a := fun v229 k0_hw28 k0_t16 => k0_hw28.2.2.2.2.2 k0_t16

@[reducible] def k0_t17_loop (v241 : BitVec 32) : Scf.Loop 32 :=
  let c0_i32_158 : BitVec 32 := 0#32
  let v242 : BitVec 32 := Scalar.subi v241 c0_i32_158
  let c1_i32_160 : BitVec 32 := 1#32
  let v244 : BitVec 32 := Scalar.divsi v242 c1_i32_160
  let v245 : BitVec 32 := Scalar.muli v244 c1_i32_160
  let v246 : BitVec 32 := Scalar.addi c0_i32_158 v245
  let c1_i32_161 : BitVec 32 := 1#32
  ⟨c0_i32_158, v246, c1_i32_161⟩

def k0_off79 (v241 : BitVec 32) (k0_t17 : Fin (k0_t17_loop v241).trips) : Fin 1 → Nat :=
  let c0_i32_158 : BitVec 32 := 0#32
  let c1_i32_161 : BitVec 32 := 1#32
  let arg19 : BitVec 32 := Scf.iv c0_i32_158 c1_i32_161 k0_t17
  let v263 : Index := Scalar.indexCast arg19
  ![v263.toNat]
def k0_off80 (v241 : BitVec 32) (k0_t17 : Fin (k0_t17_loop v241).trips) : Fin 3 → Nat :=
  let c0_i32_158 : BitVec 32 := 0#32
  let c1_i32_161 : BitVec 32 := 1#32
  let arg19 : BitVec 32 := Scf.iv c0_i32_158 c1_i32_161 k0_t17
  let v265 : Index := Scalar.indexCast arg19
  let c0_176 : Index := 0#32
  let c0_177 : Index := 0#32
  ![v265.toNat, 0, 0]
def k0_off81 (v264 : BitVec 32) : Fin 2 → Nat :=
  let v268 : Index := Scalar.indexCast v264
  let c0_178 : Index := 0#32
  ![v268.toNat, 0]

def k0_off82 (v241 : BitVec 32) (k0_t17 : Fin (k0_t17_loop v241).trips) : Fin 3 → Nat :=
  let c0_i32_158 : BitVec 32 := 0#32
  let c1_i32_161 : BitVec 32 := 1#32
  let arg19 : BitVec 32 := Scf.iv c0_i32_158 c1_i32_161 k0_t17
  let v274 : Index := Scalar.indexCast arg19
  let c0_180 : Index := 0#32
  let c0_181 : Index := 0#32
  ![v274.toNat, 0, 0]
def k0_off83 (v264 : BitVec 32) : Fin 2 → Nat :=
  let v283 : Index := Scalar.indexCast v264
  let c0_183 : Index := 0#32
  ![v283.toNat, 0]

def k0_chk32 (v264 : BitVec 32) : Prop :=
  (∀ a, (k0_off81 v264) a + S32x1.size a ≤ S288x128.size a) ∧
  (∀ a, (k0_off83 v264) a + S32x128.size a ≤ S288x128.size a)
theorem k0_off81_inb : ∀ (v264 : BitVec 32) (k0_hw32 : k0_chk32 v264), ∀ a, (k0_off81 v264) a + S32x1.size a ≤ S288x128.size a := fun v264 k0_hw32 => k0_hw32.1
theorem k0_off83_inb : ∀ (v264 : BitVec 32) (k0_hw32 : k0_chk32 v264), ∀ a, (k0_off83 v264) a + S32x128.size a ≤ S288x128.size a := fun v264 k0_hw32 => k0_hw32.2

def k0_off84 (v241 : BitVec 32) (k0_t17 : Fin (k0_t17_loop v241).trips) : Fin 3 → Nat :=
  let c0_i32_158 : BitVec 32 := 0#32
  let c1_i32_161 : BitVec 32 := 1#32
  let arg19 : BitVec 32 := Scf.iv c0_i32_158 c1_i32_161 k0_t17
  let v285 : Index := Scalar.indexCast arg19
  let c0_184 : Index := 0#32
  let c0_185 : Index := 0#32
  ![v285.toNat, 0, 0]
@[reducible] def k0_t18_loop (v241 : BitVec 32) : Scf.Loop 32 :=
  let c0_i32_158 : BitVec 32 := 0#32
  let v242 : BitVec 32 := Scalar.subi v241 c0_i32_158
  let c1_i32_160 : BitVec 32 := 1#32
  let v244 : BitVec 32 := Scalar.divsi v242 c1_i32_160
  let v245 : BitVec 32 := Scalar.muli v244 c1_i32_160
  let v246 : BitVec 32 := Scalar.addi c0_i32_158 v245
  let v243 : BitVec 32 := Scalar.addi c0_i32_158 v242
  let c1_i32_162 : BitVec 32 := 1#32
  ⟨v246, v243, c1_i32_162⟩
def k0_off85 (v241 : BitVec 32) (k0_t18 : Fin (k0_t18_loop v241).trips) : Fin 1 → Nat :=
  let c0_i32_158 : BitVec 32 := 0#32
  let v242 : BitVec 32 := Scalar.subi v241 c0_i32_158
  let c1_i32_160 : BitVec 32 := 1#32
  let v244 : BitVec 32 := Scalar.divsi v242 c1_i32_160
  let v245 : BitVec 32 := Scalar.muli v244 c1_i32_160
  let v246 : BitVec 32 := Scalar.addi c0_i32_158 v245
  let c1_i32_162 : BitVec 32 := 1#32
  let arg19 : BitVec 32 := Scf.iv v246 c1_i32_162 k0_t18
  let v263 : Index := Scalar.indexCast arg19
  ![v263.toNat]
def k0_off86 (v241 : BitVec 32) (k0_t18 : Fin (k0_t18_loop v241).trips) : Fin 3 → Nat :=
  let c0_i32_158 : BitVec 32 := 0#32
  let v242 : BitVec 32 := Scalar.subi v241 c0_i32_158
  let c1_i32_160 : BitVec 32 := 1#32
  let v244 : BitVec 32 := Scalar.divsi v242 c1_i32_160
  let v245 : BitVec 32 := Scalar.muli v244 c1_i32_160
  let v246 : BitVec 32 := Scalar.addi c0_i32_158 v245
  let c1_i32_162 : BitVec 32 := 1#32
  let arg19 : BitVec 32 := Scf.iv v246 c1_i32_162 k0_t18
  let v265 : Index := Scalar.indexCast arg19
  let c0_176 : Index := 0#32
  let c0_177 : Index := 0#32
  ![v265.toNat, 0, 0]
def k0_off87 (v264 : BitVec 32) : Fin 2 → Nat :=
  let v268 : Index := Scalar.indexCast v264
  let c0_178 : Index := 0#32
  ![v268.toNat, 0]

def k0_off88 (v241 : BitVec 32) (k0_t18 : Fin (k0_t18_loop v241).trips) : Fin 3 → Nat :=
  let c0_i32_158 : BitVec 32 := 0#32
  let v242 : BitVec 32 := Scalar.subi v241 c0_i32_158
  let c1_i32_160 : BitVec 32 := 1#32
  let v244 : BitVec 32 := Scalar.divsi v242 c1_i32_160
  let v245 : BitVec 32 := Scalar.muli v244 c1_i32_160
  let v246 : BitVec 32 := Scalar.addi c0_i32_158 v245
  let c1_i32_162 : BitVec 32 := 1#32
  let arg19 : BitVec 32 := Scf.iv v246 c1_i32_162 k0_t18
  let v274 : Index := Scalar.indexCast arg19
  let c0_180 : Index := 0#32
  let c0_181 : Index := 0#32
  ![v274.toNat, 0, 0]
def k0_off89 (v264 : BitVec 32) : Fin 2 → Nat :=
  let v283 : Index := Scalar.indexCast v264
  let c0_183 : Index := 0#32
  ![v283.toNat, 0]

def k0_chk33 (v264 : BitVec 32) : Prop :=
  (∀ a, (k0_off87 v264) a + S32x1.size a ≤ S288x128.size a) ∧
  (∀ a, (k0_off89 v264) a + S32x128.size a ≤ S288x128.size a)
theorem k0_off87_inb : ∀ (v264 : BitVec 32) (k0_hw33 : k0_chk33 v264), ∀ a, (k0_off87 v264) a + S32x1.size a ≤ S288x128.size a := fun v264 k0_hw33 => k0_hw33.1
theorem k0_off89_inb : ∀ (v264 : BitVec 32) (k0_hw33 : k0_chk33 v264), ∀ a, (k0_off89 v264) a + S32x128.size a ≤ S288x128.size a := fun v264 k0_hw33 => k0_hw33.2

def k0_off90 (v241 : BitVec 32) (k0_t18 : Fin (k0_t18_loop v241).trips) : Fin 3 → Nat :=
  let c0_i32_158 : BitVec 32 := 0#32
  let v242 : BitVec 32 := Scalar.subi v241 c0_i32_158
  let c1_i32_160 : BitVec 32 := 1#32
  let v244 : BitVec 32 := Scalar.divsi v242 c1_i32_160
  let v245 : BitVec 32 := Scalar.muli v244 c1_i32_160
  let v246 : BitVec 32 := Scalar.addi c0_i32_158 v245
  let c1_i32_162 : BitVec 32 := 1#32
  let arg19 : BitVec 32 := Scf.iv v246 c1_i32_162 k0_t18
  let v285 : Index := Scalar.indexCast arg19
  let c0_184 : Index := 0#32
  let c0_185 : Index := 0#32
  ![v285.toNat, 0, 0]

def k0_chk31 (v241 : BitVec 32) : Prop :=
  ((k0_t17_loop v241).OK) ∧
  (∀ k0_t17 : Fin (k0_t17_loop v241).trips, ∀ a, (k0_off79 v241 k0_t17) a + S1.size a ≤ S200.size a) ∧
  (∀ k0_t17 : Fin (k0_t17_loop v241).trips, ∀ a, (k0_off80 v241 k0_t17) a + S1x32x1.size a ≤ S200x32x1.size a) ∧
  (∀ k0_t17 : Fin (k0_t17_loop v241).trips, ∀ a, (k0_off82 v241 k0_t17) a + S1x32x1.size a ≤ S200x32x1.size a) ∧
  (∀ k0_t17 : Fin (k0_t17_loop v241).trips, ∀ a, (k0_off84 v241 k0_t17) a + S1x32x128.size a ≤ S200x32x128.size a) ∧
  ((k0_t18_loop v241).OK) ∧
  (∀ k0_t18 : Fin (k0_t18_loop v241).trips, ∀ a, (k0_off85 v241 k0_t18) a + S1.size a ≤ S200.size a) ∧
  (∀ k0_t18 : Fin (k0_t18_loop v241).trips, ∀ a, (k0_off86 v241 k0_t18) a + S1x32x1.size a ≤ S200x32x1.size a) ∧
  (∀ k0_t18 : Fin (k0_t18_loop v241).trips, ∀ a, (k0_off88 v241 k0_t18) a + S1x32x1.size a ≤ S200x32x1.size a) ∧
  (∀ k0_t18 : Fin (k0_t18_loop v241).trips, ∀ a, (k0_off90 v241 k0_t18) a + S1x32x128.size a ≤ S200x32x128.size a)
theorem k0_t17_ok : ∀ (v241 : BitVec 32) (k0_hw31 : k0_chk31 v241), (k0_t17_loop v241).OK := fun v241 k0_hw31 => k0_hw31.1
theorem k0_off79_inb : ∀ (v241 : BitVec 32) (k0_hw31 : k0_chk31 v241) (k0_t17 : Fin (k0_t17_loop v241).trips), ∀ a, (k0_off79 v241 k0_t17) a + S1.size a ≤ S200.size a := fun v241 k0_hw31 k0_t17 => k0_hw31.2.1 k0_t17
theorem k0_off80_inb : ∀ (v241 : BitVec 32) (k0_hw31 : k0_chk31 v241) (k0_t17 : Fin (k0_t17_loop v241).trips), ∀ a, (k0_off80 v241 k0_t17) a + S1x32x1.size a ≤ S200x32x1.size a := fun v241 k0_hw31 k0_t17 => k0_hw31.2.2.1 k0_t17
theorem k0_off82_inb : ∀ (v241 : BitVec 32) (k0_hw31 : k0_chk31 v241) (k0_t17 : Fin (k0_t17_loop v241).trips), ∀ a, (k0_off82 v241 k0_t17) a + S1x32x1.size a ≤ S200x32x1.size a := fun v241 k0_hw31 k0_t17 => k0_hw31.2.2.2.1 k0_t17
theorem k0_off84_inb : ∀ (v241 : BitVec 32) (k0_hw31 : k0_chk31 v241) (k0_t17 : Fin (k0_t17_loop v241).trips), ∀ a, (k0_off84 v241 k0_t17) a + S1x32x128.size a ≤ S200x32x128.size a := fun v241 k0_hw31 k0_t17 => k0_hw31.2.2.2.2.1 k0_t17
theorem k0_t18_ok : ∀ (v241 : BitVec 32) (k0_hw31 : k0_chk31 v241), (k0_t18_loop v241).OK := fun v241 k0_hw31 => k0_hw31.2.2.2.2.2.1
theorem k0_off85_inb : ∀ (v241 : BitVec 32) (k0_hw31 : k0_chk31 v241) (k0_t18 : Fin (k0_t18_loop v241).trips), ∀ a, (k0_off85 v241 k0_t18) a + S1.size a ≤ S200.size a := fun v241 k0_hw31 k0_t18 => k0_hw31.2.2.2.2.2.2.1 k0_t18
theorem k0_off86_inb : ∀ (v241 : BitVec 32) (k0_hw31 : k0_chk31 v241) (k0_t18 : Fin (k0_t18_loop v241).trips), ∀ a, (k0_off86 v241 k0_t18) a + S1x32x1.size a ≤ S200x32x1.size a := fun v241 k0_hw31 k0_t18 => k0_hw31.2.2.2.2.2.2.2.1 k0_t18
theorem k0_off88_inb : ∀ (v241 : BitVec 32) (k0_hw31 : k0_chk31 v241) (k0_t18 : Fin (k0_t18_loop v241).trips), ∀ a, (k0_off88 v241 k0_t18) a + S1x32x1.size a ≤ S200x32x1.size a := fun v241 k0_hw31 k0_t18 => k0_hw31.2.2.2.2.2.2.2.2.1 k0_t18
theorem k0_off90_inb : ∀ (v241 : BitVec 32) (k0_hw31 : k0_chk31 v241) (k0_t18 : Fin (k0_t18_loop v241).trips), ∀ a, (k0_off90 v241 k0_t18) a + S1x32x128.size a ≤ S200x32x128.size a := fun v241 k0_hw31 k0_t18 => k0_hw31.2.2.2.2.2.2.2.2.2 k0_t18

abbrev stage0_0 : Fin 1 → Memref sig .tc .vmem S100000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S25x4000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S200 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩
abbrev S256x128 : Shape := ⟨2, ![256, 128]⟩
abbrev S256x256 : Shape := ⟨2, ![256, 256]⟩
abbrev S1x100000 : Shape := ⟨2, ![1, 100000]⟩
abbrev S256 : Shape := ⟨1, ![256]⟩
abbrev S256x1 : Shape := ⟨2, ![256, 1]⟩
abbrev S256x100000 : Shape := ⟨2, ![256, 100000]⟩
abbrev S256x512 : Shape := ⟨2, ![256, 512]⟩
abbrev S1x512 : Shape := ⟨2, ![1, 512]⟩
abbrev S128x512 : Shape := ⟨2, ![128, 512]⟩
abbrev S100000x1 : Shape := ⟨2, ![100000, 1]⟩

abbrev nBuf : Space → Nat
  | .hbm => 342
  | .vmem => 0
  | .smem => 0
  | _ => 0

abbrev hbmTy0_0 (i : Nat) : BufTy := match i % 128 with
  | 0 => ⟨S100000x128, .f32⟩
  | 1 => ⟨S100000, .i32⟩
  | 2 => ⟨S512x256, .f32⟩
  | 3 => ⟨S512x128, .f32⟩
  | 4 => ⟨S512, .f32⟩
  | 5 => ⟨S512, .f32⟩
  | 6 => ⟨S_, .f32⟩
  | 7 => ⟨S256x128, .f32⟩
  | 8 => ⟨S_, .f32⟩
  | 9 => ⟨S256x128, .f32⟩
  | 10 => ⟨S_, .f32⟩
  | 11 => ⟨S256x256, .f32⟩
  | 12 => ⟨S1x100000, .i32⟩
  | 13 => ⟨S256, .i32⟩
  | 14 => ⟨S256x1, .i32⟩
  | 15 => ⟨S256x100000, .i32⟩
  | 16 => ⟨S256x100000, .i32⟩
  | 17 => ⟨S256x100000, .i1⟩
  | 18 => ⟨S256x512, .f32⟩
  | 19 => ⟨S256x512, .f32⟩
  | 20 => ⟨S1x512, .f32⟩
  | 21 => ⟨S256x512, .f32⟩
  | 22 => ⟨S256x512, .f32⟩
  | 23 => ⟨S128x512, .f32⟩
  | 24 => ⟨S256x512, .f32⟩
  | 25 => ⟨S256x512, .f32⟩
  | 26 => ⟨S1x512, .f32⟩
  | 27 => ⟨S256x512, .f32⟩
  | 28 => ⟨S256x512, .f32⟩
  | 29 => ⟨S256x128, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S_, .f32⟩
  | 36 => ⟨S256x128, .f32⟩
  | 37 => ⟨S256x128, .f32⟩
  | 38 => ⟨S_, .f32⟩
  | 39 => ⟨S256x128, .f32⟩
  | 40 => ⟨S256x128, .f32⟩
  | 41 => ⟨S256x128, .f32⟩
  | 42 => ⟨S256x128, .f32⟩
  | 43 => ⟨S256x128, .f32⟩
  | 44 => ⟨S_, .f32⟩
  | 45 => ⟨S256x128, .f32⟩
  | 46 => ⟨S256x128, .f32⟩
  | 47 => ⟨S_, .f32⟩
  | 48 => ⟨S256x128, .f32⟩
  | 49 => ⟨S256x128, .f32⟩
  | 50 => ⟨S256x128, .f32⟩
  | 51 => ⟨S256x128, .f32⟩
  | 52 => ⟨S256x128, .f32⟩
  | 53 => ⟨S256x128, .f32⟩
  | 54 => ⟨S256x128, .f32⟩
  | 55 => ⟨S_, .f32⟩
  | 56 => ⟨S256x128, .f32⟩
  | 57 => ⟨S256x128, .f32⟩
  | 58 => ⟨S_, .f32⟩
  | 59 => ⟨S256x128, .f32⟩
  | 60 => ⟨S256x128, .f32⟩
  | 61 => ⟨S256x128, .f32⟩
  | 62 => ⟨S256x128, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x128, .f32⟩
  | 72 => ⟨S100000x128, .f32⟩
  | 73 => ⟨S_, .f32⟩
  | 74 => ⟨S100000, .f32⟩
  | 75 => ⟨S1x100000, .f32⟩
  | 76 => ⟨S_, .f32⟩
  | 77 => ⟨S_, .f32⟩
  | 78 => ⟨S256x100000, .f32⟩
  | 79 => ⟨S256x100000, .f32⟩
  | 80 => ⟨S256x100000, .f32⟩
  | 81 => ⟨S_, .f32⟩
  | 82 => ⟨S256, .f32⟩
  | 83 => ⟨S_, .f32⟩
  | 84 => ⟨S256, .f32⟩
  | 85 => ⟨S256, .i1⟩
  | 86 => ⟨S_, .f32⟩
  | 87 => ⟨S_, .f32⟩
  | 88 => ⟨S256, .f32⟩
  | 89 => ⟨S256, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000, .f32⟩
  | 99 => ⟨S100000, .f32⟩
  | 100 => ⟨S100000, .f32⟩
  | 101 => ⟨S_, .f32⟩
  | 102 => ⟨S256, .f32⟩
  | 103 => ⟨S100000x1, .i32⟩
  | 104 => ⟨S256, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000, .f32⟩
  | 114 => ⟨S_, .f32⟩
  | 115 => ⟨S100000, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S_, .f32⟩
  | 122 => ⟨S256x128, .f32⟩
  | 123 => ⟨S100000x1, .i32⟩
  | 124 => ⟨S256x128, .f32⟩
  | 125 => ⟨S256x256, .f32⟩
  | 126 => ⟨S256x512, .f32⟩
  | 127 => ⟨S256x512, .f32⟩
  | _ => ⟨S100000x128, .f32⟩

abbrev hbmTy0_1 (i : Nat) : BufTy := match i % 128 with
  | 0 => ⟨S1x512, .f32⟩
  | 1 => ⟨S256x512, .f32⟩
  | 2 => ⟨S256x512, .f32⟩
  | 3 => ⟨S128x512, .f32⟩
  | 4 => ⟨S256x512, .f32⟩
  | 5 => ⟨S256x512, .f32⟩
  | 6 => ⟨S1x512, .f32⟩
  | 7 => ⟨S256x512, .f32⟩
  | 8 => ⟨S256x512, .f32⟩
  | 9 => ⟨S256x128, .f32⟩
  | 10 => ⟨S256x128, .f32⟩
  | 11 => ⟨S256x128, .f32⟩
  | 12 => ⟨S256x128, .f32⟩
  | 13 => ⟨S256x128, .f32⟩
  | 14 => ⟨S256x128, .f32⟩
  | 15 => ⟨S_, .f32⟩
  | 16 => ⟨S256x128, .f32⟩
  | 17 => ⟨S256x128, .f32⟩
  | 18 => ⟨S_, .f32⟩
  | 19 => ⟨S256x128, .f32⟩
  | 20 => ⟨S256x128, .f32⟩
  | 21 => ⟨S256x128, .f32⟩
  | 22 => ⟨S256x128, .f32⟩
  | 23 => ⟨S256x128, .f32⟩
  | 24 => ⟨S_, .f32⟩
  | 25 => ⟨S256x128, .f32⟩
  | 26 => ⟨S256x128, .f32⟩
  | 27 => ⟨S_, .f32⟩
  | 28 => ⟨S256x128, .f32⟩
  | 29 => ⟨S256x128, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S_, .f32⟩
  | 36 => ⟨S256x128, .f32⟩
  | 37 => ⟨S256x128, .f32⟩
  | 38 => ⟨S_, .f32⟩
  | 39 => ⟨S256x128, .f32⟩
  | 40 => ⟨S256x128, .f32⟩
  | 41 => ⟨S256x128, .f32⟩
  | 42 => ⟨S256x128, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x128, .f32⟩
  | 52 => ⟨S100000x128, .f32⟩
  | 53 => ⟨S_, .f32⟩
  | 54 => ⟨S100000, .f32⟩
  | 55 => ⟨S1x100000, .f32⟩
  | 56 => ⟨S_, .f32⟩
  | 57 => ⟨S_, .f32⟩
  | 58 => ⟨S256x100000, .f32⟩
  | 59 => ⟨S256x100000, .f32⟩
  | 60 => ⟨S256x100000, .f32⟩
  | 61 => ⟨S_, .f32⟩
  | 62 => ⟨S256, .f32⟩
  | 63 => ⟨S_, .f32⟩
  | 64 => ⟨S256, .f32⟩
  | 65 => ⟨S256, .i1⟩
  | 66 => ⟨S_, .f32⟩
  | 67 => ⟨S_, .f32⟩
  | 68 => ⟨S256, .f32⟩
  | 69 => ⟨S256, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000, .f32⟩
  | 79 => ⟨S100000, .f32⟩
  | 80 => ⟨S100000, .f32⟩
  | 81 => ⟨S_, .f32⟩
  | 82 => ⟨S256, .f32⟩
  | 83 => ⟨S100000x1, .i32⟩
  | 84 => ⟨S256, .f32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S100000, .f32⟩
  | 94 => ⟨S_, .f32⟩
  | 95 => ⟨S100000, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S_, .f32⟩
  | 102 => ⟨S256x128, .f32⟩
  | 103 => ⟨S100000x1, .i32⟩
  | 104 => ⟨S256x128, .f32⟩
  | 105 => ⟨S256x256, .f32⟩
  | 106 => ⟨S256x512, .f32⟩
  | 107 => ⟨S256x512, .f32⟩
  | 108 => ⟨S1x512, .f32⟩
  | 109 => ⟨S256x512, .f32⟩
  | 110 => ⟨S256x512, .f32⟩
  | 111 => ⟨S128x512, .f32⟩
  | 112 => ⟨S256x512, .f32⟩
  | 113 => ⟨S256x512, .f32⟩
  | 114 => ⟨S1x512, .f32⟩
  | 115 => ⟨S256x512, .f32⟩
  | 116 => ⟨S256x512, .f32⟩
  | 117 => ⟨S256x128, .f32⟩
  | 118 => ⟨S256x128, .f32⟩
  | 119 => ⟨S256x128, .f32⟩
  | 120 => ⟨S256x128, .f32⟩
  | 121 => ⟨S256x128, .f32⟩
  | 122 => ⟨S256x128, .f32⟩
  | 123 => ⟨S_, .f32⟩
  | 124 => ⟨S256x128, .f32⟩
  | 125 => ⟨S256x128, .f32⟩
  | 126 => ⟨S_, .f32⟩
  | 127 => ⟨S256x128, .f32⟩
  | _ => ⟨S100000x128, .f32⟩

abbrev hbmTy0_2 (i : Nat) : BufTy := match i % 128 with
  | 0 => ⟨S256x128, .f32⟩
  | 1 => ⟨S256x128, .f32⟩
  | 2 => ⟨S256x128, .f32⟩
  | 3 => ⟨S256x128, .f32⟩
  | 4 => ⟨S_, .f32⟩
  | 5 => ⟨S256x128, .f32⟩
  | 6 => ⟨S256x128, .f32⟩
  | 7 => ⟨S_, .f32⟩
  | 8 => ⟨S256x128, .f32⟩
  | 9 => ⟨S256x128, .f32⟩
  | 10 => ⟨S256x128, .f32⟩
  | 11 => ⟨S256x128, .f32⟩
  | 12 => ⟨S256x128, .f32⟩
  | 13 => ⟨S256x128, .f32⟩
  | 14 => ⟨S256x128, .f32⟩
  | 15 => ⟨S_, .f32⟩
  | 16 => ⟨S256x128, .f32⟩
  | 17 => ⟨S256x128, .f32⟩
  | 18 => ⟨S_, .f32⟩
  | 19 => ⟨S256x128, .f32⟩
  | 20 => ⟨S256x128, .f32⟩
  | 21 => ⟨S256x128, .f32⟩
  | 22 => ⟨S256x128, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .f32⟩
  | 32 => ⟨S100000x128, .f32⟩
  | 33 => ⟨S_, .f32⟩
  | 34 => ⟨S100000, .f32⟩
  | 35 => ⟨S1x100000, .f32⟩
  | 36 => ⟨S_, .f32⟩
  | 37 => ⟨S_, .f32⟩
  | 38 => ⟨S256x100000, .f32⟩
  | 39 => ⟨S256x100000, .f32⟩
  | 40 => ⟨S256x100000, .f32⟩
  | 41 => ⟨S_, .f32⟩
  | 42 => ⟨S256, .f32⟩
  | 43 => ⟨S_, .f32⟩
  | 44 => ⟨S256, .f32⟩
  | 45 => ⟨S256, .i1⟩
  | 46 => ⟨S_, .f32⟩
  | 47 => ⟨S_, .f32⟩
  | 48 => ⟨S256, .f32⟩
  | 49 => ⟨S256, .f32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000, .f32⟩
  | 59 => ⟨S100000, .f32⟩
  | 60 => ⟨S100000, .f32⟩
  | 61 => ⟨S_, .f32⟩
  | 62 => ⟨S256, .f32⟩
  | 63 => ⟨S100000x1, .i32⟩
  | 64 => ⟨S256, .f32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S_, .f32⟩
  | 82 => ⟨S256x128, .f32⟩
  | 83 => ⟨S100000x1, .i32⟩
  | 84 => ⟨S256x128, .f32⟩
  | 85 => ⟨S256x256, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_c_18 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_21 : Ref sig .tc := ⟨.hbm, 143, rfl⟩
abbrev main_v109 : Ref sig .tc := ⟨.hbm, 144, rfl⟩
abbrev main_v110 : Ref sig .tc := ⟨.hbm, 145, rfl⟩
abbrev main_cst_22 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_23 : Ref sig .tc := ⟨.hbm, 152, rfl⟩
abbrev main_v116 : Ref sig .tc := ⟨.hbm, 153, rfl⟩
abbrev main_v117 : Ref sig .tc := ⟨.hbm, 154, rfl⟩
abbrev main_cst_24 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_25 : Ref sig .tc := ⟨.hbm, 163, rfl⟩
abbrev main_v125 : Ref sig .tc := ⟨.hbm, 164, rfl⟩
abbrev main_v126 : Ref sig .tc := ⟨.hbm, 165, rfl⟩
abbrev main_cst_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_c_27 : Ref sig .tc := ⟨.hbm, 171, rfl⟩
abbrev main_v131 : Ref sig .tc := ⟨.hbm, 172, rfl⟩
abbrev main_v132 : Ref sig .tc := ⟨.hbm, 173, rfl⟩
abbrev main_c_28 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_29 : Ref sig .tc := ⟨.hbm, 181, rfl⟩
abbrev main_v139 : Ref sig .tc := ⟨.hbm, 182, rfl⟩
abbrev main_v140 : Ref sig .tc := ⟨.hbm, 183, rfl⟩
abbrev main_cst_30 : Ref sig .tc := ⟨.hbm, 184, rfl⟩
abbrev main_call2_v0 : Ref sig .tc := ⟨.hbm, 185, rfl⟩
abbrev main_call2_v1 : Ref sig .tc := ⟨.hbm, 186, rfl⟩
abbrev main_call2_v2 : Ref sig .tc := ⟨.hbm, 187, rfl⟩
abbrev main_v141 : Ref sig .tc := ⟨.hbm, 188, rfl⟩
abbrev main_cst_31 : Ref sig .tc := ⟨.hbm, 189, rfl⟩
abbrev main_v142 : Ref sig .tc := ⟨.hbm, 190, rfl⟩
abbrev main_cst_32 : Ref sig .tc := ⟨.hbm, 191, rfl⟩
abbrev main_v143 : Ref sig .tc := ⟨.hbm, 192, rfl⟩
abbrev main_v144 : Ref sig .tc := ⟨.hbm, 193, rfl⟩
abbrev main_cst_33 : Ref sig .tc := ⟨.hbm, 194, rfl⟩
abbrev main_call3_v0 : Ref sig .tc := ⟨.hbm, 195, rfl⟩
abbrev main_call3_v1 : Ref sig .tc := ⟨.hbm, 196, rfl⟩
abbrev main_v145 : Ref sig .tc := ⟨.hbm, 197, rfl⟩
abbrev main_c_34 : Ref sig .tc := ⟨.hbm, 198, rfl⟩
abbrev main_v146 : Ref sig .tc := ⟨.hbm, 199, rfl⟩
abbrev main_v147 : Ref sig .tc := ⟨.hbm, 200, rfl⟩
abbrev main_c_35 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_36 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_c_37 : Ref sig .tc := ⟨.hbm, 213, rfl⟩
abbrev main_v158 : Ref sig .tc := ⟨.hbm, 214, rfl⟩
abbrev main_v159 : Ref sig .tc := ⟨.hbm, 215, rfl⟩
abbrev main_c_38 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_cst_39 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_40 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_41 : Ref sig .tc := ⟨.hbm, 251, rfl⟩
abbrev main_v192 : Ref sig .tc := ⟨.hbm, 252, rfl⟩
abbrev main_v193 : Ref sig .tc := ⟨.hbm, 253, rfl⟩
abbrev main_cst_42 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_cst_43 : Ref sig .tc := ⟨.hbm, 260, rfl⟩
abbrev main_v199 : Ref sig .tc := ⟨.hbm, 261, rfl⟩
abbrev main_v200 : Ref sig .tc := ⟨.hbm, 262, rfl⟩
abbrev main_cst_44 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_cst_45 : Ref sig .tc := ⟨.hbm, 271, rfl⟩
abbrev main_v208 : Ref sig .tc := ⟨.hbm, 272, rfl⟩
abbrev main_v209 : Ref sig .tc := ⟨.hbm, 273, rfl⟩
abbrev main_cst_46 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_c_47 : Ref sig .tc := ⟨.hbm, 279, rfl⟩
abbrev main_v214 : Ref sig .tc := ⟨.hbm, 280, rfl⟩
abbrev main_v215 : Ref sig .tc := ⟨.hbm, 281, rfl⟩
abbrev main_c_48 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_cst_49 : Ref sig .tc := ⟨.hbm, 289, rfl⟩
abbrev main_v222 : Ref sig .tc := ⟨.hbm, 290, rfl⟩
abbrev main_v223 : Ref sig .tc := ⟨.hbm, 291, rfl⟩
abbrev main_cst_50 : Ref sig .tc := ⟨.hbm, 292, rfl⟩
abbrev main_call4_v0 : Ref sig .tc := ⟨.hbm, 293, rfl⟩
abbrev main_call4_v1 : Ref sig .tc := ⟨.hbm, 294, rfl⟩
abbrev main_call4_v2 : Ref sig .tc := ⟨.hbm, 295, rfl⟩
abbrev main_v224 : Ref sig .tc := ⟨.hbm, 296, rfl⟩
abbrev main_cst_51 : Ref sig .tc := ⟨.hbm, 297, rfl⟩
abbrev main_v225 : Ref sig .tc := ⟨.hbm, 298, rfl⟩
abbrev main_cst_52 : Ref sig .tc := ⟨.hbm, 299, rfl⟩
abbrev main_v226 : Ref sig .tc := ⟨.hbm, 300, rfl⟩
abbrev main_v227 : Ref sig .tc := ⟨.hbm, 301, rfl⟩
abbrev main_cst_53 : Ref sig .tc := ⟨.hbm, 302, rfl⟩
abbrev main_call5_v0 : Ref sig .tc := ⟨.hbm, 303, rfl⟩
abbrev main_call5_v1 : Ref sig .tc := ⟨.hbm, 304, rfl⟩
abbrev main_v228 : Ref sig .tc := ⟨.hbm, 305, rfl⟩
abbrev main_c_54 : Ref sig .tc := ⟨.hbm, 306, rfl⟩
abbrev main_v229 : Ref sig .tc := ⟨.hbm, 307, rfl⟩
abbrev main_v230 : Ref sig .tc := ⟨.hbm, 308, rfl⟩
abbrev main_c_55 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_cst_56 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_c_57 : Ref sig .tc := ⟨.hbm, 321, rfl⟩
abbrev main_v241 : Ref sig .tc := ⟨.hbm, 322, rfl⟩
abbrev main_v242 : Ref sig .tc := ⟨.hbm, 323, rfl⟩
abbrev main_c_58 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_cst_59 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_cst_60 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩

abbrev nD : Nat := 1
abbrev τ : Topo := Topo.v7x

variable {F : FTy → Type} [FloatOps F]
-- ==== Proof.Logic.lean ====
/-
  A small program logic for the kernel's body. The body's buffers are held by value, one array a buffer, and a program's
  runs are described by plain properties of those arrays: `Runs p s Q` says that `p`, from the arrays `s`, ends with
  a result and arrays that satisfy `Q`.
-/
module

public import proofs.«01_k».proof.Proof.Gen.KernelIdeal.Frame
public import proofs.«01_k».proof.Proof.Gen.KernelIdeal.Skeleton
public import Idealize.ShloMosaic.Lib.VecWindow
public import Idealize.ShloMosaic.Lib.Pointwise.Index
public import Idealize.ShloMosaic.Lib.LoopRemainder

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

/-- The body's nineteen buffers. -/
inductive B where
  | x | bt | tb | tl | nt | wi | wh | bi | bh | o | h | c | q | m | d | u | mb | db | ub
  deriving DecidableEq

instance : Fintype B where
  elems := {.x, .bt, .tb, .tl, .nt, .wi, .wh, .bi, .bh, .o, .h, .c, .q, .m, .d, .u, .mb, .db, .ub}
  complete := fun b => by cases b <;> decide

/-- Where each buffer lies. -/
abbrev B.sp : B → CoreSpace
  | .tb | .tl | .nt => .smem
  | _ => .vmem

/-- The shape of each buffer. -/
abbrev B.sh : B → Shape
  | .x => S100000x128 | .bt => S25x4000 | .tb => S200 | .tl => S200 | .nt => S1
  | .wi => S512x256 | .wh => S512x128 | .bi => S1x512 | .bh => S1x512 | .o => S256x256
  | .h => S288x128 | .c => S256x128 | .q => S256x256 | .m => S288x128 | .d => S288x128 | .u => S288x128
  | .mb => S200x32x1 | .db => S200x32x1 | .ub => S200x32x128

/-- The element type of each buffer. -/
abbrev B.el : B → EltTy
  | .bt | .tb | .tl | .nt => .i32
  | _ => .f32

/-- The arrays that the buffers hold. -/
abbrev Sto (F : FTy → Type) : Type := (b : B) → b.sh.Idx → Elt F b.el

/-- The buffers as operands. -/
abbrev Opd : Type := (b : B) → Memref sig .tc b.sp b.sh b.el

variable (A : Opd) (c : Dev nD)

/-- Every buffer held whole, at the arrays `s`. -/
def Held (s : Sto F) : sProp 𝕄 := bigSep Finset.univ fun b => owns (c : Thread nD τ) (A b) fullShare (s b)

/-- From the arrays `s` the program ends with a result and arrays that satisfy `Q`. -/
def Runs {α : Type} (p : Prog (TpuEff nD τ sig (Elt F) Λ₀ .tc) α) (s : Sto F) (Q : α → Sto F → Prop) : Prop :=
  (Held A c s : sProp 𝕄) ⊢ wp frame (wpE (defs₀ (F := F)) Variants.none (c : Thread nD τ) none) Set.univ p
    (fun a => iprop(∃ s', Held A c s' ∗ ⌜Q a s'⌝))

variable {A c}

/-- A program that returns runs to what holds of its value. -/
theorem Runs.ret {α : Type} {a : α} {s : Sto F} {Q : α → Sto F → Prop} (h : Q a s) : Runs A c (.ret a) s Q := by
  unfold Runs
  iintro H
  rw [wp_ret]
  imodintro
  iexists s
  isplitl [H]
  · iexact H
  · ipureintro; exact h

/-- What follows from what a run leaves holds of the run. -/
theorem Runs.mono {α : Type} {p : Prog (TpuEff nD τ sig (Elt F) Λ₀ .tc) α} {s : Sto F} {Q Q' : α → Sto F → Prop}
    (h : Runs A c p s Q) (hq : ∀ a s', Q a s' → Q' a s') : Runs A c p s Q' := by
  unfold Runs at *
  refine h.trans (wp_mono _ _ _ fun a => ?_)
  iintro ⟨%s', H, %hh⟩
  iexists s'
  isplitl [H]
  · iexact H
  · ipureintro; exact hq a s' hh

/-- Programs run one after the other. -/
theorem Runs.bind {α β : Type} {p : Prog (TpuEff nD τ sig (Elt F) Λ₀ .tc) α} {k : α → Prog (TpuEff nD τ sig (Elt F) Λ₀ .tc) β}
    {s : Sto F} {Q : β → Sto F → Prop} (h : Runs A c p s (fun a s' => Runs A c (k a) s' Q)) : Runs A c (p >>= k) s Q := by
  unfold Runs at *
  rw [wp_bind]
  refine h.trans (wp_mono _ _ _ fun a => ?_)
  iintro ⟨%s', H, %hh⟩
  iapply hh
  iexact H

/-- One buffer taken out of the state, to be put back with other contents. -/
theorem held_take (s : Sto F) (b : B) : (Held A c s : sProp 𝕄)
    ⊢ iprop(owns (c : Thread nD τ) (A b) fullShare (s b) ∗ (∀ w, owns (c : Thread nD τ) (A b) fullShare w -∗ Held A c (Function.update s b w))) := by
  have e : ∀ s' : Sto F, (Held A c s' : sProp 𝕄)
      = iprop(owns (c : Thread nD τ) (A b) fullShare (s' b) ∗ bigSep (Finset.univ.erase b) fun b' => owns (c : Thread nD τ) (A b') fullShare (s' b')) :=
    fun s' => bigSep_erase (Finset.mem_univ b)
  rw [e]
  iintro ⟨H, R⟩
  isplitl [H]
  · iexact H
  · iintro %w Hw
    rw [e, Function.update_self, bigSep_congr (Φ := fun b' => owns (c : Thread nD τ) (A b') fullShare (Function.update s b w b'))
      (Ψ := fun b' => owns (c : Thread nD τ) (A b') fullShare (s b'))
      (fun b' hb' => by rw [Function.update_of_ne (Finset.ne_of_mem_erase hb')])]
    isplitl [Hw]
    · iexact Hw
    · iexact R

/-- A load of a window of a buffer. -/
theorem Runs.load (b : B) {off off' size : Fin b.sh.rank → ℕ} {inb : ∀ a, off a + size a ≤ b.sh.size a} (ho : off = off')
    (inb' : ∀ a, off' a + size a ≤ b.sh.size a)
    {hl : (A b).view.LoadsAt (Rect.unit (s := b.sh) off size inb).toLoadRect} {s : Sto F}
    {Q : ((Rect.unit (s := b.sh) off size inb).shape.Idx → Elt F b.el) → Sto F → Prop}
    (h : Q (window (s b) off' size inb') s) :
    Runs A c (Prog.lift (.load (A b) (Rect.unit off size inb).toLoadRect hl)) s Q := by
  unfold Runs
  refine (held_take s b).trans ?_
  unfold owns
  iintro ⟨⟨%f, %hf, H⟩, R⟩
  iapply (wp_load Variants.none (c : Thread nD τ) none Set.univ (View.setOn_subset_set _ _)) $$ H
  iintro H
  rw [wp_ret]
  imodintro
  iexists s
  isplitl [H R]
  · ispecialize R $$ %(s b)
    rw [Function.update_eq_self]
    iapply R
    iexists f
    isplitr
    · ipureintro; exact hf
    · iexact H
  · ipureintro
    rw [View.readAt_unit _ _ inb ho inb', hf]
    exact h

/-- A store of a window of a buffer. -/
theorem Runs.store (b : B) {off off' size : Fin b.sh.rank → ℕ} {inb : ∀ a, off a + size a ≤ b.sh.size a} (ho : off = off')
    {w : (Rect.unit (s := b.sh) off size inb).shape.Idx → Elt F b.el}
    {hx : ((A b).access (Rect.unit (s := b.sh) off size inb)).Stores Finset.univ} {hm : _} {s : Sto F}
    {Q : PUnit → Sto F → Prop}
    (h : Q ⟨⟩ (Function.update s b (put (s b) off' size w))) :
    Runs A c (Prog.lift (.store (A b) (Rect.unit off size inb) w Finset.univ hx hm)) s Q := by
  subst ho
  unfold Runs
  refine (held_take s b).trans ?_
  unfold owns
  iintro ⟨⟨%f, %hf, H⟩, R⟩
  iapply (wp_store (m := A b) (r := Rect.unit off size inb) (f := f) (w := w) (Mk := Finset.univ) (S := (A b).view.set) (hx := hx) (hm := hm) Variants.none (c : Thread nD τ) none Set.univ (View.set_slice_subset _ _)) $$ H
  iintro H
  rw [wp_ret]
  imodintro
  iexists _
  isplitl [H R]
  · ispecialize R $$ %(put (s b) off size w)
    iapply R
    iexists ((A b).access (Rect.unit off size inb)).write (Elt F) f w Finset.univ
    isplitr
    · ipureintro
      have := View.read_writes_cons_put (A b).view f inb w [] rfl
      rw [← hf]
      exact this
    · iexact H
  · ipureintro
    exact h

/-- A load of one word of a scalar memory that is held. -/
theorem Runs.smem_of {e : EltTy} {sh : Shape} (m : Memref sig .tc .smem sh e) (X : sh.Idx → Elt F e) {r : Rect sh}
    {h1 : r.shape.numel = 1} {hp : e.packing = 1} {s : Sto F} {Q : Elt F e → Sto F → Prop}
    (take : (Held A c s : sProp 𝕄) ⊢ iprop(owns (c : Thread nD τ) m fullShare X ∗ (owns (c : Thread nD τ) m fullShare X -∗ Held A c s)))
    (h : Q (X (r.emb (Shape.Idx.first (h1.symm ▸ Nat.one_pos)))) s) :
    Runs A c (smemLoad m r h1 hp) s Q := by
  unfold Runs
  refine take.trans ?_
  unfold owns
  iintro ⟨⟨%f, %hf, H⟩, R⟩
  unfold smemLoad
  iapply (wp_smemLoadElt (m := m) (r := r) (f := f) (S := m.view.set) Variants.none (c : Thread nD τ) none Set.univ (View.set_slice_subset _ _)) $$ H
  iintro H
  rw [wp_ret]
  imodintro
  iexists s
  isplitl [H R]
  · iapply R
    iexists f
    isplitr
    · ipureintro; exact hf
    · iexact H
  · ipureintro
    rw [← hf] at h
    exact h

/-- One buffer taken out of the state, to be put back as it was. -/
theorem held_keep (s : Sto F) (b : B) : (Held A c s : sProp 𝕄)
    ⊢ iprop(owns (c : Thread nD τ) (A b) fullShare (s b) ∗ (owns (c : Thread nD τ) (A b) fullShare (s b) -∗ Held A c s)) := by
  refine (held_take s b).trans ?_
  iintro ⟨H, R⟩
  isplitl [H]
  · iexact H
  · iintro H
    ispecialize R $$ %(s b)
    rw [Function.update_eq_self]
    iapply R
    iexact H

/-- The element that a one-word rectangle of a vector names. -/
theorem word_at {n : ℕ} (off size : Fin 1 → ℕ) (inb : ∀ a, off a + size a ≤ (⟨1, ![n]⟩ : Shape).size a)
    (h1 : (Rect.unit (s := ⟨1, ![n]⟩) off size inb).shape.numel = 1) (t : Fin n) (ht : off = ![t.val]) :
    (Rect.unit (s := ⟨1, ![n]⟩) off size inb).emb (Shape.Idx.first (h1.symm ▸ Nat.one_pos)) = ix1 t := by
  subst ht
  funext a
  have ha : a = 0 := Subsingleton.elim _ _
  subst ha
  apply Fin.ext
  show t.val + 1 * 0 = t.val
  omega

/-- A load of a word of the table of blocks. -/
theorem Runs.smem_tb {off size : Fin 1 → ℕ} {inb : ∀ a, off a + size a ≤ S200.size a} {h1 : (Rect.unit (s := S200) off size inb).shape.numel = 1}
    {hp : EltTy.i32.packing = 1} {s : Sto F} {Q : BitVec 32 → Sto F → Prop} {t : Fin 200} (ht : off = ![t.val])
    (h : Q (s .tb (ix1 t)) s) :
    Runs A c (smemLoad (A .tb) (Rect.unit (s := S200) off size inb) h1 hp) s Q :=
  Runs.smem_of (A .tb) (s .tb) (held_keep s .tb) (by
    rw [word_at off size inb h1 t ht]
    exact h)

/-- A load of a word of the table of windows. -/
theorem Runs.smem_tl {off size : Fin 1 → ℕ} {inb : ∀ a, off a + size a ≤ S200.size a} {h1 : (Rect.unit (s := S200) off size inb).shape.numel = 1}
    {hp : EltTy.i32.packing = 1} {s : Sto F} {Q : BitVec 32 → Sto F → Prop} {t : Fin 200} (ht : off = ![t.val])
    (h : Q (s .tl (ix1 t)) s) :
    Runs A c (smemLoad (A .tl) (Rect.unit (s := S200) off size inb) h1 hp) s Q :=
  Runs.smem_of (A .tl) (s .tl) (held_keep s .tl) (by
    rw [word_at off size inb h1 t ht]
    exact h)

/-- A load of the count of the tables' rows. -/
theorem Runs.smem_nt {off size : Fin 1 → ℕ} {inb : ∀ a, off a + size a ≤ S1.size a} {h1 : (Rect.unit (s := S1) off size inb).shape.numel = 1}
    {hp : EltTy.i32.packing = 1} {s : Sto F} {Q : BitVec 32 → Sto F → Prop} (ht : off = ![0])
    (h : Q (s .nt (ix1 0)) s) :
    Runs A c (smemLoad (A .nt) (Rect.unit (s := S1) off size inb) h1 hp) s Q :=
  Runs.smem_of (A .nt) (s .nt) (held_keep s .nt) (by
    rw [word_at (n := 1) off size inb h1 0 ht]
    exact h)

/-- A side condition that holds. -/
theorem Runs.assume {P : Prop} {d : Decidable P} {s : Sto F} {Q : PLift P → Sto F → Prop} (h : P) (hQ : Q ⟨h⟩ s) :
    Runs A c (Prog.lift (TpuEff.assume P d)) s Q := by
  unfold Runs
  iintro H
  iapply (wp_assume Variants.none (c : Thread nD τ) none Set.univ h)
  rw [wp_ret]
  imodintro
  iexists s
  isplitl [H]
  · iexact H
  · ipureintro; exact hQ

/-- A counted loop under an invariant that is a property of the trip number and of the arrays. -/
theorem Runs.for {σ : Type} {lb ub st : BitVec 32} {hok : Scf.OK lb ub st} {init : σ}
    {body : Fin (Scf.trips lb ub st) → σ → Prog (TpuEff nD τ sig (Elt F) Λ₀ .tc) σ} (Inv : ℕ → Sto F → Prop)
    {s : Sto F} {Q : σ → Sto F → Prop} (h0 : Inv 0 s)
    (step : ∀ (k : Fin (Scf.trips lb ub st)) acc s', Inv k.val s' → Runs A c (body k acc) s' (fun _ s'' => Inv (k.val + 1) s''))
    (hQ : ∀ acc s', Inv (Scf.trips lb ub st) s' → Q acc s') :
    Runs A c (Scf.for lb ub st hok init body) s Q := by
  unfold Runs at *
  iintro H
  iapply (Scf.wp_for frame (wpE (defs₀ (F := F)) Variants.none (c : Thread nD τ) none) Set.univ lb ub st hok init body
    (fun k _ => iprop(∃ s', Held A c s' ∗ ⌜Inv k s'⌝)) (fun k acc => by
      iintro ⟨%s', H, %hs⟩
      iapply (step k acc s' hs)
      iexact H))
  isplitl [H]
  · iexists s
    isplitl [H]
    · iexact H
    · ipureintro; exact h0
  · iintro %acc ⟨%s', H, %hs⟩
    iexists s'
    isplitl [H]
    · iexact H
    · ipureintro; exact hQ acc s' hs

end Cert.Proof
-- ==== Proof.Steps.lean ====
/-
  The kernel's three loops. A trip of each is described by a relation between the arrays before it and the arrays after it:
  `Sweep` for the pass over the nodes (it writes one row of the partial maxima, sums and weighted sums), `MaxStep` for the
  pass that folds the partial maxima, `AddStep` for the pass that adds the partial sums.
-/
module

public import proofs.«01_k».proof.Proof.Logic

@[expose] public section

noncomputable section

namespace Cert.Proof

open Cert.KernelIdeal Cert.KernelIdeal.Gen
open Idealize.ShloMosaic Idealize.ShloMosaic.TcCoe Idealize.ShloMosaic.Tactic
open Idealize.SL Idealize.SL.Sem
open Idealize.ShloMosaic.VecWindow (window put)

variable {F : FTy → Type} [FloatOps F] [Named F]

/-! ## Bounds of the windows -/

/-- A row of the stored maxima or sums is in bounds. -/
theorem inb_row1 (t : Fin 200) : ∀ a, (![t.val, 0, 0] : Fin 3 → ℕ) a + S1x32x1.size a ≤ S200x32x1.size a := by
  intro a; have := t.isLt; fin_cases a <;> simp <;> omega

/-- A row of the stored weighted sums is in bounds. -/
theorem inb_row128 (t : Fin 200) : ∀ a, (![t.val, 0, 0] : Fin 3 → ℕ) a + S1x32x128.size a ≤ S200x32x128.size a := by
  intro a; have := t.isLt; fin_cases a <;> simp <;> omega

/-- A block of nodes is in bounds. -/
theorem inb_x {b : ℕ} (h : b < 25) : ∀ a, (![b * 4000, 0] : Fin 2 → ℕ) a + S4000x128.size a ≤ S100000x128.size a := by
  intro a; fin_cases a <;> simp; omega

/-- A block of graphs is in bounds. -/
theorem inb_bt {b : ℕ} (h : b < 25) : ∀ a, (![b, 0] : Fin 2 → ℕ) a + S1x4000.size a ≤ S25x4000.size a := by
  intro a; fin_cases a <;> simp; omega

/-- A window of the queries or weighted sums is in bounds. -/
theorem inb_w128 {l : ℕ} (h : l ≤ 256) : ∀ a, (![l, 0] : Fin 2 → ℕ) a + S32x128.size a ≤ S288x128.size a := by
  intro a; fin_cases a <;> simp; omega

/-- A window of the maxima or sums is in bounds. -/
theorem inb_w1 {l : ℕ} (h : l ≤ 256) : ∀ a, (![l, 0] : Fin 2 → ℕ) a + S32x1.size a ≤ S288x128.size a := by
  intro a; fin_cases a <;> simp; omega

/-! ## Offsets -/

/-- A block's first node. -/
theorem off_mul {v : BitVec 32} (h : v.toNat < 25) : (Scalar.muli v 4000#32).toNat = v.toNat * 4000 := by
  show (v * 4000#32).toNat = _
  rw [BitVec.toNat_mul]
  simp
  omega

/-- The number of trips is the count. -/
theorem ub_eq (v : BitVec 32) : Scalar.addi 0#32 (Scalar.muli (Scalar.divsi (Scalar.subi v 0#32) 1#32) 1#32) = v := by
  rw [Scalar.muli_divsi_one]
  show 0#32 + (v - 0#32) = v
  simp

/-- A loop from 0 to `v` by steps of 1 makes `v` trips. -/
theorem trips_of {v : BitVec 32} (h : v.toNat ≤ 200) : (k0_t1_loop v).trips = v.toNat := by
  show Scf.trips 0#32 (Scalar.addi 0#32 (Scalar.muli (Scalar.divsi (Scalar.subi v 0#32) 1#32) 1#32)) 1#32 = _
  rw [ub_eq]
  unfold Scf.trips
  rw [BitVec.toInt_eq_toNat_of_lt (x := v) (by omega)]
  have h0 : (0#32 : BitVec 32).toInt = 0 := by decide
  have h1 : (1#32 : BitVec 32).toInt = 1 := by decide
  rw [h0, h1]
  omega

/-- A loop of at most 200 trips is well formed. -/
theorem ok_of {v : BitVec 32} (h : v.toNat ≤ 200) : (k0_t1_loop v).OK := by
  have ht := trips_of h
  have h0 : (0#32 : BitVec 32).toInt = 0 := by decide
  have h1 : (1#32 : BitVec 32).toInt = 1 := by decide
  refine ⟨by show 0 < (1#32 : BitVec 32).toInt; decide, ?_⟩
  show (0#32 : BitVec 32).toInt + ((k0_t1_loop v).trips : ℤ) * (1#32 : BitVec 32).toInt < _
  rw [ht, h0, h1]
  have : ((v.toNat : ℕ) : ℤ) ≤ 200 := by exact_mod_cast h
  norm_num
  omega

/-- The counter of a trip is its number. -/
theorem iv_off {n : ℕ} (h : n < 200) : (Scalar.indexCast (Scf.iv 0#32 1#32 n)).toNat = n := by
  show (0#32 + BitVec.ofNat 32 n * 1#32).toNat = n
  simp
  omega

/-! ## The relations -/

/-- The tables name at most 200 pairs, each of one of the 25 blocks of nodes and of a window of 32 of the 288 rows. -/
structure TabOK (s : Sto F) : Prop where
  len : (s .nt (ix1 0)).toNat ≤ 200
  tb : ∀ t : Fin 200, t.val < (s .nt (ix1 0)).toNat → (s .tb (ix1 t)).toNat < 25
  tl : ∀ t : Fin 200, t.val < (s .nt (ix1 0)).toNat → (s .tl (ix1 t)).toNat ≤ 256

/-- The pass over the nodes, trip `t`: row `t` of the partial results is written from block `tb t` and window `tl t`. -/
def Sweep (t : Fin 200) (s s' : Sto F) : Prop :=
  ∃ (hb : (s .tb (ix1 t)).toNat < 25) (hl : (s .tl (ix1 t)).toNat ≤ 256),
    let tl := s .tl (ix1 t)
    let x := window (s .x) ![(s .tb (ix1 t)).toNat * 4000, 0] S4000x128.size (inb_x hb)
    let bt := window (s .bt) ![(s .tb (ix1 t)).toNat, 0] S1x4000.size (inb_bt hb)
    let h := window (s .h) ![(s .tl (ix1 t)).toNat, 0] S32x128.size (inb_w128 hl)
    s' = Function.update (Function.update (Function.update s
      .mb (put (s .mb) ![t.val, 0, 0] S1x32x1.size (k0_pay7 tl x bt h)))
      .db (put (s .db) ![t.val, 0, 0] S1x32x1.size (k0_pay55 (k0_pay5 tl x bt h))))
      .ub (put (s .ub) ![t.val, 0, 0] S1x32x128.size (k0_pay56 (k0_pay6 tl x bt h)))

/-- The fold of the maxima, trip `t`: the window `tl t` of the maxima meets row `t` of the partial maxima. -/
def MaxStep (t : Fin 200) (s s' : Sto F) : Prop :=
  ∃ (hl : (s .tl (ix1 t)).toNat ≤ 256),
    let m := window (s .m) ![(s .tl (ix1 t)).toNat, 0] S32x1.size (inb_w1 hl)
    s' = Function.update s .m (put (s .m) ![(s .tl (ix1 t)).toNat, 0] S32x1.size
      (k0_pay59 m (window (s .mb) ![t.val, 0, 0] S1x32x1.size (inb_row1 t))))

/-- The sums, trip `t`: row `t` of the partial sums, rescaled, is added into the window `tl t`. -/
def AddStep (t : Fin 200) (s s' : Sto F) : Prop :=
  ∃ (hl : (s .tl (ix1 t)).toNat ≤ 256),
    let l := (s .tl (ix1 t)).toNat
    let mb := window (s .mb) ![t.val, 0, 0] S1x32x1.size (inb_row1 t)
    let m := window (s .m) ![l, 0] S32x1.size (inb_w1 hl)
    s' = Function.update (Function.update s
      .d (put (s .d) ![l, 0] S32x1.size
        (k0_pay63 mb m (window (s .d) ![l, 0] S32x1.size (inb_w1 hl)) (window (s .db) ![t.val, 0, 0] S1x32x1.size (inb_row1 t)))))
      .u (put (s .u) ![l, 0] S32x128.size
        (k0_pay64 mb m (window (s .u) ![l, 0] S32x128.size (inb_w128 hl)) (window (s .ub) ![t.val, 0, 0] S1x32x128.size (inb_row128 t))))

/-- The arrays reached from `s` by the first `k` trips of a loop whose trips are described by `R`. -/
inductive Iter (R : Fin 200 → Sto F → Sto F → Prop) (s : Sto F) : ℕ → Sto F → Prop
  | zero : Iter R s 0 s
  | succ {k : ℕ} {s' s'' : Sto F} (hk : k < 200) : Iter R s k s' → R ⟨k, hk⟩ s' s'' → Iter R s (k + 1) s''

variable {A : Opd} {c : Dev nD} (W : ∀ b, (A b).IsWhole)

/-! ## One trip -/

/-- A trip of the sweeps runs. -/
theorem sweep_trip (v14 : Vec F S256x128 .f32) (v27 : FVec F S256x512 .f32) (v29 v31 : FVec F S256x128 .f32) (v : BitVec 32) (hw : k0_chk1 v)
    (k : Fin (k0_t1_loop v).trips) (acc : BitVec 32) (s : Sto F) (hk : k.val < 200)
    (hb : (s .tb (ix1 ⟨k.val, hk⟩)).toNat < 25) (hl : (s .tl (ix1 ⟨k.val, hk⟩)).toNat ≤ 256) :
    Runs A c (k0_t1_body (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v14 v27 v29 v31 v hw k acc) s (fun _ s' => Sweep ⟨k.val, hk⟩ s s') := by
  have e1 : k0_off1 v k = ![k.val] := congrArg (fun n => (![n] : Fin 1 → ℕ)) (iv_off hk)
  have e5 : k0_off5 v k = ![k.val, 0, 0] := congrArg (fun n => (![n, 0, 0] : Fin 3 → ℕ)) (iv_off hk)
  have e6 : k0_off6 v k = ![k.val, 0, 0] := congrArg (fun n => (![n, 0, 0] : Fin 3 → ℕ)) (iv_off hk)
  have e2 : k0_off2 (s .tb (ix1 ⟨k.val, hk⟩)) = ![(s .tb (ix1 ⟨k.val, hk⟩)).toNat * 4000, 0] := congrArg (fun n => (![n, 0] : Fin 2 → ℕ)) (off_mul hb)
  have e3 : k0_off3 (s .tb (ix1 ⟨k.val, hk⟩)) = ![(s .tb (ix1 ⟨k.val, hk⟩)).toNat, 0] := rfl
  have e4 : k0_off4 (s .tl (ix1 ⟨k.val, hk⟩)) = ![(s .tl (ix1 ⟨k.val, hk⟩)).toNat, 0] := rfl
  have c2 : k0_chk2 (s .tb (ix1 ⟨k.val, hk⟩)) := ⟨by rw [e2]; exact inb_x hb, inb_bt hb⟩
  have c3 : k0_chk3 (s .tl (ix1 ⟨k.val, hk⟩)) := inb_w128 hl
  unfold k0_t1_body
  refine Runs.bind ?_
  rw [k0_part1_eq_skeleton]
  unfold k0_part1_skel
  refine Runs.bind (Runs.smem_tb (t := ⟨k.val, hk⟩) e1 (Runs.bind (Runs.assume c2 (Runs.bind (Runs.smem_tl (t := ⟨k.val, hk⟩) e1 (Runs.bind (Runs.assume c3 ?_)))))))
  refine Runs.bind (Runs.load .x e2 (inb_x hb) ?_)
  refine Runs.bind (Runs.load .bt e3 (inb_bt hb) ?_)
  refine Runs.bind (Runs.load .h e4 (inb_w128 hl) ?_)
  refine Runs.bind (Runs.load .mb e5 (inb_row1 ⟨k.val, hk⟩) ?_)
  refine Runs.bind (Runs.store .mb e5 ?_)
  refine Runs.bind (Runs.load .db e5 (inb_row1 ⟨k.val, hk⟩) ?_)
  refine Runs.ret ?_
  refine Runs.bind (Runs.store .db e5 ?_)
  refine Runs.bind (Runs.load .ub e6 (inb_row128 ⟨k.val, hk⟩) ?_)
  refine Runs.bind (Runs.store .ub e6 ?_)
  exact Runs.ret ⟨hb, hl, rfl⟩

/-- A trip of the maxima runs. -/
theorem max_trip (v40 : FVec F S256x128 .f32) (v : BitVec 32) (hw : k0_chk6 v) (a0 a1 a2 a3 : BitVec 32)
    (k : Fin (k0_t3_loop v).trips) (acc : BitVec 32) (s : Sto F) (hk : k.val < 200) (hl : (s .tl (ix1 ⟨k.val, hk⟩)).toNat ≤ 256) :
    Runs A c (k0_t3_body (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v40 v hw a0 a1 a2 a3 k acc) s (fun _ s' => MaxStep ⟨k.val, hk⟩ s s') := by
  have e1 : k0_off13 v k = ![k.val] := congrArg (fun n => (![n] : Fin 1 → ℕ)) (iv_off hk)
  have e5 : k0_off15 v k = ![k.val, 0, 0] := congrArg (fun n => (![n, 0, 0] : Fin 3 → ℕ)) (iv_off hk)
  have e4 : k0_off14 (s .tl (ix1 ⟨k.val, hk⟩)) = ![(s .tl (ix1 ⟨k.val, hk⟩)).toNat, 0] := rfl
  have c3 : k0_chk7 (s .tl (ix1 ⟨k.val, hk⟩)) := inb_w1 hl
  unfold k0_t3_body
  refine Runs.bind (Runs.smem_tl (t := ⟨k.val, hk⟩) e1 (Runs.bind (Runs.assume c3 ?_)))
  refine Runs.bind (Runs.load .m e4 (inb_w1 hl) ?_)
  refine Runs.bind (Runs.load .mb e5 (inb_row1 ⟨k.val, hk⟩) ?_)
  refine Runs.bind (Runs.load .m e4 (inb_w1 hl) ?_)
  refine Runs.bind (Runs.store .m e4 ?_)
  exact Runs.ret ⟨hl, rfl⟩

/-- A trip of the sums runs. -/
theorem add_trip (v40 : FVec F S256x128 .f32) (v63 : BitVec 32) (hw6 : k0_chk6 v63) (a0 a1 a2 a3 : BitVec 32) (v : BitVec 32) (hw : k0_chk9 v)
    (k : Fin (k0_t5_loop v).trips) (acc : BitVec 32) (s : Sto F) (hk : k.val < 200) (hl : (s .tl (ix1 ⟨k.val, hk⟩)).toNat ≤ 256) :
    Runs A c (k0_t5_body (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v40 v63 hw6 a0 a1 a2 a3 v hw k acc) s (fun _ s' => AddStep ⟨k.val, hk⟩ s s') := by
  have e1 : k0_off19 v k = ![k.val] := congrArg (fun n => (![n] : Fin 1 → ℕ)) (iv_off hk)
  have e5 : k0_off20 v k = ![k.val, 0, 0] := congrArg (fun n => (![n, 0, 0] : Fin 3 → ℕ)) (iv_off hk)
  have e6 : k0_off22 v k = ![k.val, 0, 0] := congrArg (fun n => (![n, 0, 0] : Fin 3 → ℕ)) (iv_off hk)
  have e7 : k0_off24 v k = ![k.val, 0, 0] := congrArg (fun n => (![n, 0, 0] : Fin 3 → ℕ)) (iv_off hk)
  have e4 : k0_off21 (s .tl (ix1 ⟨k.val, hk⟩)) = ![(s .tl (ix1 ⟨k.val, hk⟩)).toNat, 0] := rfl
  have e8 : k0_off23 (s .tl (ix1 ⟨k.val, hk⟩)) = ![(s .tl (ix1 ⟨k.val, hk⟩)).toNat, 0] := rfl
  have c3 : k0_chk10 (s .tl (ix1 ⟨k.val, hk⟩)) := ⟨inb_w1 hl, inb_w128 hl⟩
  unfold k0_t5_body
  refine Runs.bind (Runs.smem_tl (t := ⟨k.val, hk⟩) e1 (Runs.bind (Runs.assume c3 ?_)))
  refine Runs.bind (Runs.load .mb e5 (inb_row1 ⟨k.val, hk⟩) ?_)
  refine Runs.bind (Runs.load .m e4 (inb_w1 hl) ?_)
  refine Runs.bind (Runs.load .d e4 (inb_w1 hl) ?_)
  refine Runs.bind (Runs.load .db e6 (inb_row1 ⟨k.val, hk⟩) ?_)
  refine Runs.bind (Runs.load .d e4 (inb_w1 hl) ?_)
  refine Runs.bind (Runs.store .d e4 ?_)
  refine Runs.bind (Runs.load .u e8 (inb_w128 hl) ?_)
  refine Runs.bind (Runs.load .ub e7 (inb_row128 ⟨k.val, hk⟩) ?_)
  refine Runs.bind (Runs.load .u e8 (inb_w128 hl) ?_)
  refine Runs.bind (Runs.store .u e8 ?_)
  exact Runs.ret ⟨hl, rfl⟩

/-! ## The loops -/

/-- What no trip of any loop writes. -/
def Keeps (s s' : Sto F) : Prop :=
  ∀ b, b ≠ .mb → b ≠ .db → b ≠ .ub → b ≠ .m → b ≠ .d → b ≠ .u → s' b = s b

/-- A sweep keeps the inputs. -/
theorem Sweep.keeps {t : Fin 200} {s s' : Sto F} (h : Sweep t s s') : Keeps s s' := by
  obtain ⟨_, _, rfl⟩ := h
  intro b h1 h2 h3 _ _ _
  rw [Function.update_of_ne h3, Function.update_of_ne h2, Function.update_of_ne h1]

/-- A step of the maxima keeps the inputs. -/
theorem MaxStep.keeps {t : Fin 200} {s s' : Sto F} (h : MaxStep t s s') : Keeps s s' := by
  obtain ⟨_, rfl⟩ := h
  intro b _ _ _ h4 _ _
  rw [Function.update_of_ne h4]

/-- A step of the sums keeps the inputs. -/
theorem AddStep.keeps {t : Fin 200} {s s' : Sto F} (h : AddStep t s s') : Keeps s s' := by
  obtain ⟨_, rfl⟩ := h
  intro b _ _ _ _ h5 h6
  rw [Function.update_of_ne h6, Function.update_of_ne h5]

/-- Any number of trips that keep the inputs keep them. -/
theorem Iter.keeps {R : Fin 200 → Sto F → Sto F → Prop} (hR : ∀ t s s', R t s s' → Keeps s s') {s s' : Sto F} {k : ℕ} (h : Iter R s k s') :
    Keeps s s' := by
  induction h with
  | zero => intro b _ _ _ _ _ _; rfl
  | succ hk _ hr ih => intro b h1 h2 h3 h4 h5 h6; rw [hR _ _ _ hr b h1 h2 h3 h4 h5 h6, ih b h1 h2 h3 h4 h5 h6]

/-- What keeps the inputs keeps the tables in bounds. -/
theorem TabOK.keep {s s' : Sto F} (h : TabOK s) (k : Keeps s s') : TabOK s' := by
  have e1 := k .nt (by decide) (by decide) (by decide) (by decide) (by decide) (by decide)
  have e2 := k .tb (by decide) (by decide) (by decide) (by decide) (by decide) (by decide)
  have e3 := k .tl (by decide) (by decide) (by decide) (by decide) (by decide) (by decide)
  refine ⟨by rw [e1]; exact h.len, fun t => by rw [e1, e2]; exact h.tb t, fun t => by rw [e1, e3]; exact h.tl t⟩

/-- A loop whose trips are described by `R`. -/
theorem loop_run {v : BitVec 32} (hok : (k0_t1_loop v).OK) {init : BitVec 32}
    {body : Fin (k0_t1_loop v).trips → BitVec 32 → Prog (TpuEff nD τ sig (Elt F) Λ₀ .tc) (BitVec 32)}
    (R : Fin 200 → Sto F → Sto F → Prop) (hR : ∀ t s s', R t s s' → Keeps s s') {s : Sto F} (hT : TabOK s) (hv : v = s .nt (ix1 0))
    (trip : ∀ (k : Fin (k0_t1_loop v).trips) acc s' (hk : k.val < 200), TabOK s' → k.val < (s' .nt (ix1 0)).toNat →
      Runs A c (body k acc) s' (fun _ s'' => R ⟨k.val, hk⟩ s' s''))
    {Q : BitVec 32 → Sto F → Prop} (hQ : ∀ acc s', Iter R s (s .nt (ix1 0)).toNat s' → Q acc s') :
    Runs A c (Scf.Loop.for (k0_t1_loop v) hok init body) s Q := by
  have hn : (k0_t1_loop v).trips = (s .nt (ix1 0)).toNat := by rw [← hv]; exact trips_of (by rw [hv]; exact hT.len)
  refine Runs.for (fun k s' => Iter R s k s') .zero (fun k acc s' hs => ?_) (fun acc s' hs => hQ acc s' ?_)
  · have hk : k.val < (s .nt (ix1 0)).toNat := lt_of_lt_of_eq k.isLt hn
    have hk' : k.val < 200 := lt_of_lt_of_le hk hT.len
    have kp := hs.keeps hR
    have e1 := kp .nt (by decide) (by decide) (by decide) (by decide) (by decide) (by decide)
    exact (trip k acc s' hk' (hT.keep kp) (by rw [e1]; exact hk)).mono fun _ s'' h => .succ hk' hs h
  · rw [← hn]; exact hs

/-- A loop left over by the unrolling makes no trip. -/
theorem rem_run {v : BitVec 32} (hok : (k0_t2_loop v).OK) {init : BitVec 32}
    {body : Fin (k0_t2_loop v).trips → BitVec 32 → Prog (TpuEff nD τ sig (Elt F) Λ₀ .tc) (BitVec 32)} {s : Sto F}
    {Q : BitVec 32 → Sto F → Prop} (hQ : Q init s) : Runs A c (Scf.Loop.for (k0_t2_loop v) hok init body) s Q := by
  have e : Scf.Loop.for (k0_t2_loop v) hok init body = .ret init := Idealize.ShloMosaic.Scf.for_rem_eq 0#32 (Scalar.subi v 0#32) hok init body
  rw [e]
  exact Runs.ret hQ

/-- A count of at most 200 passes the checks of the loops. -/
theorem chk_of {v : BitVec 32} (h : v.toNat ≤ 200) : k0_chk1 v ∧ k0_chk6 v ∧ k0_chk9 v := by
  have r : ∀ k : Fin (k0_t2_loop v).trips, False := fun k => Scf.rem_no_trip 0#32 (Scalar.subi v 0#32) k
  have rok : (k0_t2_loop v).OK := Scf.rem_ok 0#32 (Scalar.subi v 0#32)
  have hk : ∀ k : Fin (k0_t1_loop v).trips, k.val < 200 := fun k => lt_of_lt_of_le (lt_of_lt_of_eq k.isLt (trips_of h)) h
  have w1 : ∀ k : Fin (k0_t1_loop v).trips, ∀ a, (k0_off1 v k) a + S1.size a ≤ S200.size a := fun k a => by
    have e1 : k0_off1 v k = ![k.val] := congrArg (fun n => (![n] : Fin 1 → ℕ)) (iv_off (hk k))
    have := hk k
    rw [e1]; fin_cases a; simp; omega
  have w5 : ∀ k : Fin (k0_t1_loop v).trips, ∀ a, (k0_off5 v k) a + S1x32x1.size a ≤ S200x32x1.size a := fun k => by
    have e5 : k0_off5 v k = ![k.val, 0, 0] := congrArg (fun n => (![n, 0, 0] : Fin 3 → ℕ)) (iv_off (hk k))
    rw [e5]; exact inb_row1 ⟨k.val, hk k⟩
  have w6 : ∀ k : Fin (k0_t1_loop v).trips, ∀ a, (k0_off6 v k) a + S1x32x128.size a ≤ S200x32x128.size a := fun k => by
    have e5 : k0_off6 v k = ![k.val, 0, 0] := congrArg (fun n => (![n, 0, 0] : Fin 3 → ℕ)) (iv_off (hk k))
    rw [e5]; exact inb_row128 ⟨k.val, hk k⟩
  exact ⟨⟨ok_of h, w1, w5, w6, rok, fun k => (r k).elim, fun k => (r k).elim, fun k => (r k).elim⟩,
    ⟨ok_of h, w1, w5, rok, fun k => (r k).elim, fun k => (r k).elim⟩,
    ⟨ok_of h, w1, w5, w5, w6, rok, fun k => (r k).elim, fun k => (r k).elim, fun k => (r k).elim, fun k => (r k).elim⟩⟩

/-- The loop of the sweeps runs. -/
theorem sweep_loop (v14 : Vec F S256x128 .f32) (v27 : FVec F S256x512 .f32) (v29 v31 : FVec F S256x128 .f32) (v : BitVec 32) (hw : k0_chk1 v)
    (hok : (k0_t1_loop v).OK) {init : BitVec 32} {s : Sto F} (hT : TabOK s) (hv : v = s .nt (ix1 0)) {Q : BitVec 32 → Sto F → Prop}
    (hQ : ∀ acc s', Iter Sweep s (s .nt (ix1 0)).toNat s' → Q acc s') :
    Runs A c (Scf.Loop.for (k0_t1_loop v) hok init (k0_t1_body (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v14 v27 v29 v31 v hw)) s Q :=
  loop_run hok Sweep (fun _ _ _ h => h.keeps) hT hv
    (fun k acc s' hk hT' hk' => sweep_trip W v14 v27 v29 v31 v hw k acc s' hk (hT'.tb _ hk') (hT'.tl _ hk')) hQ

/-- The loop of the maxima runs. -/
theorem max_loop (v40 : FVec F S256x128 .f32) (v : BitVec 32) (hw : k0_chk6 v) (a0 a1 a2 a3 : BitVec 32)
    (hok : (k0_t3_loop v).OK) {init : BitVec 32} {s : Sto F} (hT : TabOK s) (hv : v = s .nt (ix1 0)) {Q : BitVec 32 → Sto F → Prop}
    (hQ : ∀ acc s', Iter MaxStep s (s .nt (ix1 0)).toNat s' → Q acc s') :
    Runs A c (Scf.Loop.for (k0_t3_loop v) hok init (k0_t3_body (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v40 v hw a0 a1 a2 a3)) s Q :=
  loop_run hok MaxStep (fun _ _ _ h => h.keeps) hT hv
    (fun k acc s' hk hT' hk' => max_trip W v40 v hw a0 a1 a2 a3 k acc s' hk (hT'.tl _ hk')) hQ

/-- The loop of the sums runs. -/
theorem add_loop (v40 : FVec F S256x128 .f32) (v63 : BitVec 32) (hw6 : k0_chk6 v63) (a0 a1 a2 a3 : BitVec 32) (v : BitVec 32) (hw : k0_chk9 v)
    (hok : (k0_t5_loop v).OK) {init : BitVec 32} {s : Sto F} (hT : TabOK s) (hv : v = s .nt (ix1 0)) {Q : BitVec 32 → Sto F → Prop}
    (hQ : ∀ acc s', Iter AddStep s (s .nt (ix1 0)).toNat s' → Q acc s') :
    Runs A c (Scf.Loop.for (k0_t5_loop v) hok init (k0_t5_body (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v40 v63 hw6 a0 a1 a2 a3 v hw)) s Q :=
  loop_run hok AddStep (fun _ _ _ h => h.keeps) hT hv
    (fun k acc s' hk hT' hk' => add_trip W v40 v63 hw6 a0 a1 a2 a3 v hw k acc s' hk (hT'.tl _ hk')) hQ

end Cert.Proof
-- ==== Proof.Run.lean ====
/-
  The kernel's body, run from its buffers' arrays: `Init` sets the state to zero, `Step` is one of the three steps, and the
  body's end is described by `Kern`.
-/
module

public import proofs.«01_k».proof.Proof.Steps

@[expose] public section

noncomputable section

namespace Cert.Proof

open Cert.KernelIdeal Cert.KernelIdeal.Gen
open Idealize.ShloMosaic Idealize.ShloMosaic.TcCoe Idealize.ShloMosaic.Tactic
open Idealize.SL Idealize.SL.Sem
open Idealize.ShloMosaic.VecWindow (window put)

variable {F : FTy → Type} [FloatOps F] [Named F]

/-- The number of rows of the tables. -/
def cnt (s : Sto F) : ℕ := (s .nt (ix1 0)).toNat

/-- The state set to zero. -/
def Init (s : Sto F) : Sto F :=
  Function.update (Function.update (Function.update s
    .h (put (s .h) ![0, 0] S288x128.size (k0_pay43 (F := F))))
    .c (put (s .c) ![0, 0] S256x128.size (k0_pay44 (F := F))))
    .q (put (s .q) ![0, 0] S256x256.size (k0_pay45 (F := F)))

/-- The inputs of the cell: the query, the state, the weights. -/
abbrev cellIn {α : Sort*} (s : Sto F) (f : Vec F S256x256 .f32 → Vec F S256x128 .f32 → Vec F S256x128 .f32 → Vec F S512x256 .f32 → Vec F S512x128 .f32
    → Vec F S1x512 .f32 → Vec F S1x512 .f32 → α) : α :=
  f (window (s .q) ![0, 0] S256x256.size inb_S256x256_S256x256_0_0) (window (s .h) ![0, 0] S256x128.size inb_S288x128_S256x128_0_0)
    (window (s .c) ![0, 0] S256x128.size inb_S256x128_S256x128_0_0) (window (s .wi) ![0, 0] S512x256.size inb_S512x256_S512x256_0_0)
    (window (s .wh) ![0, 0] S512x128.size inb_S512x128_S512x128_0_0) (window (s .bi) ![0, 0] S1x512.size inb_S1x512_S1x512_0_0)
    (window (s .bh) ![0, 0] S1x512.size inb_S1x512_S1x512_0_0)

/-- A step's first part: the cell's new state is stored, and the maxima and sums are set to their starts. -/
def Cell (s : Sto F) : Sto F :=
  Function.update (Function.update (Function.update (Function.update s
    .h (put (s .h) ![0, 0] S256x128.size (cellIn s k0_pay73)))
    .c (put (s .c) ![0, 0] S256x128.size (cellIn s k0_pay74)))
    .m (put (s .m) ![0, 0] S288x128.size (k0_pay75 (F := F))))
    .d (put (s .d) ![0, 0] S288x128.size (k0_pay77 (k0_pay76 (F := F))))

/-- The weighted sums set to zero. -/
def ZeroU (s : Sto F) : Sto F := Function.update s .u (put (s .u) ![0, 0] S288x128.size (k0_pay84 (F := F)))

/-- The query's left half: the new state `v`. -/
def Left (v : FVec F S256x128 .f32) (s : Sto F) : Sto F := Function.update s .q (put (s .q) ![0, 0] S256x128.size (k0_pay91 v))

/-- The query's right half: the weighted sums over the sums. -/
def Right (s : Sto F) : Sto F :=
  Function.update s .q (put (s .q) ![0, 128] S256x128.size
    (k0_pay92 (window (s .u) ![0, 0] S256x128.size inb_S288x128_S256x128_0_0) (window (s .d) ![0, 0] S256x1.size inb_S288x128_S256x1_0_0)))

/-- One step. -/
def Step (s s' : Sto F) : Prop :=
  ∃ s1 s2 s3, Iter Sweep (Cell s) (cnt s) s1 ∧ Iter MaxStep s1 (cnt s) s2 ∧ Iter AddStep (ZeroU s2) (cnt s) s3
    ∧ s' = Right (Left (cellIn s k0_pay72) s3)

/-- The body: three steps from the state at zero, and the query stored as the result. -/
def Kern (s s' : Sto F) : Prop :=
  ∃ s1 s2 s3, Step (Init s) s1 ∧ Step s1 s2 ∧ Step s2 s3
    ∧ s' = Function.update s3 .o (put (s3 .o) ![0, 0] S256x256.size (window (s3 .q) ![0, 0] S256x256.size inb_S256x256_S256x256_0_0))

/-- Overwriting a buffer other than the tables keeps them in bounds. -/
theorem TabOK.update {s : Sto F} (h : TabOK s) (b : B) (w : b.sh.Idx → Elt F b.el) (h1 : B.nt ≠ b) (h2 : B.tb ≠ b) (h3 : B.tl ≠ b) :
    TabOK (Function.update s b w) := by
  refine ⟨?_, ?_, ?_⟩
  · rw [Function.update_of_ne h1]; exact h.len
  · rw [Function.update_of_ne h1, Function.update_of_ne h2]; exact h.tb
  · rw [Function.update_of_ne h1, Function.update_of_ne h3]; exact h.tl

/-- Overwriting a buffer other than the count keeps it. -/
theorem cnt_update (s : Sto F) (b : B) (w : b.sh.Idx → Elt F b.el) (h1 : B.nt ≠ b) : cnt (Function.update s b w) = cnt s := by
  unfold cnt; rw [Function.update_of_ne h1]

/-- What keeps the inputs keeps the count. -/
theorem cnt_keep {s s' : Sto F} (k : Keeps s s') : cnt s' = cnt s := by
  unfold cnt; rw [k .nt (by decide) (by decide) (by decide) (by decide) (by decide) (by decide)]

/-- The tables stay in bounds when the state is set to zero. -/
theorem TabOK.init {s : Sto F} (h : TabOK s) : TabOK (Init s) :=
  ((h.update .h _ (by decide) (by decide) (by decide)).update .c _ (by decide) (by decide) (by decide)).update .q _ (by decide) (by decide) (by decide)

/-- The tables stay in bounds through a step's first part. -/
theorem TabOK.cell {s : Sto F} (h : TabOK s) : TabOK (Cell s) :=
  (((h.update .h _ (by decide) (by decide) (by decide)).update .c _ (by decide) (by decide) (by decide)).update .m _
    (by decide) (by decide) (by decide)).update .d _ (by decide) (by decide) (by decide)

/-- The tables stay in bounds when the weighted sums are set to zero. -/
theorem TabOK.zeroU {s : Sto F} (h : TabOK s) : TabOK (ZeroU s) := h.update .u _ (by decide) (by decide) (by decide)
/-- The tables stay in bounds when the query's left half is stored. -/
theorem TabOK.left {s : Sto F} (h : TabOK s) (v : FVec F S256x128 .f32) : TabOK (Left v s) := h.update .q _ (by decide) (by decide) (by decide)
/-- The tables stay in bounds when the query's right half is stored. -/
theorem TabOK.right {s : Sto F} (h : TabOK s) : TabOK (Right s) := h.update .q _ (by decide) (by decide) (by decide)

variable {A : Opd} {c : Dev nD} (W : ∀ b, (A b).IsWhole)

/-- The tables stay in bounds through the loop of the sweeps. -/
theorem TabOK.sweep {s s1 : Sto F} {n : ℕ} (h : TabOK s) (h1 : Iter Sweep s n s1) : TabOK s1 := h.keep (h1.keeps fun _ _ _ h => h.keeps)
/-- The tables stay in bounds through the loop of the maxima. -/
theorem TabOK.max {s s1 : Sto F} {n : ℕ} (h : TabOK s) (h1 : Iter MaxStep s n s1) : TabOK s1 := h.keep (h1.keeps fun _ _ _ h => h.keeps)
/-- The tables stay in bounds through the loop of the sums. -/
theorem TabOK.add {s s1 : Sto F} {n : ℕ} (h : TabOK s) (h1 : Iter AddStep s n s1) : TabOK s1 := h.keep (h1.keeps fun _ _ _ h => h.keeps)

/-- The count stays when the state is set to zero. -/
theorem cnt_init (s : Sto F) : cnt (Init s) = cnt s := rfl
/-- The count stays through a step's first part. -/
theorem cnt_cell (s : Sto F) : cnt (Cell s) = cnt s := rfl
/-- The count stays through the sweeps. -/
theorem cnt_sweep {s s1 : Sto F} {n : ℕ} (h1 : Iter Sweep s n s1) : cnt s1 = cnt s := cnt_keep (h1.keeps fun _ _ _ h => h.keeps)
/-- The count stays through the maxima. -/
theorem cnt_max {s s1 : Sto F} {n : ℕ} (h1 : Iter MaxStep s n s1) : cnt s1 = cnt s := cnt_keep (h1.keeps fun _ _ _ h => h.keeps)
/-- The count stays through the sums. -/
theorem cnt_add {s s1 : Sto F} {n : ℕ} (h1 : Iter AddStep s n s1) : cnt s1 = cnt s := cnt_keep (h1.keeps fun _ _ _ h => h.keeps)

/-- Three loops, each of the count at its own start, make a step. -/
theorem step_intro {s s1 s2 s3 : Sto F} (h1 : Iter Sweep (Cell s) (cnt (Cell s)) s1) (h2 : Iter MaxStep s1 (cnt s1) s2)
    (h3 : Iter AddStep (ZeroU s2) (cnt (ZeroU s2)) s3) : Step s (Right (Left (cellIn s k0_pay72) s3)) := by
  have e1 : cnt s1 = cnt s := (cnt_sweep h1).trans (cnt_cell s)
  have e2 : cnt (ZeroU s2) = cnt s := (show cnt (ZeroU s2) = cnt s2 from rfl).trans ((cnt_max h2).trans e1)
  rw [e1] at h2
  rw [e2] at h3
  exact ⟨s1, s2, s3, h1, h2, h3, rfl⟩

/-- A vector for a place that the loops' regions never read. -/
abbrev any256 : FVec F S256x512 .f32 := fun _ => Scalar.ofBits .f32 0#32
/-- A value that nothing reads. -/
abbrev any128 : FVec F S256x128 .f32 := fun _ => Scalar.ofBits .f32 0#32

/-- What part 7 of the body leaves. -/
theorem part7_run {s : Sto F} {Q : _ → Sto F → Prop}
    (hQ : Q ⟨window (Init s .c) ![0, 0] S256x128.size inb_S256x128_S256x128_0_0, cellIn (Init s) fun q h _ wi wh bi bh => k0_pay46 q h wi wh bi bh,
      cellIn (Init s) fun q h _ wi wh bi bh => k0_pay47 q h wi wh bi bh, cellIn (Init s) fun q h _ wi wh bi bh => k0_pay48 q h wi wh bi bh⟩ (Init s)) :
    Runs A c (k0_part7 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub)) s Q := by
  rw [k0_part7_eq_skeleton]
  unfold k0_part7_skel
  refine Runs.bind (Runs.load .h rfl inb_S288x128_S288x128_0_0 (Runs.bind (Runs.store .h rfl ?_)))
  refine Runs.bind (Runs.load .c rfl inb_S256x128_S256x128_0_0 (Runs.bind (Runs.store .c rfl ?_)))
  refine Runs.bind (Runs.load .q rfl inb_S256x256_S256x256_0_0 (Runs.bind (Runs.store .q rfl ?_)))
  refine Runs.bind (Runs.load .q rfl inb_S256x256_S256x256_0_0 ?_)
  refine Runs.bind (Runs.load .h rfl inb_S288x128_S256x128_0_0 ?_)
  refine Runs.bind (Runs.load .c rfl inb_S256x128_S256x128_0_0 ?_)
  refine Runs.bind (Runs.load .wi rfl inb_S512x256_S512x256_0_0 ?_)
  refine Runs.bind (Runs.load .wh rfl inb_S512x128_S512x128_0_0 ?_)
  refine Runs.bind (Runs.load .bi rfl inb_S1x512_S1x512_0_0 ?_)
  refine Runs.bind (Runs.load .bh rfl inb_S1x512_S1x512_0_0 ?_)
  exact Runs.ret hQ

/-- What part 8 of the body leaves. -/
theorem part8_run {s : Sto F} (hT : TabOK s) {Q : _ → Sto F → Prop}
    (hQ : ∀ s1 (hw : k0_chk6 (s1 .nt (ix1 0))) a0 a1 a2 a3, Iter Sweep (Cell s) (cnt (Cell s)) s1 →
      Q ⟨cellIn s k0_pay72, s1 .nt (ix1 0), hw, a0, a1, a2, a3⟩ s1) :
    Runs A c (k0_part8 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub)
      (window (s .c) ![0, 0] S256x128.size inb_S256x128_S256x128_0_0) (cellIn s fun q h _ wi wh bi bh => k0_pay46 q h wi wh bi bh)
      (cellIn s fun q h _ wi wh bi bh => k0_pay47 q h wi wh bi bh) (cellIn s fun q h _ wi wh bi bh => k0_pay48 q h wi wh bi bh)) s Q := by
  rw [k0_part8_eq_skeleton]
  unfold k0_part8_skel
  refine Runs.bind (Runs.load .h rfl inb_S288x128_S256x128_0_0 (Runs.bind (Runs.store .h rfl ?_)))
  refine Runs.bind (Runs.load .c rfl inb_S256x128_S256x128_0_0 (Runs.bind (Runs.store .c rfl ?_)))
  refine Runs.bind (Runs.load .m rfl inb_S288x128_S288x128_0_0 (Runs.bind (Runs.store .m rfl ?_)))
  refine Runs.bind (Runs.load .d rfl inb_S288x128_S288x128_0_0 (Runs.bind (Runs.store .d rfl ?_)))
  change Runs A c _ (Cell s) Q
  have hT' := hT.cell
  refine Runs.bind (Runs.smem_nt rfl (Runs.bind (Runs.assume (chk_of hT'.len).1 ?_)))
  refine Runs.bind (sweep_loop W _ _ _ _ _ _ _ hT' rfl (fun acc s1 h1 => ?_))
  refine Runs.bind (rem_run _ ?_)
  refine Runs.bind (Runs.smem_nt rfl (Runs.bind (Runs.assume (chk_of (hT'.sweep h1).len).2.1 ?_)))
  exact Runs.ret (hQ s1 _ _ _ _ _ h1)

/-- What part 9 of the body leaves. -/
theorem part9_run {s : Sto F} (hT : TabOK s) (v40 : FVec F S256x128 .f32) (hw : k0_chk6 (s .nt (ix1 0))) (a0 a1 a2 a3 : BitVec 32) {Q : _ → Sto F → Prop}
    (hQ : ∀ s2 s3, Iter MaxStep s (cnt s) s2 → Iter AddStep (ZeroU s2) (cnt (ZeroU s2)) s3 →
      Q ⟨window (Right (Left v40 s3) .q) ![0, 0] S256x256.size inb_S256x256_S256x256_0_0,
        window (Right (Left v40 s3) .h) ![0, 0] S256x128.size inb_S288x128_S256x128_0_0⟩ (Right (Left v40 s3))) :
    Runs A c (k0_part9 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v40 (s .nt (ix1 0)) hw a0 a1 a2 a3) s Q := by
  rw [k0_part9_eq_skeleton]
  unfold k0_part9_skel
  refine Runs.bind (max_loop W _ _ _ _ _ _ _ _ hT rfl (fun acc s2 h2 => ?_))
  refine Runs.bind (rem_run _ ?_)
  refine Runs.bind (Runs.load .u rfl inb_S288x128_S288x128_0_0 (Runs.bind (Runs.store .u rfl ?_)))
  have hT' := (hT.max h2).zeroU
  change Runs A c _ (ZeroU s2) Q
  refine Runs.bind (Runs.smem_nt rfl (Runs.bind (Runs.assume (chk_of hT'.len).2.2 ?_)))
  refine Runs.bind (add_loop W _ _ _ _ _ _ _ _ _ _ hT' rfl (fun acc s3 h3 => ?_))
  refine Runs.bind (rem_run _ ?_)
  refine Runs.bind (Runs.load .q rfl inb_S256x256_S256x128_0_0 (Runs.bind (Runs.store .q rfl ?_)))
  change Runs A c _ (Left v40 s3) Q
  refine Runs.bind (Runs.load .u rfl inb_S288x128_S256x128_0_0 ?_)
  refine Runs.bind (Runs.load .d rfl inb_S288x128_S256x1_0_0 ?_)
  refine Runs.bind (Runs.load .q rfl inb_S256x256_S256x128_0_128 (Runs.bind (Runs.store .q rfl ?_)))
  change Runs A c _ (Right (Left v40 s3)) Q
  refine Runs.bind (Runs.load .q rfl inb_S256x256_S256x256_0_0 ?_)
  refine Runs.bind (Runs.load .h rfl inb_S288x128_S256x128_0_0 ?_)
  exact Runs.ret (hQ s2 s3 h2 h3)

/-- The part of the cell's stores before the sums' start. -/
def CellM (s : Sto F) : Sto F :=
  Function.update (Function.update (Function.update s
    .h (put (s .h) ![0, 0] S256x128.size (cellIn s k0_pay73)))
    .c (put (s .c) ![0, 0] S256x128.size (cellIn s k0_pay74)))
    .m (put (s .m) ![0, 0] S288x128.size (k0_pay75 (F := F)))

/-- What part 10 of the body leaves. -/
theorem part10_run {s : Sto F} {Q : _ → Sto F → Prop} (hQ : Q ⟨cellIn s k0_pay72, k0_pay76 (F := F)⟩ (CellM s)) :
    Runs A c (k0_part10 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) (window (s .q) ![0, 0] S256x256.size inb_S256x256_S256x256_0_0)
      (window (s .h) ![0, 0] S256x128.size inb_S288x128_S256x128_0_0)) s Q := by
  rw [k0_part10_eq_skeleton]
  unfold k0_part10_skel
  refine Runs.bind (Runs.load .c rfl inb_S256x128_S256x128_0_0 ?_)
  refine Runs.bind (Runs.load .wi rfl inb_S512x256_S512x256_0_0 ?_)
  refine Runs.bind (Runs.load .wh rfl inb_S512x128_S512x128_0_0 ?_)
  refine Runs.bind (Runs.load .bi rfl inb_S1x512_S1x512_0_0 ?_)
  refine Runs.bind (Runs.load .bh rfl inb_S1x512_S1x512_0_0 ?_)
  refine Runs.bind (Runs.load .h rfl inb_S288x128_S256x128_0_0 (Runs.bind (Runs.store .h rfl ?_)))
  refine Runs.bind (Runs.load .c rfl inb_S256x128_S256x128_0_0 (Runs.bind (Runs.store .c rfl ?_)))
  refine Runs.bind (Runs.load .m rfl inb_S288x128_S288x128_0_0 (Runs.bind (Runs.store .m rfl ?_)))
  exact Runs.ret hQ

/-- What part 11 of the body leaves. -/
theorem part11_run {s : Sto F} (hT : TabOK s) {Q : _ → Sto F → Prop}
    (hQ : ∀ s1 s2 s3, Iter Sweep (Cell s) (cnt (Cell s)) s1 → Iter MaxStep s1 (cnt s1) s2 → Iter AddStep (ZeroU s2) (cnt (ZeroU s2)) s3 → Q ⟨⟩ s3) :
    Runs A c (k0_part11 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) (k0_pay76 (F := F))) (CellM s) Q := by
  rw [k0_part11_eq_skeleton]
  unfold k0_part11_skel
  refine Runs.bind (Runs.load .d rfl inb_S288x128_S288x128_0_0 (Runs.bind (Runs.store .d rfl ?_)))
  change Runs A c _ (Cell s) Q
  have hT' := hT.cell
  refine Runs.bind (Runs.smem_nt rfl (Runs.bind (Runs.assume (chk_of hT'.len).1 ?_)))
  refine Runs.bind (sweep_loop W any128 any256 any128 any128 _ (chk_of hT'.len).1 _ hT' rfl (fun acc s1 h1 => ?_))
  refine Runs.bind (rem_run _ ?_)
  have hT1 := hT'.sweep h1
  refine Runs.bind (Runs.smem_nt rfl (Runs.bind (Runs.assume (chk_of hT1.len).2.1 ?_)))
  refine Runs.bind (max_loop W any128 _ (chk_of hT1.len).2.1 0#32 0#32 0#32 0#32 _ hT1 rfl (fun acc s2 h2 => ?_))
  refine Runs.bind (rem_run _ ?_)
  refine Runs.bind (Runs.load .u rfl inb_S288x128_S288x128_0_0 (Runs.bind (Runs.store .u rfl ?_)))
  have hT2 := (hT1.max h2).zeroU
  change Runs A c _ (ZeroU s2) Q
  refine Runs.bind (Runs.smem_nt rfl (Runs.bind (Runs.assume (chk_of hT2.len).2.2 ?_)))
  refine Runs.bind (add_loop W any128 _ (chk_of hT2.len).2.1 0#32 0#32 0#32 0#32 _ (chk_of hT2.len).2.2 _ hT2 rfl (fun acc s3 h3 => ?_))
  refine Runs.bind (rem_run _ ?_)
  exact Runs.ret (hQ s1 s2 s3 h1 h2 h3)

/-- What part 12 of the body leaves. -/
theorem part12_run {s : Sto F} (v : FVec F S256x128 .f32) {Q : _ → Sto F → Prop}
    (hQ : Q ⟨window (Right (Left v s) .c) ![0, 0] S256x128.size inb_S256x128_S256x128_0_0,
      cellIn (Right (Left v s)) fun q h _ wi wh bi bh => k0_pay93 q h wi wh bi bh, cellIn (Right (Left v s)) fun q h _ wi wh bi bh => k0_pay94 q h wi wh bi bh,
      cellIn (Right (Left v s)) fun q h _ wi wh bi bh => k0_pay95 q h wi wh bi bh, cellIn (Right (Left v s)) fun q h _ wi wh bi bh => k0_pay96 q h wi wh bi bh⟩
      (Right (Left v s))) :
    Runs A c (k0_part12 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub) v) s Q := by
  rw [k0_part12_eq_skeleton]
  unfold k0_part12_skel
  refine Runs.bind (Runs.load .q rfl inb_S256x256_S256x128_0_0 (Runs.bind (Runs.store .q rfl ?_)))
  refine Runs.bind (Runs.load .u rfl inb_S288x128_S256x128_0_0 ?_)
  refine Runs.bind (Runs.load .d rfl inb_S288x128_S256x1_0_0 ?_)
  refine Runs.bind (Runs.load .q rfl inb_S256x256_S256x128_0_128 (Runs.bind (Runs.store .q rfl ?_)))
  change Runs A c _ (Right (Left v s)) Q
  refine Runs.bind (Runs.load .q rfl inb_S256x256_S256x256_0_0 ?_)
  refine Runs.bind (Runs.load .h rfl inb_S288x128_S256x128_0_0 ?_)
  refine Runs.bind (Runs.load .c rfl inb_S256x128_S256x128_0_0 ?_)
  refine Runs.bind (Runs.load .wi rfl inb_S512x256_S512x256_0_0 ?_)
  refine Runs.bind (Runs.load .wh rfl inb_S512x128_S512x128_0_0 ?_)
  refine Runs.bind (Runs.load .bi rfl inb_S1x512_S1x512_0_0 ?_)
  refine Runs.bind (Runs.load .bh rfl inb_S1x512_S1x512_0_0 ?_)
  exact Runs.ret hQ

/-- What part 13 of the body leaves. -/
theorem part13_run {s : Sto F} (hT : TabOK s) {Q : _ → Sto F → Prop}
    (hQ : ∀ s1 (hw : k0_chk28 (s1 .nt (ix1 0))) a0 a1 a2, Iter Sweep (Cell s) (cnt (Cell s)) s1 →
      Q ⟨cellIn s k0_pay72, s1 .nt (ix1 0), hw, a0, a1, a2⟩ s1) :
    Runs A c (k0_part13 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub)
      (window (s .c) ![0, 0] S256x128.size inb_S256x128_S256x128_0_0) (cellIn s fun q h _ wi wh bi bh => k0_pay93 q h wi wh bi bh)
      (cellIn s fun q h _ wi wh bi bh => k0_pay94 q h wi wh bi bh) (cellIn s fun q h _ wi wh bi bh => k0_pay95 q h wi wh bi bh)
      (cellIn s fun q h _ wi wh bi bh => k0_pay96 q h wi wh bi bh)) s Q := by
  rw [k0_part13_eq_skeleton]
  unfold k0_part13_skel
  refine Runs.bind (Runs.load .h rfl inb_S288x128_S256x128_0_0 (Runs.bind (Runs.store .h rfl ?_)))
  refine Runs.bind (Runs.load .c rfl inb_S256x128_S256x128_0_0 (Runs.bind (Runs.store .c rfl ?_)))
  refine Runs.bind (Runs.load .m rfl inb_S288x128_S288x128_0_0 (Runs.bind (Runs.store .m rfl ?_)))
  refine Runs.bind (Runs.load .d rfl inb_S288x128_S288x128_0_0 (Runs.bind (Runs.store .d rfl ?_)))
  change Runs A c _ (Cell s) Q
  have hT' := hT.cell
  refine Runs.bind (Runs.smem_nt rfl (Runs.bind (Runs.assume (chk_of hT'.len).1 ?_)))
  refine Runs.bind (sweep_loop W any128 any256 any128 any128 _ (chk_of hT'.len).1 _ hT' rfl (fun acc s1 h1 => ?_))
  refine Runs.bind (rem_run _ ?_)
  refine Runs.bind (Runs.smem_nt rfl (Runs.bind (Runs.assume (chk_of (hT'.sweep h1).len).2.1 ?_)))
  exact Runs.ret (hQ s1 _ _ _ _ h1)

/-- What part 14 of the body leaves. -/
theorem part14_run {s : Sto F} (hT : TabOK s) {Q : _ → Sto F → Prop}
    (hQ : ∀ s1 s2 s3, Step (Init s) s1 → Step s1 s2 → Step s2 s3 → Q ⟨⟩ s3) :
    Runs A c (k0_part14 (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub)) s Q := by
  rw [k0_part14_eq_skeleton]
  unfold k0_part14_skel
  refine Runs.bind (part7_run W ?_)
  refine Runs.bind (part8_run W hT.init fun s1 hw a0 a1 a2 a3 h1 => ?_)
  have hT1 := hT.init.cell.sweep h1
  refine Runs.bind (part9_run W hT1 _ hw a0 a1 a2 a3 fun s2 s3 h2 h3 => ?_)
  have g1 := step_intro h1 h2 h3
  have hU := (((hT1.max h2).zeroU.add h3).left (cellIn (Init s) k0_pay72)).right
  refine Runs.bind (part10_run W ?_)
  refine Runs.bind (part11_run W hU fun r1 r2 r3 k1 k2 k3 => ?_)
  have g2 := step_intro k1 k2 k3
  have hV := ((((hU.cell.sweep k1).max k2).zeroU.add k3).left (cellIn (Right (Left (cellIn (Init s) k0_pay72) s3)) k0_pay72)).right
  refine Runs.bind (part12_run W _ ?_)
  refine Runs.bind (part13_run W hV fun t1 hw' b0 b1 b2 l1 => ?_)
  have hX := hV.cell.sweep l1
  refine Runs.bind (max_loop W any128 _ hw' 0#32 0#32 0#32 0#32 _ hX rfl (fun acc t2 l2 => ?_))
  refine Runs.bind (rem_run _ ?_)
  refine Runs.bind (Runs.load .u rfl inb_S288x128_S288x128_0_0 (Runs.bind (Runs.store .u rfl ?_)))
  have hY := (hX.max l2).zeroU
  change Runs A c _ (ZeroU t2) Q
  refine Runs.bind (Runs.smem_nt rfl (Runs.bind (Runs.assume (chk_of hY.len).2.2 ?_)))
  refine Runs.bind (add_loop W any128 _ (chk_of hY.len).2.1 0#32 0#32 0#32 0#32 _ (chk_of hY.len).2.2 _ hY rfl (fun acc t3 l3 => ?_))
  refine Runs.bind (rem_run _ ?_)
  have g3 := step_intro l1 l2 l3
  refine Runs.bind (Runs.load .q rfl inb_S256x256_S256x128_0_0 (Runs.bind (Runs.store .q rfl ?_)))
  refine Runs.bind (Runs.load .u rfl inb_S288x128_S256x128_0_0 ?_)
  refine Runs.bind (Runs.load .d rfl inb_S288x128_S256x1_0_0 ?_)
  refine Runs.bind (Runs.load .q rfl inb_S256x256_S256x128_0_128 (Runs.bind (Runs.store .q rfl ?_)))
  exact Runs.ret (hQ _ _ _ g1 g2 g3)

/-- The whole body ends in a state that `Kern` describes. -/
theorem kernel_run {s : Sto F} (hT : TabOK s) : Runs A c (cc0__set2set_kernel (F := F) (A .x) (W .x) (A .bt) (W .bt) (A .tb) (W .tb) (A .tl) (W .tl) (A .nt) (W .nt) (A .wi) (W .wi) (A .wh) (W .wh)
      (A .bi) (W .bi) (A .bh) (W .bh) (A .o) (W .o) (A .h) (W .h) (A .c) (W .c) (A .q) (W .q) (A .m) (W .m) (A .d) (W .d) (A .u) (W .u)
      (A .mb) (W .mb) (A .db) (W .db) (A .ub) (W .ub)) s fun _ s' => Kern s s' := by
  rw [cc0__set2set_kernel_eq_skeleton]
  unfold cc0__set2set_kernel_skel
  refine Runs.bind (part14_run W hT fun s1 s2 s3 h1 h2 h3 => ?_)
  refine Runs.bind (Runs.load .q rfl inb_S256x256_S256x256_0_0 ?_)
  refine Runs.bind (Runs.load .o rfl inb_S256x256_S256x256_0_0 ?_)
  refine Runs.store .o rfl ?_
  exact ⟨s1, s2, s3, h1, h2, h3, rfl⟩

end Cert.Proof
-- ==== Proof.Body.lean ====
/-
  The kernel's body in its pipeline: the proof data of the one point, the body's obligation, and the run of the whole program.
-/
module

public import proofs.«01_k».proof.Proof.Run
public import proofs.«01_k».proof.Proof.Gen.KernelIdeal.Launch
public import proofs.«01_k».proof.Proof.Gen.KernelIdeal.Points
public import Idealize.ShloMosaic.Adequacy
public import Idealize.ShloMosaic.Init

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.VecWindow (window put)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's operands at a point. -/
def opd (t : Fin cfg0.N) : Opd
  | .x => st0_0 t | .bt => st0_1 t | .tb => st0_2 t | .tl => st0_3 t | .nt => st0_4 t
  | .wi => st0_5 t | .wh => st0_6 t | .bi => st0_7 t | .bh => st0_8 t | .o => st0_9 t
  | .h => Memref.whole cc0_scratch0 | .c => Memref.whole cc0_scratch1 | .q => Memref.whole cc0_scratch2
  | .m => Memref.whole cc0_scratch3 | .d => Memref.whole cc0_scratch4 | .u => Memref.whole cc0_scratch5
  | .mb => Memref.whole cc0_scratch6 | .db => Memref.whole cc0_scratch7 | .ub => Memref.whole cc0_scratch8

/-- Every buffer of the body is held whole. -/
theorem opd_whole (t : Fin cfg0.N) : ∀ b, (opd t b).IsWhole
  | .x => hstage0_0 0 | .bt => hstage0_1 0 | .tb => hstage0_2 0 | .tl => hstage0_3 0 | .nt => hstage0_4 0
  | .wi => hstage0_5 0 | .wh => hstage0_6 0 | .bi => hstage0_7 0 | .bh => hstage0_8 0 | .o => hstage0_9 0
  | .h => Memref.isWhole_whole _ | .c => Memref.isWhole_whole _ | .q => Memref.isWhole_whole _
  | .m => Memref.isWhole_whole _ | .d => Memref.isWhole_whole _ | .u => Memref.isWhole_whole _
  | .mb => Memref.isWhole_whole _ | .db => Memref.isWhole_whole _ | .ub => Memref.isWhole_whole _

/-- The arrays the body starts from: the inputs' blocks, and anything in the others. -/
def from0 (c : Dev nD) (j : Sto F) : Sto F
  | .x => iblk m c 0 t0_0 | .bt => iblk m c 1 t0_0 | .tb => iblk m c 2 t0_0 | .tl => iblk m c 3 t0_0 | .nt => iblk m c 4 t0_0
  | .wi => iblk m c 5 t0_0 | .wh => iblk m c 6 t0_0 | .bi => iblk m c 7 t0_0 | .bh => iblk m c 8 t0_0
  | .o => j .o | .h => j .h | .c => j .c | .q => j .q | .m => j .m | .d => j .d | .u => j .u | .mb => j .mb | .db => j .db | .ub => j .ub

/-- Holding the state is holding each buffer's contents. -/
theorem held_eq (A : Opd) (c : Dev nD) (s : Sto F) :
    (Held A c s : sProp 𝕄) = bigSepL [B.x, B.bt, B.tb, B.tl, B.nt, B.wi, B.wh, B.bi, B.bh, B.o, B.h, B.c, B.q, B.m, B.d, B.u, B.mb, B.db, B.ub]
      (fun b => owns (c : Thread nD τ) (A b) fullShare (s b)) := by
  unfold Held
  exact bigSep_univ_eq_bigSepL _ (by decide) (by decide) _

/-- The arrays that a run never writes are unchanged at its end. -/
theorem Kern.inputs {s s' : Sto F} (h : Kern s s') : ∀ b, b = .x ∨ b = .bt ∨ b = .tb ∨ b = .tl ∨ b = .nt ∨ b = .wi ∨ b = .wh ∨ b = .bi ∨ b = .bh → s' b = s b := by
  have step : ∀ {s s' : Sto F}, Step s s' → ∀ b, b = .x ∨ b = .bt ∨ b = .tb ∨ b = .tl ∨ b = .nt ∨ b = .wi ∨ b = .wh ∨ b = .bi ∨ b = .bh → s' b = s b := by
    rintro s s' ⟨s1, s2, s3, h1, h2, h3, rfl⟩ b hb
    have k1 := h1.keeps (fun _ _ _ h => h.keeps) b
    have k2 := h2.keeps (fun _ _ _ h => h.keeps) b
    have k3 := h3.keeps (fun _ _ _ h => h.keeps) b
    rcases hb with rfl | rfl | rfl | rfl | rfl | rfl | rfl | rfl | rfl <;>
      exact (k3 (by decide) (by decide) (by decide) (by decide) (by decide) (by decide)).trans
        ((k2 (by decide) (by decide) (by decide) (by decide) (by decide) (by decide)).trans
        (k1 (by decide) (by decide) (by decide) (by decide) (by decide) (by decide)))
  obtain ⟨s1, s2, s3, h1, h2, h3, rfl⟩ := h
  intro b hb
  have e := (step h3 b hb).trans ((step h2 b hb).trans (step h1 b hb))
  rcases hb with rfl | rfl | rfl | rfl | rfl | rfl | rfl | rfl | rfl <;> exact e

/-- What the body may leave in the result. -/
def Leaves (c : Dev nD) (o : S256x256.Idx → Elt F .f32) : Prop := ∃ j s', Kern (from0 m c j) s' ∧ s' .o = o

/-- The proof data of the one pipeline on core `c`, the result's block named `out c`. -/
def dats (out : Dev nD → (S256x256.Idx → Elt F .f32)) (_ : Fin 1) (c : Dev nD) : Dat τ (Elt F) Unit ℕ (UR sig nD τ) ℕ cfg0 c where
  A w := V m c (arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t
    | ⟨5, _⟩ => iblk m c 5 t | ⟨6, _⟩ => iblk m c 6 t | ⟨7, _⟩ => iblk m c 7 t | ⟨8, _⟩ => iblk m c 8 t
    | ⟨9, _⟩ => out c
  Φ _ := ΦA spec0 c
  q _ := fullShare
  owed _ := 0

variable (out : Dev nD → (S256x256.Idx → Elt F .f32))

/-- A window's array is at its contents at the launch. -/
theorem A_eq (c : Dev nD) (w : Fin cfg0.W) : (dats m out 0 c).A w = V m c (arrRef spec0 w) := by dsimp only [dats]

/-- The inputs' blocks, conjoined. -/
def ins (c : Dev nD) : sProp 𝕄 :=
  iprop(owns (c : Thread nD τ) (st0_0 t0_0) fullShare (iblk m c 0 t0_0) ∗ owns (c : Thread nD τ) (st0_1 t0_0) fullShare (iblk m c 1 t0_0)
    ∗ owns (c : Thread nD τ) (st0_2 t0_0) fullShare (iblk m c 2 t0_0) ∗ owns (c : Thread nD τ) (st0_3 t0_0) fullShare (iblk m c 3 t0_0)
    ∗ owns (c : Thread nD τ) (st0_4 t0_0) fullShare (iblk m c 4 t0_0) ∗ owns (c : Thread nD τ) (st0_5 t0_0) fullShare (iblk m c 5 t0_0)
    ∗ owns (c : Thread nD τ) (st0_6 t0_0) fullShare (iblk m c 6 t0_0) ∗ owns (c : Thread nD τ) (st0_7 t0_0) fullShare (iblk m c 7 t0_0)
    ∗ owns (c : Thread nD τ) (st0_8 t0_0) fullShare (iblk m c 8 t0_0))

/-- Holding the state at the one grid point, buffer by buffer. -/
theorem held_opd (c : Dev nD) (s : Sto F) : (Held (opd t0_0) c s : sProp 𝕄) =
    iprop(owns (c : Thread nD τ) (st0_0 t0_0) fullShare (s .x) ∗ owns (c : Thread nD τ) (st0_1 t0_0) fullShare (s .bt) ∗ owns (c : Thread nD τ) (st0_2 t0_0) fullShare (s .tb) ∗ owns (c : Thread nD τ) (st0_3 t0_0) fullShare (s .tl) ∗ owns (c : Thread nD τ) (st0_4 t0_0) fullShare (s .nt) ∗ owns (c : Thread nD τ) (st0_5 t0_0) fullShare (s .wi) ∗ owns (c : Thread nD τ) (st0_6 t0_0) fullShare (s .wh) ∗ owns (c : Thread nD τ) (st0_7 t0_0) fullShare (s .bi) ∗ owns (c : Thread nD τ) (st0_8 t0_0) fullShare (s .bh) ∗ owns (c : Thread nD τ) (st0_9 t0_0) fullShare (s .o) ∗ ((c : Thread nD τ).loc cc0_scratch0 ↦{fullShare} s .h) ∗ ((c : Thread nD τ).loc cc0_scratch1 ↦{fullShare} s .c) ∗ ((c : Thread nD τ).loc cc0_scratch2 ↦{fullShare} s .q) ∗ ((c : Thread nD τ).loc cc0_scratch3 ↦{fullShare} s .m) ∗ ((c : Thread nD τ).loc cc0_scratch4 ↦{fullShare} s .d) ∗ ((c : Thread nD τ).loc cc0_scratch5 ↦{fullShare} s .u) ∗ ((c : Thread nD τ).loc cc0_scratch6 ↦{fullShare} s .mb) ∗ ((c : Thread nD τ).loc cc0_scratch7 ↦{fullShare} s .db) ∗ ((c : Thread nD τ).loc cc0_scratch8 ↦{fullShare} s .ub)) := by
  rw [held_eq]
  simp only [← owns_whole]
  rfl

/-- A state made of the inputs' blocks and nine scratch arrays. -/
def junk (o : S256x256.Idx → Elt F .f32) (h : S288x128.Idx → Elt F .f32) (c : S256x128.Idx → Elt F .f32) (q : S256x256.Idx → Elt F .f32)
    (m d u : S288x128.Idx → Elt F .f32) (mb db : S200x32x1.Idx → Elt F .f32) (ub : S200x32x128.Idx → Elt F .f32) : Sto F
  | .o => o | .h => h | .c => c | .q => q | .m => m | .d => d | .u => u | .mb => mb | .db => db | .ub => ub
  | .x => fun _ => Scalar.ofBits .f32 0#32 | .bt => fun _ => 0#32 | .tb => fun _ => 0#32 | .tl => fun _ => 0#32 | .nt => fun _ => 0#32
  | .wi => fun _ => Scalar.ofBits .f32 0#32 | .wh => fun _ => Scalar.ofBits .f32 0#32 | .bi => fun _ => Scalar.ofBits .f32 0#32 | .bh => fun _ => Scalar.ofBits .f32 0#32

/-- What the body leaves, taken apart again. -/
theorem ending (c : Dev nD) (j s' : Sto F) (hk : Kern (from0 m c j) s') : (Held (opd t0_0) c s' : sProp 𝕄)
    ⊢ iprop(scopedRest spec0 c ∗ ins m c ∗ ∃ d, ⌜Leaves m c d⌝ ∗ owns (c : Thread nD τ) (st0_9 t0_0) fullShare d) := by
  have e := hk.inputs
  rw [held_opd, e .x (by simp), e .bt (by simp), e .tb (by simp), e .tl (by simp), e .nt (by simp), e .wi (by simp), e .wh (by simp),
    e .bi (by simp), e .bh (by simp), scopedRest0_eq]
  unfold ins
  iintro ⟨I0, I1, I2, I3, I4, I5, I6, I7, I8, Ho, K0, K1, K2, K3, K4, K5, K6, K7, K8⟩
  isplitl [K0 K1 K2 K3 K4 K5 K6 K7 K8]
  · isplitl [K0]; · iexists _; iexact K0
    isplitl [K1]; · iexists _; iexact K1
    isplitl [K2]; · iexists _; iexact K2
    isplitl [K3]; · iexists _; iexact K3
    isplitl [K4]; · iexists _; iexact K4
    isplitl [K5]; · iexists _; iexact K5
    isplitl [K6]; · iexists _; iexact K6
    isplitl [K7]; · iexists _; iexact K7
    iexists _; iexact K8
  isplitl [I0 I1 I2 I3 I4 I5 I6 I7 I8]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    iexact I8
  iexists _
  isplitr
  · ipureintro; exact ⟨_, s', hk, rfl⟩
  · iexact Ho

/-- What the pipeline holds, as the body's arrays. -/
theorem starting (c : Dev nD) : (iprop(scopedRest spec0 c ∗ ins m c ∗ ∃ d, owns (c : Thread nD τ) (st0_9 t0_0) fullShare d) : sProp 𝕄)
    ⊢ iprop(∃ j, Held (opd t0_0) c (from0 m c j)) := by
  unfold ins
  rw [scopedRest0_eq]
  iintro ⟨⟨⟨%f0, K0⟩, ⟨%f1, K1⟩, ⟨%f2, K2⟩, ⟨%f3, K3⟩, ⟨%f4, K4⟩, ⟨%f5, K5⟩, ⟨%f6, K6⟩, ⟨%f7, K7⟩, ⟨%f8, K8⟩⟩,
    ⟨I0, I1, I2, I3, I4, I5, I6, I7, I8⟩, ⟨%d, Ho⟩⟩
  iexists (junk d f0 f1 f2 f3 f4 f5 f6 f7 f8)
  rw [held_opd]
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [Ho]; · iexact Ho
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  iexact K8

/-- The body's run on what the pipeline holds: the result ends at something that `Leaves` allows. -/
theorem sound (c : Dev nD) (hT : ∀ j, TabOK (from0 m c j)) :
    (iprop(ΦA spec0 c ∗ ins m c ∗ ∃ d, owns (c : Thread nD τ) (st0_9 t0_0) fullShare d) : sProp 𝕄)
      ⊢ wp frame (wpE (defs₀ (F := F)) Variants.none c none) Set.univ (bodyAt0 t0_0)
        (fun _ => iprop(ΦA spec0 c ∗ ins m c ∗ ∃ d, ⌜Leaves m c d⌝ ∗ owns (c : Thread nD τ) (st0_9 t0_0) fullShare d)) := by
  have run := fun j => kernel_run (A := opd t0_0) (c := c) (opd_whole t0_0) (hT j)
  unfold Runs at run
  unfold ΦA
  iintro ⟨⟨Hs, Hg⟩, Hi, Ho⟩
  ihave S := (starting m c) $$ [Hs Hi Ho]
  · isplitl [Hs]
    · iexact Hs
    isplitl [Hi]
    · iexact Hi
    · iexact Ho
  icases S with ⟨%j, H⟩
  iapply (wp_wand_r frame (wpE (defs₀ (F := F)) Variants.none (c : Thread nD τ) none) Set.univ
    (Q := fun _ => iprop(∃ s', Held (opd t0_0) c s' ∗ ⌜Kern (from0 m c j) s'⌝)))
  isplitl [H]
  · iapply (run j)
    iexact H
  · iintro %_ ⟨%s', H, %hk⟩
    ihave E := (ending m c j s' hk) $$ H
    icases E with ⟨Hs, Hi, Ho⟩
    isplitl [Hs Hg]
    · isplitl [Hs]
      · iexact Hs
      · iexact Hg
    isplitl [Hi]
    · iexact Hi
    · iexact Ho

/-- The pipeline's body at a point is the printed one. -/
theorem defs₀_row (t : Fin cfg0.N) : defs₀ (F := F) .tc cfg0.body (cfg0.bodyArgs t (cfg0.slots t)) = bodyAt0 t := by
  unfold defs₀; rw [Defs.onTc_tc]

/-- A point leaves an input's block as it was. -/
theorem after_0 (c : Dev nD) (t : Fin cfg0.N) : (dats m out 0 c).after 0 t = iblk m c 0 t := by dsimp only [dats]
/-- A point finds an input's block at that of the array. -/
theorem before_0 (c : Dev nD) (d) : (dats m out 0 c).before 0 t0_0 d = iblk m c 0 t0_0 :=
  before0_0_of m (dats m out 0 c) (A_eq m out c 0) (after_0 m out c) t0_0 d
@[inherit_doc after_0] theorem after_1 (c : Dev nD) (t : Fin cfg0.N) : (dats m out 0 c).after 1 t = iblk m c 1 t := by dsimp only [dats]
@[inherit_doc before_0] theorem before_1 (c : Dev nD) (d) : (dats m out 0 c).before 1 t0_0 d = iblk m c 1 t0_0 :=
  before0_1_of m (dats m out 0 c) (A_eq m out c 1) (after_1 m out c) t0_0 d
@[inherit_doc after_0] theorem after_2 (c : Dev nD) (t : Fin cfg0.N) : (dats m out 0 c).after 2 t = iblk m c 2 t := by dsimp only [dats]
@[inherit_doc before_0] theorem before_2 (c : Dev nD) (d) : (dats m out 0 c).before 2 t0_0 d = iblk m c 2 t0_0 :=
  before0_2_of m (dats m out 0 c) (A_eq m out c 2) (after_2 m out c) t0_0 d
@[inherit_doc after_0] theorem after_3 (c : Dev nD) (t : Fin cfg0.N) : (dats m out 0 c).after 3 t = iblk m c 3 t := by dsimp only [dats]
@[inherit_doc before_0] theorem before_3 (c : Dev nD) (d) : (dats m out 0 c).before 3 t0_0 d = iblk m c 3 t0_0 :=
  before0_3_of m (dats m out 0 c) (A_eq m out c 3) (after_3 m out c) t0_0 d
@[inherit_doc after_0] theorem after_4 (c : Dev nD) (t : Fin cfg0.N) : (dats m out 0 c).after 4 t = iblk m c 4 t := by dsimp only [dats]
@[inherit_doc before_0] theorem before_4 (c : Dev nD) (d) : (dats m out 0 c).before 4 t0_0 d = iblk m c 4 t0_0 :=
  before0_4_of m (dats m out 0 c) (A_eq m out c 4) (after_4 m out c) t0_0 d
@[inherit_doc after_0] theorem after_5 (c : Dev nD) (t : Fin cfg0.N) : (dats m out 0 c).after 5 t = iblk m c 5 t := by dsimp only [dats]
@[inherit_doc before_0] theorem before_5 (c : Dev nD) (d) : (dats m out 0 c).before 5 t0_0 d = iblk m c 5 t0_0 :=
  before0_5_of m (dats m out 0 c) (A_eq m out c 5) (after_5 m out c) t0_0 d
@[inherit_doc after_0] theorem after_6 (c : Dev nD) (t : Fin cfg0.N) : (dats m out 0 c).after 6 t = iblk m c 6 t := by dsimp only [dats]
@[inherit_doc before_0] theorem before_6 (c : Dev nD) (d) : (dats m out 0 c).before 6 t0_0 d = iblk m c 6 t0_0 :=
  before0_6_of m (dats m out 0 c) (A_eq m out c 6) (after_6 m out c) t0_0 d
@[inherit_doc after_0] theorem after_7 (c : Dev nD) (t : Fin cfg0.N) : (dats m out 0 c).after 7 t = iblk m c 7 t := by dsimp only [dats]
@[inherit_doc before_0] theorem before_7 (c : Dev nD) (d) : (dats m out 0 c).before 7 t0_0 d = iblk m c 7 t0_0 :=
  before0_7_of m (dats m out 0 c) (A_eq m out c 7) (after_7 m out c) t0_0 d
@[inherit_doc after_0] theorem after_8 (c : Dev nD) (t : Fin cfg0.N) : (dats m out 0 c).after 8 t = iblk m c 8 t := by dsimp only [dats]
@[inherit_doc before_0] theorem before_8 (c : Dev nD) (d) : (dats m out 0 c).before 8 t0_0 d = iblk m c 8 t0_0 :=
  before0_8_of m (dats m out 0 c) (A_eq m out c 8) (after_8 m out c) t0_0 d

/-- The body's run, framed by what the pipeline keeps, for any statement `X` of the result's block before and `Y` after. -/
theorem triple (c : Dev nD) (hT : ∀ j, TabOK (from0 m c j)) (X Y : sProp 𝕄)
    (hX : X ⊢ iprop(∃ d, owns (c : Thread nD τ) (st0_9 t0_0) fullShare d))
    (hY : ∀ d, Leaves m c d → (owns (c : Thread nD τ) (st0_9 t0_0) fullShare d : sProp 𝕄) ⊢ Y) :
    iprop((dats m out 0 c).Φ (t0_0 : Fin cfg0.N).castSucc ∗ (dats m out 0 c).owesAt () (t0_0 : Fin cfg0.N).castSucc
        ∗ (∃ d, owns (c : Thread nD τ) (st0_0 t0_0) fullShare ((dats m out 0 c).before 0 t0_0 d)) ∗ (∃ d, owns (c : Thread nD τ) (st0_1 t0_0) fullShare ((dats m out 0 c).before 1 t0_0 d)) ∗ (∃ d, owns (c : Thread nD τ) (st0_2 t0_0) fullShare ((dats m out 0 c).before 2 t0_0 d)) ∗ (∃ d, owns (c : Thread nD τ) (st0_3 t0_0) fullShare ((dats m out 0 c).before 3 t0_0 d)) ∗ (∃ d, owns (c : Thread nD τ) (st0_4 t0_0) fullShare ((dats m out 0 c).before 4 t0_0 d)) ∗ (∃ d, owns (c : Thread nD τ) (st0_5 t0_0) fullShare ((dats m out 0 c).before 5 t0_0 d)) ∗ (∃ d, owns (c : Thread nD τ) (st0_6 t0_0) fullShare ((dats m out 0 c).before 6 t0_0 d)) ∗ (∃ d, owns (c : Thread nD τ) (st0_7 t0_0) fullShare ((dats m out 0 c).before 7 t0_0 d)) ∗ (∃ d, owns (c : Thread nD τ) (st0_8 t0_0) fullShare ((dats m out 0 c).before 8 t0_0 d)) ∗ X)
      ⊢ wp frame (wpE (defs₀ (F := F)) Variants.none c none) Set.univ (bodyAt0 t0_0)
        (fun _ => iprop((dats m out 0 c).Φ (t0_0 : Fin cfg0.N).succ ∗ (dats m out 0 c).owesAt () (t0_0 : Fin cfg0.N).succ
          ∗ owns (c : Thread nD τ) (st0_0 t0_0) fullShare ((dats m out 0 c).after 0 t0_0) ∗ owns (c : Thread nD τ) (st0_1 t0_0) fullShare ((dats m out 0 c).after 1 t0_0) ∗ owns (c : Thread nD τ) (st0_2 t0_0) fullShare ((dats m out 0 c).after 2 t0_0) ∗ owns (c : Thread nD τ) (st0_3 t0_0) fullShare ((dats m out 0 c).after 3 t0_0) ∗ owns (c : Thread nD τ) (st0_4 t0_0) fullShare ((dats m out 0 c).after 4 t0_0) ∗ owns (c : Thread nD τ) (st0_5 t0_0) fullShare ((dats m out 0 c).after 5 t0_0) ∗ owns (c : Thread nD τ) (st0_6 t0_0) fullShare ((dats m out 0 c).after 6 t0_0) ∗ owns (c : Thread nD τ) (st0_7 t0_0) fullShare ((dats m out 0 c).after 7 t0_0) ∗ owns (c : Thread nD τ) (st0_8 t0_0) fullShare ((dats m out 0 c).after 8 t0_0) ∗ Y)) := by
  rw [show (dats m out 0 c).Φ (t0_0 : Fin cfg0.N).castSucc = ΦA spec0 c from rfl, show (dats m out 0 c).Φ (t0_0 : Fin cfg0.N).succ = ΦA spec0 c from rfl,
    after_0, after_1, after_2, after_3, after_4, after_5, after_6, after_7, after_8]
  unfold Dat.owesAt Pipeline.owesWithin
  rw [show (dats m out 0 c).owed (t0_0 : Fin cfg0.N).castSucc = 0 from rfl, show (dats m out 0 c).owed (t0_0 : Fin cfg0.N).succ = 0 from rfl]
  iintro ⟨HΦ, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, HX⟩
  iapply (wp_wand_r frame (wpE (defs₀ (F := F)) Variants.none (c : Thread nD τ) none) Set.univ
    (Q := fun _ => iprop(ΦA spec0 c ∗ ins m c ∗ ∃ d, ⌜Leaves m c d⌝ ∗ owns (c : Thread nD τ) (st0_9 t0_0) fullShare d)))
  isplitl [HΦ I0 I1 I2 I3 I4 I5 I6 I7 I8 HX]
  · iapply (sound m c hT)
    isplitl [HΦ]
    · iexact HΦ
    isplitr [HX]
    · unfold ins
      rw [← before_0 m out c d0, ← before_1 m out c d1, ← before_2 m out c d2, ← before_3 m out c d3, ← before_4 m out c d4, ← before_5 m out c d5, ← before_6 m out c d6, ← before_7 m out c d7, ← before_8 m out c d8]
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      iexact I8
    · iapply hX
      iexact HX
  · unfold ins
    iintro %_ ⟨HΦ, ⟨I0, I1, I2, I3, I4, I5, I6, I7, I8⟩, ⟨%d, %hd, Ho⟩⟩
    isplitl [HΦ]
    · iexact HΦ
    isplitl [HW]
    · iexists W; isplitr; · ipureintro; exact fun _ _ => Or.inl trivial
      iexact HW
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    iapply (hY d hd)
    iexact Ho

/-- The body's obligation where nothing is said of the result. -/
theorem body_forget (c : Dev nD) (hT : ∀ j, TabOK (from0 m c j)) :
    BodyObligation (dats m out 0 c) (defs₀ (F := F)) Variants.none () Set.univ (fun w => w == 9) := fun t => by
  obtain rfl := fin_N0 t
  rw [bigSep_W0, bigSep_W0, defs₀_row]
  exact triple_restated (triple m out c hT _ _ (.rfl : iprop(∃ d, owns (c : Thread nD τ) (st0_9 t0_0) fullShare d) ⊢ _)
    (fun d _ => exists_intro d)) rfl .rfl fun _ => .rfl

/-- The body's obligation where every result that `Leaves` allows is the named one. -/
theorem body_named (c : Dev nD) (hT : ∀ j, TabOK (from0 m c j)) (ho : ∀ d, Leaves m c d → d = out c) :
    BodyObligation (dats m out 0 c) (defs₀ (F := F)) Variants.none () Set.univ := fun t => by
  obtain rfl := fin_N0 t
  rw [bigSep_W0, bigSep_W0, defs₀_row]
  exact triple_restated (triple m out c hT iprop(∃ d, owns (c : Thread nD τ) (st0_9 t0_0) fullShare ((dats m out 0 c).before 9 t0_0 d)) _
    (exists_elim fun d => exists_intro ((dats m out 0 c).before 9 t0_0 d))
    (fun d hd => by rw [ho d hd]; exact .rfl)) rfl .rfl fun _ => .rfl

/-- The run of the whole program, where nothing is said of the result: the arguments end unchanged, every counter at zero. -/
theorem frame_run (hT : ∀ c j, TabOK (from0 m c j)) :
    θ_run defs (onTc (τ := τ) (main (F := F))) ⟨m, fun _ => 0, ρ⟩ (fun r =>
      RDat.FramePost cfg0 (fun c => (dats m (fun _ _ => Scalar.ofBits .f32 0#32) 0 c).toRForget (fun w => w == 9)) (V m) r ∧ r.2.sem = fun _ => 0) :=
  θ_run_frame_forget cfgs (dats m (fun _ _ => Scalar.ofBits .f32 0#32)) (0 : Fin 1) launch0 defs₀ Variants.none (fun w => w == 9) m ρ main
    (fun c => (body_forget m _ c (hT c)).loose) (fun c => (dats m _ 0 c).share_full fun _ => rfl) (fun _ _ => rfl) (V m) (hmain m Variants.none)
    (A_eq m _) (fun _ _ => rfl) _ (fun _ h => h)

/-- The run of the whole program, where every result that `Leaves` allows is the named one. -/
theorem named_run (hT : ∀ c j, TabOK (from0 m c j)) (ho : ∀ c d, Leaves m c d → d = out c) :
    θ_run defs (onTc (τ := τ) (main (F := F))) ⟨m, fun _ => 0, ρ⟩ (FramePost cfgs (dats m out) 0 (V m)) :=
  θ_run_frame cfgs (dats m out) (0 : Fin 1) launch0 defs₀ Variants.none m ρ main
    (fun c => (body_named m out c (hT c) (ho c)).loose) (fun c => (dats m out 0 c).share_full fun _ => rfl) (fun _ _ => rfl) (V m)
    (hmain m Variants.none) (A_eq m out) (fun _ _ => rfl)

end Cert.Proof
-- ==== Proof.Tables.lean ====
/-
  The launch's own tables: what the host operations before the kernel compute from the nodes' graphs, and what the precondition makes of it.
-/
module

public import proofs.«01_k».proof.Proof.Body
public import proofs.«01_k».proof.Proof.Gen.Pre_sorted_graphs
public import Idealize.ShloMosaic.Lib.Routing.Ops
public import Idealize.ShloMosaic.Lib.Routing.OpsSet
public import Idealize.ShloMosaic.Lib.Routing.OpsPair
public import Idealize.ShloMosaic.Lib.ReduceAll
public import Idealize.ShloMosaic.Lib.StableHlo.RunRead
public import Idealize.ShloMosaic.Lib.Pointwise

@[expose] public section

noncomputable section

namespace Cert.Proof

open Cert.KernelIdeal Cert.KernelIdeal.Gen Cert.KernelIdeal.Facts
open Idealize.ShloMosaic Idealize.ShloMosaic.TcCoe Idealize.ShloMosaic.Tactic
open Idealize.ShloMosaic.StableHlo

variable {F : FTy → Type} [FloatOps F] [Named F]

/-- A number for every one of the twenty-five blocks. -/
def every (k : BitVec 32) : IVec S25 32 := broadcastInDim S25 ![] bcast_S_S25 (constantI S_ 32 k)

/-- A number for every block and window. -/
def every8 (k : BitVec 32) : IVec S25x8 32 := broadcastInDim S25x8 ![] bcast_S_S25x8 (constantI S_ 32 k)

/-- The graphs of the nodes, block by block. -/
def blocks (bt : IVec S100000 32) : IVec S25x4000 32 := shapeCast S25x4000 bt shapeCasts_S100000_S25x4000

/-- The graph of each block's first node, brought down to a multiple of eight. -/
def low (bt : IVec S100000 32) : IVec S25 32 :=
  andi (shapeCast S25 (extractStridedSlice S25x1 ![0, 0] (blocks bt) slices_S25x4000_S25x1_0_0) shapeCasts_S25x1_S25) (every 4294967288#32)

/-- How far each block's last node's graph lies above that. -/
def reach (bt : IVec S100000 32) : IVec S25 32 :=
  subi (shapeCast S25 (extractStridedSlice S25x1 ![0, 3999] (blocks bt) slices_S25x4000_S25x1_0_3999) shapeCasts_S25x1_S25) (low bt)

/-- How many windows of thirty-two graphs each block needs. -/
def need (bt : IVec S100000 32) : IVec S25 32 :=
  addi (select (andi (cmpi .ne (signi (reach bt)) (broadcastInDim S25 ![] bcast_S_S25 (signi (constantI S_ 32 32#32))))
      (cmpi .ne (Host.remsi (reach bt) (every 32#32)) (every 0#32)))
    (subi (Host.divsi (reach bt) (every 32#32)) (every 1#32)) (Host.divsi (reach bt) (every 32#32))) (every 1#32)

/-- The table position each block's windows start at. -/
def first (bt : IVec S100000 32) : IVec S25 32 :=
  subi (Host.reduceWindow IntOp.addi ![25] ![1] ![24] ![0] (need bt) (broadcastInDim S_ ![] bcast_S_S_ (constantI S_ 32 0#32))
    reduceWindows_S25_S25_w25s1p24_0 h_S_) (need bt)

/-- One number for each block, over its windows. -/
def rows (x : IVec S25 32) : IVec S25x8 32 :=
  broadcastInDim S25x8 ![0, 1] bcast_S25x1_S25x8_0_1 (broadcastInDim S25x1 ![0] bcast_S25_S25x1_0 x)

/-- One number for each window, over the blocks. -/
def cols (x : IVec S1x8 32) : IVec S25x8 32 := broadcastInDim S25x8 ![0, 1] bcast_S1x8_S25x8_0_1 x

/-- The windows' numbers. -/
def eight : IVec S1x8 32 := broadcastInDim S1x8 ![1] bcast_S8_S1x8_1 (iotaInDim S8 32 0)

/-- The table position of each block's window, or two hundred for a window the block does not need. -/
def place (bt : IVec S100000 32) : IVec S25x8 32 :=
  select (cmpi .slt (cols eight) (rows (need bt))) (addi (rows (first bt)) (cols eight)) (every8 200#32)

/-- Those positions as the scatter takes them. -/
def places (bt : IVec S100000 32) : IVec S25x8x1 32 :=
  broadcastInDim S25x8x1 ![0, 1] bcast_S25x8_S25x8x1_0_1
    (select (cmpi .slt (place bt) (every8 0#32)) (addi (place bt) (every8 201#32)) (place bt))

/-- A table of two hundred numbers, one number stored for each window at its position. -/
def table (bt : IVec S100000 32) (u : IVec S25x8 32) : IVec S200 32 :=
  extractStridedSlice S200 ![0] (Host.scatter scatter_S201_S25x8x1_S25x8_n_0_0_2 (fun _ b => b)
    (broadcastInDim S201 ![] bcast_S_S201 (constantI S_ 32 0#32)) (places bt) u) slices_S201_S200_0

/-- The lowest graph of each block's window. -/
def lows (bt : IVec S100000 32) : IVec S25x8 32 :=
  addi (rows (low bt)) (cols (muli (broadcastInDim S1x8 ![] bcast_S_S1x8 (constantI S_ 32 32#32)) eight))

/-- How many windows there are. -/
def total (bt : IVec S100000 32) : IVec S1 32 :=
  shapeCast S1 (addi (shapeCast S_ (extractStridedSlice S1 ![24] (first bt) slices_S25_S1_24) shapeCasts_S1_S_)
    (shapeCast S_ (extractStridedSlice S1 ![24] (need bt) slices_S25_S1_24) shapeCasts_S1_S_)) shapeCasts_S_S1

variable (m : (ℓ : Loc nD τ sig) → Buf (Elt F) ℓ)

set_option maxHeartbeats 4000000 in
set_option maxRecDepth 100000 in
/-- The host operations leave the blocks, -/
theorem V_blocks (c : Dev nD) : V m c main_call0_v0 = blocks (m ((c : Thread nD τ).loc main_arg1)) := by
  show after hostOps0 _ (Proc.devRef .tc main_call0_v0) = _
  after_reads_simp
  rfl

set_option maxHeartbeats 4000000 in
set_option maxRecDepth 100000 in
/-- the windows' blocks, -/
theorem V_tb (c : Dev nD) : V m c main_call0_v49
    = table (m ((c : Thread nD τ).loc main_arg1)) (rows (iotaInDim S25 32 0)) := by
  show after hostOps0 _ (Proc.devRef .tc main_call0_v49) = _
  after_reads_simp
  simp only [TRef.ofBuf, TRef.toBuf, cast_eq, id]
  unfold table places place cols rows first need reach low every every8 blocks eight
  rfl

set_option maxHeartbeats 4000000 in
set_option maxRecDepth 100000 in
/-- their lowest graphs, -/
theorem V_tl (c : Dev nD) : V m c main_call0_v58
    = table (m ((c : Thread nD τ).loc main_arg1)) (lows (m ((c : Thread nD τ).loc main_arg1))) := by
  show after hostOps0 _ (Proc.devRef .tc main_call0_v58) = _
  after_reads_simp
  simp only [TRef.ofBuf, TRef.toBuf, cast_eq, id]
  unfold table lows places place cols rows first need reach low every every8 blocks eight
  rfl

set_option maxHeartbeats 4000000 in
set_option maxRecDepth 100000 in
/-- their number, -/
theorem V_nt (c : Dev nD) : V m c main_call0_v18 = total (m ((c : Thread nD τ).loc main_arg1)) := by
  show after hostOps0 _ (Proc.devRef .tc main_call0_v18) = _
  after_reads_simp
  simp only [TRef.ofBuf, TRef.toBuf, cast_eq, id]
  unfold total first need reach low every blocks
  rfl

set_option maxHeartbeats 4000000 in
set_option maxRecDepth 100000 in
/-- and the two biases as rows. -/
theorem V_bi (c : Dev nD) : V m c main_call0_v59
    = shapeCast S1x512 (m ((c : Thread nD τ).loc main_arg4)) shapeCasts_S512_S1x512 := by
  show after hostOps0 _ (Proc.devRef .tc main_call0_v59) = _
  after_reads_simp
  rfl

set_option maxHeartbeats 4000000 in
set_option maxRecDepth 100000 in
@[inherit_doc V_bi] theorem V_bh (c : Dev nD) : V m c main_call0_v60
    = shapeCast S1x512 (m ((c : Thread nD τ).loc main_arg5)) shapeCasts_S512_S1x512 := by
  show after hostOps0 _ (Proc.devRef .tc main_call0_v60) = _
  after_reads_simp
  rfl

end Cert.Proof
-- ==== Proof.Plan.lean ====
/-
  What the launch's tables hold when the nodes are sorted by their graph: every node lies in exactly one window.
-/
module

public import proofs.«01_k».proof.Proof.Tables

@[expose] public section

noncomputable section

namespace Cert.Proof

open Cert.KernelIdeal Cert.KernelIdeal.Gen Cert.KernelIdeal.Facts
open Idealize.ShloMosaic Idealize.ShloMosaic.TcCoe Idealize.ShloMosaic.Tactic
open Idealize.ShloMosaic.Routing Idealize.ShloMosaic.WordCmp

/-- The nodes are sorted by their graph, and the graphs are numbered below 256. -/
structure Sorted (bt : IVec S100000 32) : Prop where
  lt : ∀ n : Fin 100000, (bt (ix1 n)).toNat < 256
  le : ∀ a b : Fin 100000, a ≤ b → (bt (ix1 a)).toNat ≤ (bt (ix1 b)).toNat

variable {bt : IVec S100000 32} (hs : Sorted bt)

variable (bt) in
/-- The graph of a node. -/
def gr (n : ℕ) : ℕ := (bt (ix1 ⟨n % 100000, Nat.mod_lt _ (by decide)⟩)).toNat

variable (bt) in
/-- The lowest graph of a block's first window. -/
def lo (i : ℕ) : ℕ := gr bt (i * 4000) / 8 * 8

variable (bt) in
/-- The number of windows of a block. -/
def wn (i : ℕ) : ℕ := (gr bt (i * 4000 + 3999) - lo bt i) / 32 + 1

variable (bt) in
/-- The number of windows of the blocks before one. -/
def st (i : ℕ) : ℕ := ((List.range i).map (wn bt)).sum

/-- A word is the word of its number. -/
theorem word_of (w : BitVec 32) : w = BitVec.ofNat 32 w.toNat := by simp

include hs in
/-- Graphs are numbered below 256. -/
theorem gr_lt (n : ℕ) : gr bt n < 256 := hs.lt _

include hs in
/-- Later nodes lie in later graphs. -/
theorem gr_le {a b : ℕ} (h : a ≤ b) (hb : b < 100000) : gr bt a ≤ gr bt b :=
  hs.le _ _ (by
    show a % 100000 ≤ b % 100000
    rw [Nat.mod_eq_of_lt hb, Nat.mod_eq_of_lt (by omega)]; exact h)

/-- A node's graph as a word. -/
theorem gr_eq (n : Fin 100000) : bt (ix1 n) = BitVec.ofNat 32 (gr bt n.val) := by
  have e : (⟨n.val % 100000, Nat.mod_lt _ (by decide)⟩ : Fin 100000) = n := Fin.ext (Nat.mod_eq_of_lt n.isLt)
  unfold gr; rw [e]; exact word_of _

/-- Words subtract as their numbers do. -/
theorem sub_word {a b : ℕ} (h : b ≤ a) (ha : a < 2 ^ 32) : IntOp.subi (BitVec.ofNat 32 a) (BitVec.ofNat 32 b) = BitVec.ofNat 32 (a - b) := by
  apply BitVec.eq_of_toNat_eq
  show (BitVec.ofNat 32 a - BitVec.ofNat 32 b).toNat = _
  simp only [BitVec.toNat_sub, BitVec.toNat_ofNat]
  omega

/-- Words add as their numbers do. -/
theorem add_word (a b : ℕ) : IntOp.addi (BitVec.ofNat 32 a) (BitVec.ofNat 32 b) = BitVec.ofNat 32 (a + b) :=
  (BitVec.ofNat_add a b).symm

/-- The blocks of graphs at an index. -/
theorem blocks_at (i : Fin 25) (j : Fin 4000) : blocks bt (ix2 i j) = BitVec.ofNat 32 (gr bt (i.val * 4000 + j.val)) := by
  unfold blocks
  refine (cast12 (a := 25) (b := 4000) bt shapeCasts_S100000_S25x4000 i j ⟨i.val * 4000 + j.val, by omega⟩ rfl).trans (gr_eq _)

/-- A column of the blocks. -/
theorem column_at (k : ℕ) (hk : k < 4000) (h) (i : Fin 25) :
    shapeCast S25 (extractStridedSlice S25x1 ![0, k] (blocks bt) h) shapeCasts_S25x1_S25 (ix1 i) = BitVec.ofNat 32 (gr bt (i.val * 4000 + k)) := by
  refine (cast21 (a := 25) (b := 1) _ shapeCasts_S25x1_S25 i 0 i (by simp)).trans ?_
  refine Eq.trans ?_ (blocks_at i ⟨k, hk⟩)
  unfold extractStridedSlice
  refine congrArg (blocks bt) (funext fun a => Fin.ext ?_)
  match a with
  | ⟨0, _⟩ => exact Nat.zero_add _
  | ⟨1, _⟩ => exact Nat.add_zero _

/-- A constant vector at an index. -/
theorem every_at (k : BitVec 32) (i : Fin 25) : every k (ix1 i) = k := by
  unfold every; exact bc0 _ _ _

/-- Clearing the last three bits rounds down to a multiple of eight. -/
theorem andi_word : ∀ k < 256, IntOp.andi (BitVec.ofNat 32 k) 4294967288#32 = BitVec.ofNat 32 (k / 8 * 8) := by decide +kernel

include hs in
/-- A block's lowest graph. -/
theorem low_at (i : Fin 25) : low bt (ix1 i) = BitVec.ofNat 32 (lo bt i.val) := by
  unfold low
  rw [andi_at, column_at 0 (by decide) slices_S25x4000_S25x1_0_0, every_at, Nat.add_zero]
  exact andi_word _ (gr_lt hs _)

include hs in
/-- A block's lowest graph is at most its last. -/
theorem lo_le (i : ℕ) (hi : i < 25) : lo bt i ≤ gr bt (i * 4000 + 3999) :=
  (Nat.div_mul_le_self _ _).trans (gr_le hs (by omega) (by omega))

include hs in
/-- How far a block's graphs reach. -/
theorem reach_at (i : Fin 25) : reach bt (ix1 i) = BitVec.ofNat 32 (gr bt (i.val * 4000 + 3999) - lo bt i.val) := by
  unfold reach
  rw [subi_apply, column_at 3999 (by decide) slices_S25x4000_S25x1_0_3999, low_at hs]
  exact sub_word (lo_le hs i.val i.isLt) (lt_trans (gr_lt hs _) (by norm_num))

/-- A number's sign. -/
abbrev signi1 (w : BitVec 32) : BitVec 32 := if w = 0 then 0 else if w.msb then -1 else 1

/-- Division by thirty-two, on small numbers, as it prints. -/
theorem floor_word : ∀ k < 256, IntOp.addi (Scalar.select (IntOp.andi (IntOp.cmpi .ne (signi1 (BitVec.ofNat 32 k)) (signi1 32#32))
    (IntOp.cmpi .ne (IntOp.remsi .host (BitVec.ofNat 32 k) 32#32) 0#32)) (IntOp.subi (IntOp.divsi .host (BitVec.ofNat 32 k) 32#32) 1#32)
    (IntOp.divsi .host (BitVec.ofNat 32 k) 32#32)) 1#32 = BitVec.ofNat 32 (k / 32 + 1) := by decide +kernel

include hs in
/-- A block's number of windows. -/
theorem need_at (i : Fin 25) : need bt (ix1 i) = BitVec.ofNat 32 (wn bt i.val) := by
  unfold need
  have e := floor_word _ (lt_of_le_of_lt (Nat.sub_le (gr bt (i.val * 4000 + 3999)) (lo bt i.val)) (gr_lt hs _))
  rw [← reach_at hs] at e
  rw [← every_at 32#32 i, ← every_at 0#32 i, ← every_at 1#32 i] at e
  exact e

include hs in
/-- A block has at most eight windows. -/
theorem wn_le (i : ℕ) : wn bt i ≤ 8 := by
  have := gr_lt hs (i * 4000 + 3999)
  unfold wn; omega

/-- A block has a window. -/
theorem wn_pos (i : ℕ) : 0 < wn bt i := Nat.succ_pos _

/-- The windows before the next block are those before this one and its own. -/
theorem st_succ (i : ℕ) : st bt (i + 1) = st bt i + wn bt i := by
  unfold st; rw [List.range_succ]; simp

include hs in
/-- The windows before a block are at most eight to a block. -/
theorem st_le (i : ℕ) : st bt i ≤ 8 * i := by
  induction i with
  | zero => simp [st]
  | succ i ih => rw [st_succ]; have := wn_le hs i; omega

include hs in
/-- A block's first row of the tables. -/
theorem first_at (i : Fin 25) : first bt (ix1 i) = BitVec.ofNat 32 (st bt i.val) := by
  unfold first
  have hc : Host.reduceWindow IntOp.addi ![25] ![1] ![24] ![0] (need bt) (broadcastInDim S_ ![] bcast_S_S_ (constantI S_ 32 0#32))
      reduceWindows_S25_S25_w25s1p24_0 h_S_ (ix1 i) = BitVec.ofNat 32 (st bt (i.val + 1)) :=
    cumsum1 (N := 25) (Nm1 := 24) rfl (need bt) (wn bt) (need_at hs) _ (bc0 _ _ _) reduceWindows_S25_S25_w25s1p24_0 h_S_ i
  rw [subi_apply, need_at hs, hc]
  have h1 := st_le hs i.val
  have h2 := wn_le hs i.val
  have h3 := i.isLt
  refine (sub_word (a := st bt (i.val + 1)) (b := wn bt i.val) ?_ ?_).trans ?_
  · rw [st_succ]; omega
  · rw [st_succ]; omega
  · rw [st_succ, Nat.add_sub_cancel]

include hs in
/-- There are as many windows as the blocks need together. -/
theorem total_at : (total bt (ix1 0)).toNat = st bt 25 := by
  have e : total bt (ix1 0) = IntOp.addi (first bt (ix1 24)) (need bt (ix1 24)) := by
    unfold total
    rw [shapeCast_apply _ _ (ix1 0) ix0 (by rfl)]
    rw [addi_apply, shapeCast_apply _ _ ix0 (ix1 0) (by rfl), shapeCast_apply _ _ ix0 (ix1 0) (by rfl)]
    exact congrArg₂ IntOp.addi (slice1 (m := 25) (n := 1) 24 (first bt) slices_S25_S1_24 0 (by decide))
      (slice1 (m := 25) (n := 1) 24 (need bt) slices_S25_S1_24 0 (by decide))
  rw [e, first_at hs, need_at hs]
  rw [show ((24 : Fin 25)).val = 24 from rfl, add_word, ← st_succ, BitVec.toNat_ofNat]
  have h1 : st bt (24 + 1) ≤ _ := st_le hs 25
  exact Nat.mod_eq_of_lt (by omega)

/-- Each table position below the number of windows belongs to one window of one block. -/
theorem st_split (i t : ℕ) (h : t < st bt i) : ∃ a b, a < i ∧ b < wn bt a ∧ t = st bt a + b := by
  induction i with
  | zero => simp [st] at h
  | succ i ih =>
    rw [st_succ] at h
    rcases Nat.lt_or_ge t (st bt i) with h1 | h1
    · obtain ⟨a, b, ha, hb, e⟩ := ih h1; exact ⟨a, b, by omega, hb, e⟩
    · exact ⟨i, t - st bt i, by omega, by omega, by omega⟩

/-- Later blocks start later. -/
theorem st_mono {i j : ℕ} (h : i ≤ j) : st bt i ≤ st bt j := by
  induction j, h using Nat.le_induction with
  | base => exact le_rfl
  | succ j _ ih => rw [st_succ]; omega

/-- A row of the tables is of one block and one window. -/
theorem st_inj {a b a' b' : ℕ} (hb : b < wn bt a) (hb' : b' < wn bt a') (e : st bt a + b = st bt a' + b') : a = a' ∧ b = b' := by
  have key : ∀ x y, x < y → st bt x + wn bt x ≤ st bt y := fun x y h => by rw [← st_succ]; exact st_mono h
  rcases lt_trichotomy a a' with h | h | h
  · have := key _ _ h; omega
  · subst h; exact ⟨rfl, by omega⟩
  · have := key _ _ h; omega

/-- A vector along the rows at an index. -/
theorem rows_at (x : IVec S25 32) (i : Fin 25) (j : Fin 8) : rows x (ix2 i j) = x (ix1 i) := by
  unfold rows; exact bcRows (n := 25) (m := 8) bcast_S25_S25x1_0 bcast_S25x1_S25x8_0_1 x i j

/-- The numbers 0 to 7 along the columns at an index. -/
theorem cols_eight_at (i : Fin 25) (j : Fin 8) : cols eight (ix2 i j) = BitVec.ofNat 32 j.val := by
  unfold cols eight
  exact (bcCols (n := 25) (m := 8) bcast_S8_S1x8_1 bcast_S1x8_S25x8_0_1 (iotaInDim S8 32 0) i j).trans rfl

/-- A constant table at an index. -/
theorem every8_at (k : BitVec 32) (x : S25x8.Idx) : every8 k x = k := by
  unfold every8; exact bc0 _ _ _

include hs in
/-- Where a window of a block is put: its row, or the row past the end. -/
theorem place_at (i : Fin 25) (j : Fin 8) : place bt (ix2 i j) = BitVec.ofNat 32 (if j.val < wn bt i.val then st bt i.val + j.val else 200) := by
  unfold place
  rw [select_at, cmpi_at, addi_apply, rows_at, rows_at, cols_eight_at, every8_at, need_at hs, first_at hs]
  have h2 := wn_le hs i.val
  have h3 := j.isLt
  have e : IntOp.cmpi .slt (BitVec.ofNat 32 j.val) (BitVec.ofNat 32 (wn bt i.val)) = BitVec.ofBool (decide (j.val < wn bt i.val)) := by
    have : ∀ a < 8, ∀ b ≤ 8, IntOp.cmpi .slt (BitVec.ofNat 32 a) (BitVec.ofNat 32 b) = BitVec.ofBool (decide (a < b)) := by decide +kernel
    exact this _ h3 _ h2
  rw [e]
  by_cases h : j.val < wn bt i.val
  · rw [if_pos h, decide_eq_true h]
    exact add_word _ _
  · rw [if_neg h, decide_eq_false h]; rfl

include hs in
/-- The same as a signed index. -/
theorem places_at (i : Fin 25) (j : Fin 8) :
    (places bt (ix3 i j 0)).toInt = ((if j.val < wn bt i.val then st bt i.val + j.val else 200 : ℕ) : ℤ) := by
  have hlt : (if j.val < wn bt i.val then st bt i.val + j.val else 200) ≤ 200 := by
    have h1 := st_le hs i.val
    have h2 := wn_le hs i.val
    have h3 := i.isLt
    split <;> omega
  have e : places bt (ix3 i j 0) = place bt (ix2 i j) := by
    unfold places
    rw [broadcastInDim_apply ![0, 1] bcast_S25x8_S25x8x1_0_1 _ (ix3 i j 0) (ix2 i j) (by
      intro a
      match a with
      | ⟨0, _⟩ => rfl
      | ⟨1, _⟩ => rfl)]
    rw [select_at, cmpi_at, every8_at]
    refine wrap_of_lt _ _ ?_
    rw [place_at hs, BitVec.toNat_ofNat]; omega
  rw [e, place_at hs]
  exact StableHlo.Predicate.toInt_ofNat_small _ (by omega)

/-- Where the number of a block's window is stored. -/
theorem lands (idx : IVec S25x8x1 32) (i : Fin 25) (j : Fin 8) (t : Fin 201) :
    scatter_S201_S25x8x1_S25x8_n_0_0_2.resultIdx? (ix2 i j) idx = some (ix1 t) ↔ (idx (ix3 i j 0)).toInt = (t.val : ℤ) := by
  rw [resultIdx?_eq_some]
  have h0 : scatter_S201_S25x8x1_S25x8_n_0_0_2.window (ix2 i j) 0 = 0 := rfl
  have h1 : scatter_S201_S25x8x1_S25x8_n_0_0_2.start (ix2 i j) idx 0 = (idx (ix3 i j 0)).toInt := by
    refine congrArg (fun k => (idx k).toInt) (funext fun a => Fin.ext ?_)
    match a with
    | ⟨0, _⟩ => rfl
    | ⟨1, _⟩ => rfl
    | ⟨2, _⟩ => rfl
  constructor
  · intro h
    have h := h 0
    rw [h0, h1] at h
    simpa using h
  · intro h a
    obtain rfl : a = 0 := Subsingleton.elim (α := Fin 1) _ _
    rw [h0, h1, h]; simp

include hs in
/-- The table holds, at the position of a block's window, that window's number. -/
theorem table_at (u : IVec S25x8 32) (i : Fin 25) (j : Fin 8) (hj : j.val < wn bt i.val) (t : Fin 200) (ht : t.val = st bt i.val + j.val) :
    table bt u (ix1 t) = u (ix2 i j) := by
  unfold table
  refine (slice1 (m := 201) (n := 200) 0 _ slices_S201_S200_0 t (by omega)).trans ?_
  refine scatter_set_hit scatter_S201_S25x8x1_S25x8_n_0_0_2 _ _ _ _ _ (fun k hk => ?_) (ix2 i j) ?_
  · obtain ⟨i', j', rfl⟩ : ∃ i' j', k = ix2 i' j' := ⟨k 0, k 1, eq_ix2 k⟩
    have h := (lands (places bt) i' j' ⟨0 + t.val, by omega⟩).1 hk
    rw [places_at hs] at h
    have h2 : t.val < 200 := t.isLt
    have h : (if j'.val < wn bt i'.val then st bt i'.val + j'.val else 200) = 0 + t.val := by exact_mod_cast h
    split at h
    · next hl =>
      obtain ⟨e1, e2⟩ := st_inj hl hj (by omega)
      rw [Fin.ext e1, Fin.ext e2]
    · omega
  · refine (lands (places bt) i j ⟨0 + t.val, by omega⟩).2 ?_
    rw [places_at hs, if_pos hj]
    simp [ht]

/-- What the tables say: how many windows there are, where each lies, and that every node lies in exactly one. -/
structure Planned (bt : IVec S100000 32) : Prop where
  len : (total bt (ix1 0)).toNat ≤ 200
  win : ∀ t : Fin 200, t.val < (total bt (ix1 0)).toNat →
    (table bt (rows (iotaInDim S25 32 0)) (ix1 t)).toNat < 25 ∧ (table bt (lows bt) (ix1 t)).toNat ≤ 256
  one : ∀ n : Fin 100000, ∃! t : Fin 200, t.val < (total bt (ix1 0)).toNat
    ∧ (table bt (rows (iotaInDim S25 32 0)) (ix1 t)).toNat = n.val / 4000
    ∧ (table bt (lows bt) (ix1 t)).toNat ≤ (bt (ix1 n)).toNat ∧ (bt (ix1 n)).toNat < (table bt (lows bt) (ix1 t)).toNat + 32

include hs in
/-- A window's lowest graph. -/
theorem lows_at (i : Fin 25) (j : Fin 8) : lows bt (ix2 i j) = BitVec.ofNat 32 (lo bt i.val + 32 * j.val) := by
  unfold lows
  rw [addi_apply, rows_at, low_at hs]
  have e : cols (muli (broadcastInDim S1x8 ![] bcast_S_S1x8 (constantI S_ 32 32#32)) eight) (ix2 i j) = BitVec.ofNat 32 (32 * j.val) := by
    unfold cols
    rw [broadcastInDim_apply ![0, 1] bcast_S1x8_S25x8_0_1 _ (ix2 i j) (ix2 0 j) (by
      intro a
      match a with
      | ⟨0, _⟩ => rfl
      | ⟨1, _⟩ => rfl)]
    have : ∀ k : Fin 8, IntOp.muli 32#32 (BitVec.ofNat 32 k.val) = BitVec.ofNat 32 (32 * k.val) := by decide
    exact this j
  rw [e]; exact add_word _ _

include hs in
/-- The tables of sorted nodes. -/
theorem planned : Planned bt := by
  have h25 := st_le hs 25
  have key : ∀ t : Fin 200, t.val < st bt 25 → ∃ (i : Fin 25) (j : Fin 8), j.val < wn bt i.val ∧ t.val = st bt i.val + j.val := fun t ht => by
    obtain ⟨a, b, ha, hb, e⟩ := st_split 25 t.val ht
    have := wn_le hs a
    exact ⟨⟨a, ha⟩, ⟨b, by omega⟩, hb, e⟩
  have htb : ∀ (i : Fin 25) (j : Fin 8) (hj : j.val < wn bt i.val) (t : Fin 200) (ht : t.val = st bt i.val + j.val),
      (table bt (rows (iotaInDim S25 32 0)) (ix1 t)).toNat = i.val := fun i j hj t ht => by
    rw [table_at hs _ i j hj t ht, rows_at]
    have : ∀ i : Fin 25, (BitVec.ofNat 32 i.val).toNat = i.val := by decide
    exact this i
  have htl : ∀ (i : Fin 25) (j : Fin 8) (hj : j.val < wn bt i.val) (t : Fin 200) (ht : t.val = st bt i.val + j.val),
      (table bt (lows bt) (ix1 t)).toNat = lo bt i.val + 32 * j.val ∧ lo bt i.val + 32 * j.val ≤ 256 := fun i j hj t ht => by
    have h1 := gr_lt hs (i.val * 4000 + 3999)
    have h2 := lo_le hs i.val i.isLt
    unfold wn at hj
    have h3 : lo bt i.val + 32 * j.val ≤ 256 := by omega
    rw [table_at hs _ i j hj t ht, lows_at hs, BitVec.toNat_ofNat]
    exact ⟨Nat.mod_eq_of_lt (by omega), h3⟩
  constructor
  · rw [total_at hs]; omega
  · intro t ht
    rw [total_at hs] at ht
    obtain ⟨i, j, hj, e⟩ := key t ht
    rw [htb i j hj t e, (htl i j hj t e).1]
    exact ⟨i.isLt, (htl i j hj t e).2⟩
  · intro n
    have hn := n.isLt
    have hg : (bt (ix1 n)).toNat = gr bt n.val := by
      unfold gr; congr 3; exact Fin.ext (Nat.mod_eq_of_lt n.isLt).symm
    have hi : n.val / 4000 < 25 := by omega
    have g1 : gr bt (n.val / 4000 * 4000) ≤ gr bt n.val := gr_le hs (by omega) hn
    have g2 : gr bt n.val ≤ gr bt (n.val / 4000 * 4000 + 3999) := gr_le hs (by omega) (by omega)
    have g3 : lo bt (n.val / 4000) ≤ gr bt (n.val / 4000 * 4000) := Nat.div_mul_le_self _ _
    have hw : (gr bt n.val - lo bt (n.val / 4000)) / 32 < wn bt (n.val / 4000) := by unfold wn; omega
    have hw8 := wn_le hs (n.val / 4000)
    have hst : st bt (n.val / 4000 + 1) ≤ st bt 25 := st_mono (by omega)
    rw [st_succ] at hst
    have e0 : st bt (n.val / 4000) + (gr bt n.val - lo bt (n.val / 4000)) / 32 < 200 := by omega
    refine ⟨⟨st bt (n.val / 4000) + (gr bt n.val - lo bt (n.val / 4000)) / 32, e0⟩, ⟨?_, ?_, ?_⟩, ?_⟩
    · rw [total_at hs]; show st bt (n.val / 4000) + _ < _; omega
    · exact htb ⟨n.val / 4000, hi⟩ ⟨_, lt_of_lt_of_le hw hw8⟩ hw _ rfl
    · rw [(htl ⟨n.val / 4000, hi⟩ ⟨_, lt_of_lt_of_le hw hw8⟩ hw _ rfl).1, hg]
      show lo bt (n.val / 4000) + 32 * ((gr bt n.val - lo bt (n.val / 4000)) / 32) ≤ _ ∧ _ < lo bt (n.val / 4000) + 32 * ((gr bt n.val - lo bt (n.val / 4000)) / 32) + 32
      omega
    · rintro t ⟨h1, h2, h3, h4⟩
      rw [total_at hs] at h1
      obtain ⟨i, j, hj, e⟩ := key t h1
      rw [htb i j hj t e] at h2
      rw [(htl i j hj t e).1, hg] at h3 h4
      refine Fin.ext ?_
      rw [e]
      show _ = st bt (n.val / 4000) + (gr bt n.val - lo bt (n.val / 4000)) / 32
      rw [← h2] at *
      omega

variable {F : FTy → Type} [FloatOps F]

/-- What the precondition says, decoded. -/
theorem sorted_of_pre (x : FVec F Cert.Pre_sorted_graphs.S100000x128 .f32) (bt : IVec S100000 32) (wi : FVec F Cert.Pre_sorted_graphs.S512x256 .f32)
    (wh : FVec F Cert.Pre_sorted_graphs.S512x128 .f32) (bi bh : FVec F Cert.Pre_sorted_graphs.S512 .f32)
    (h : Cert.Pre_sorted_graphs.fn x bt wi wh bi bh = fun _ => 1#1) : Sorted bt := by
  have both (p q : BitVec 1) : IntOp.andi p q = 1#1 ↔ p = 1#1 ∧ q = 1#1 := by revert p q; decide
  have truth (p : Bool) : (BitVec.ofBool p = 1#1) ↔ p = true := by cases p <;> decide
  obtain ⟨e, e3⟩ := (both _ _).1 (congrFun h ix0)
  obtain ⟨e1, e2⟩ := (both _ _).1 e
  haveI : Subsingleton Cert.Pre_sorted_graphs.S_.Idx := ⟨fun a b => funext fun k => k.elim0⟩
  have h1 : ∀ n : Fin 100000, 0 ≤ (bt (ix1 n)).toInt := fun n => by
    have := Host.reduce_andi_all _ _ _ _ _ e1 (ix1 n)
    change BitVec.ofBool (BitVec.sle 0#32 (bt (ix1 n))) = 1#1 at this
    simpa [BitVec.sle] using (truth _).1 this
  have h2 : ∀ n : Fin 100000, (bt (ix1 n)).toInt < 256 := fun n => by
    have := Host.reduce_andi_all _ _ _ _ _ e2 (ix1 n)
    change BitVec.ofBool (BitVec.slt (bt (ix1 n)) 256#32) = 1#1 at this
    simpa [BitVec.slt] using (truth _).1 this
  have h3 : ∀ n (hn : n < 99999), (bt (ix1 ⟨n, by omega⟩)).toInt ≤ (bt (ix1 ⟨n + 1, by omega⟩)).toInt := fun n hn => by
    have := Host.reduce_andi_all _ _ _ _ _ e3 (ix1 ⟨n, hn⟩)
    have l := slice1 (m := 100000) (n := 99999) 0 bt Cert.Pre_sorted_graphs.Facts.slices_S100000_S99999_0 ⟨n, hn⟩ (by simp; omega)
    have r := slice1 (m := 100000) (n := 99999) 1 bt Cert.Pre_sorted_graphs.Facts.slices_S100000_S99999_1 ⟨n, hn⟩ (by simp; omega)
    have this := this.symm.trans (congrArg₂ (fun a b => BitVec.ofBool (BitVec.sle a b)) l r)
    have this := (truth _).1 this.symm
    simp only [BitVec.sle, decide_eq_true_eq, Nat.zero_add, Nat.add_comm 1] at this
    exact this
  have nat : ∀ n : Fin 100000, (bt (ix1 n)).toInt = ((bt (ix1 n)).toNat : ℤ) ∧ (bt (ix1 n)).toNat < 256 := fun n => by
    have a := h1 n
    have b := h2 n
    have l := (bt (ix1 n)).isLt
    rw [BitVec.toInt_eq_toNat_cond] at a b ⊢
    split at a <;> rename_i hc
    · rw [if_pos hc] at b ⊢; exact ⟨rfl, by omega⟩
    · omega
  refine ⟨fun n => (nat n).2, fun a b hab => ?_⟩
  obtain ⟨a, ha⟩ := a
  obtain ⟨b, hb⟩ := b
  obtain ⟨d, rfl⟩ : ∃ d, b = a + d := ⟨b - a, (Nat.add_sub_cancel' (show a ≤ b from hab)).symm⟩
  have step : ∀ d (hd : a + d < 100000), (bt (ix1 ⟨a, ha⟩)).toNat ≤ (bt (ix1 ⟨a + d, hd⟩)).toNat := fun d => by
    induction d with
    | zero => exact fun _ => le_rfl
    | succ d ih =>
      intro hd
      refine (ih (by omega)).trans ?_
      have := h3 (a + d) (by omega)
      rw [(nat _).1, (nat _).1] at this
      exact_mod_cast this
  exact step d hb

end Cert.Proof
-- ==== Proof.Blocks.lean ====
/-
  The blocks the kernel reads are its launch's arrays whole, and with sorted nodes its tables are in bounds.
-/
module

public import proofs.«01_k».proof.Proof.Plan

@[expose] public section

noncomputable section

namespace Cert.Proof

open Cert.KernelIdeal Cert.KernelIdeal.Gen Cert.KernelIdeal.Facts
open Idealize.ShloMosaic Idealize.ShloMosaic.TcCoe Idealize.ShloMosaic.Tactic

variable {F : FTy → Type} [FloatOps F] [Named F]
variable (m : (ℓ : Loc nD τ sig) → Buf (Elt F) ℓ)

/-- An array read at indices that move nothing is the array. -/
theorem unmoved {s : Shape} {α : Type} (f : s.Idx → α) (e : s.Idx → s.Idx) (h : ∀ x a, (e x a).val = 0 + 1 * (x a).val) :
    (fun x => f (e x)) = f :=
  funext fun x => congrArg f (funext fun a => Fin.ext (by rw [h]; omega))

set_option maxRecDepth 10000

/-- Each window's block is its array. -/
theorem blk_x (c : Dev nD) : iblk m c 0 t0_0 = V m c main_arg0 :=
  unmoved (s := S100000x128) (V m c main_arg0) _ fun x a => by fin_cases a <;> rfl
@[inherit_doc blk_x] theorem blk_bt (c : Dev nD) : iblk m c 1 t0_0 = V m c main_call0_v0 :=
  unmoved (s := S25x4000) (V m c main_call0_v0) _ fun x a => by fin_cases a <;> rfl
@[inherit_doc blk_x] theorem blk_tb (c : Dev nD) : iblk m c 2 t0_0 = V m c main_call0_v49 :=
  unmoved (s := S200) (V m c main_call0_v49) _ fun x a => by fin_cases a <;> rfl
@[inherit_doc blk_x] theorem blk_tl (c : Dev nD) : iblk m c 3 t0_0 = V m c main_call0_v58 :=
  unmoved (s := S200) (V m c main_call0_v58) _ fun x a => by fin_cases a <;> rfl
@[inherit_doc blk_x] theorem blk_nt (c : Dev nD) : iblk m c 4 t0_0 = V m c main_call0_v18 :=
  unmoved (s := S1) (V m c main_call0_v18) _ fun x a => by fin_cases a <;> rfl
@[inherit_doc blk_x] theorem blk_wi (c : Dev nD) : iblk m c 5 t0_0 = V m c main_arg2 :=
  unmoved (s := S512x256) (V m c main_arg2) _ fun x a => by fin_cases a <;> rfl
@[inherit_doc blk_x] theorem blk_wh (c : Dev nD) : iblk m c 6 t0_0 = V m c main_arg3 :=
  unmoved (s := S512x128) (V m c main_arg3) _ fun x a => by fin_cases a <;> rfl
@[inherit_doc blk_x] theorem blk_bi (c : Dev nD) : iblk m c 7 t0_0 = V m c main_call0_v59 :=
  unmoved (s := S1x512) (V m c main_call0_v59) _ fun x a => by fin_cases a <;> rfl
@[inherit_doc blk_x] theorem blk_bh (c : Dev nD) : iblk m c 8 t0_0 = V m c main_call0_v60 :=
  unmoved (s := S1x512) (V m c main_call0_v60) _ fun x a => by fin_cases a <;> rfl

/-- With planned tables the kernel's tables are in bounds. -/
theorem tab_ok (c : Dev nD) (h : Planned (m ((c : Thread nD τ).loc main_arg1))) (j : Sto F) : TabOK (from0 m c j) := by
  have e1 : from0 m c j .nt = total (m ((c : Thread nD τ).loc main_arg1)) := (blk_nt m c).trans (V_nt m c)
  have e2 : from0 m c j .tb = table (m ((c : Thread nD τ).loc main_arg1)) (rows (iotaInDim S25 32 0)) := (blk_tb m c).trans (V_tb m c)
  have e3 : from0 m c j .tl = table (m ((c : Thread nD τ).loc main_arg1)) (lows (m ((c : Thread nD τ).loc main_arg1))) := (blk_tl m c).trans (V_tl m c)
  constructor
  · rw [e1]; exact h.len
  · rw [e1, e2]; exact fun t ht => (h.win t ht).1
  · rw [e1, e3]; exact fun t ht => (h.win t ht).2

end Cert.Proof
-- ==== Proof.Frames.lean ====
/-
  The run of the kernel from sorted nodes: it ends, and the arguments end unchanged.
-/
module

public import proofs.«01_k».proof.Defs
public import proofs.«01_k».proof.Proof.Blocks

@[expose] public section

noncomputable section

namespace Cert.Proof

open Cert.KernelIdeal Cert.KernelIdeal.Gen
open Idealize.ShloMosaic Idealize.ShloMosaic.TcCoe Idealize.ShloMosaic.Tactic
open Idealize.SL.Sem Idealize.ShloMosaic.Pipeline

section
variable {F : FTy → Type} [FloatOps F] [Named F]
variable (m : (ℓ : Loc nD τ sig) → Buf (Elt F) ℓ) (ρ : Dev nD → PrngReg)

/-- The arguments are as they were. -/
def Same (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

set_option maxRecDepth 10000 in
set_option maxHeartbeats 4000000 in
/-- From sorted nodes the kernel runs, its arguments end unchanged and every semaphore is at rest. -/
theorem frame_sorted (h : ∀ c : Dev nD, Planned (m ((c : Thread nD τ).loc main_arg1))) :
    θ_run defs (onTc (τ := τ) (main (F := F))) ⟨m, fun _ => 0, ρ⟩ (fun r => (∀ c, Same m r c) ∧ r.2.sem = fun _ => 0) :=
  (θ_run defs _ _).mono (fun r hr => ⟨fun c =>
      ⟨(RDat.FramePost.arr_in hr.1 c 0 rfl).trans ((A_eq m (fun _ _ => Scalar.ofBits .f32 0#32) c 0).trans (V_main_arg0 m c)),
        ((hr.1 c).2 main_arg1 (mem_restRefs_of main_arg1 (by decide) (by decide))).trans (V_main_arg1 m c),
        (RDat.FramePost.arr_in hr.1 c 5 rfl).trans ((A_eq m (fun _ _ => Scalar.ofBits .f32 0#32) c 5).trans (V_main_arg2 m c)),
        (RDat.FramePost.arr_in hr.1 c 6 rfl).trans ((A_eq m (fun _ _ => Scalar.ofBits .f32 0#32) c 6).trans (V_main_arg3 m c)),
        ((hr.1 c).2 main_arg4 (mem_restRefs_of main_arg4 (by decide) (by decide))).trans (V_main_arg4 m c),
        ((hr.1 c).2 main_arg5 (mem_restRefs_of main_arg5 (by decide) (by decide))).trans (V_main_arg5 m c)⟩, hr.2⟩)
    (frame_run m ρ fun c j => tab_ok m c (h c) j)
end

/-- The kernel with the constant named runs, from sorted nodes. -/
theorem quiescent_ideal : Cert.quiescent_KernelIdeal (hKernelIdeal := Cert.KernelIdeal.Gen.facts) (hPre_sorted_graphs := Cert.Pre_sorted_graphs.Gen.facts) :=
  fun m g h => frame_sorted (F := Ideal) m g fun c => planned (sorted_of_pre _ _ _ _ _ _ (h c))

end Cert.Proof
-- ==== Proof.Same.lean ====
/-
  The kernel as printed and the kernel with its mask named are one program at bits.
-/
module

public import proofs.«01_k».proof.Defs
public import proofs.«01_k».proof.Proof.Gen.KernelIdeal
public import proofs.«01_k».proof.Proof.Gen.Kernel

@[expose] public section

noncomputable section

namespace Cert.Proof

open Idealize.ShloMosaic Idealize.ShloMosaic.TcCoe Idealize.ShloMosaic.Tactic

/-- At bits the named constant is the printed one. -/
@[reducible] def plain : Named Bits := ⟨fun _ _ {φ} b => FloatOps.ofBits φ b⟩

attribute [local instance] plain

set_option maxRecDepth 100000 in
set_option maxHeartbeats 4000000 in
/-- So the two programs are one, -/
theorem main_eq : Cert.Kernel.main (F := Bits) = Cert.KernelIdeal.main (F := Bits) := rfl

set_option maxRecDepth 100000 in
set_option maxHeartbeats 4000000 in
/-- and so are their bodies. -/
theorem defs_eq : Cert.Kernel.defs (F := Bits) = Cert.KernelIdeal.defs (F := Bits) := by
  have e : Cert.Kernel.defs₀ (F := Bits) = Cert.KernelIdeal.defs₀ (F := Bits) := by
    unfold Cert.Kernel.defs₀ Cert.KernelIdeal.defs₀
    refine congrArg Defs.onTc (funext fun l => funext fun a => ?_)
    match l, a with
    | ⟨0, _⟩, (t, s) => rfl
    | ⟨_ + 1, h⟩, _ => exact absurd h (Nat.not_lt.2 (Nat.le_add_left _ _))
  unfold Cert.Kernel.defs Cert.KernelIdeal.defs
  exact congrArg (Pipeline.defs (Cert.Kernel.pcfgs (F := Bits))) e

end Cert.Proof
-- ==== Proof.Printed.lean ====
/-
  The kernel as printed runs, from sorted nodes.
-/
module

public import proofs.«01_k».proof.Defs
public import proofs.«01_k».proof.Proof.Frames
public import proofs.«01_k».proof.Proof.Same

@[expose] public section

noncomputable section

namespace Cert.Proof

open Idealize.ShloMosaic Idealize.ShloMosaic.TcCoe Idealize.ShloMosaic.Tactic
open Idealize.SL.Sem Idealize.ShloMosaic.Pipeline

attribute [local instance] plain

set_option maxRecDepth 100000 in
set_option maxHeartbeats 4000000 in
/-- The kernel as it is runs, from sorted nodes. -/
theorem quiescent_kernel : Cert.quiescent_Kernel (hKernel := Cert.Kernel.Gen.facts) (hPre_sorted_graphs := Cert.Pre_sorted_graphs.Gen.facts) := by
  intro m g h
  rw [main_eq, defs_eq]
  exact frame_sorted (F := Bits) m g fun c => planned (sorted_of_pre _ _ _ _ _ _ (h c))

end Cert.Proof
-- ==== Proof.Refs.lean ====
/-
  The run of the reference: it ends, the arguments end unchanged, and the result is the operations' composed term.
-/
module

public import proofs.«01_k».proof.Defs
public import proofs.«01_k».proof.Proof.Gen.ReferenceIdeal
public import proofs.«01_k».proof.Proof.Gen.ReferenceIdeal.Run
public import proofs.«01_k».proof.Proof.Gen.Pre_sorted_graphs

@[expose] public section

noncomputable section

namespace Cert.Proof

open Idealize.ShloMosaic Idealize.ShloMosaic.TcCoe Idealize.SL.Sem Idealize.ShloMosaic.StableHlo
open Cert.ReferenceIdeal Cert.ReferenceIdeal.Gen Cert.ReferenceIdeal.Value

/-- The reference runs, its arguments end unchanged and every semaphore is at rest. -/
theorem reference_frame : Cert.quiescent_ReferenceIdeal (hReferenceIdeal := Cert.ReferenceIdeal.Gen.facts) := fun m ρ _ =>
  (θ_run defs _ _).mono (fun r h => ⟨fun c => (h c).2, sem_eq_zero_of_no_sems (by decide) r.2⟩) (run (F := Ideal) m ρ)

/-- The same from sorted nodes. -/
theorem reference_frame_sorted : Cert.quiescent_ReferenceIdeal_pre_sorted_graphs (hReferenceIdeal := Cert.ReferenceIdeal.Gen.facts)
    (hPre_sorted_graphs := Cert.Pre_sorted_graphs.Gen.facts) := fun m ρ _ => reference_frame m ρ trivial

/-- The mask's name stands for minus infinity. -/
theorem mask_named : Cert.preserves_Kernel_KernelIdeal :=
  IdealRules.named_const.statement Cert.KernelIdeal.κ "mask" .f32 0xF149F2CA#32 ⊥ rfl

end Cert.Proof
-- ==== Proof.Pays.lean ====
/-
  The body's pure values at an index, over the extended reals.
-/
module

public import proofs.«01_k».proof.Proof.Gen.KernelIdeal.Skeleton
public import Idealize.ShloMosaic.Lib.Pointwise

@[expose] public section

noncomputable section

namespace Cert.Proof

open Cert.KernelIdeal Cert.KernelIdeal.Gen Cert.KernelIdeal.Facts
open Idealize.ShloMosaic Idealize.ShloMosaic.TcCoe Idealize.ShloMosaic.Tactic

/-- The pattern of minus infinity, -/
theorem minus_inf : Idealize.ShloMosaic.Ideal.ofBits .f32 0xFF800000#32 = ⊥ := by
  simp [Idealize.ShloMosaic.Ideal.ofBits, Idealize.ShloMosaic.Ideal.ieee]

/-- and what the mask's name stands for. -/
theorem mask_bot : (Named.named (F := Ideal) (φ := .f32) κ "mask" 0xF149F2CA#32 : EReal) = ⊥ := rfl

/-- The constant added to a denominator is a positive real. -/
theorem eps_pos : ∃ r : ℝ, 0 < r ∧ Idealize.ShloMosaic.Ideal.ofBits .f32 0x24E69595#32 = (r : EReal) := by
  refine ⟨_, ?_, by simp [Idealize.ShloMosaic.Ideal.ofBits, Idealize.ShloMosaic.Ideal.ieee, -EReal.coe_mul]; rfl⟩
  positivity

variable (l : BitVec 32) (x : S4000x128.Idx → EReal) (bt : S1x4000.Idx → BitVec 32) (h : S32x128.Idx → EReal)

/-- Node `k` of a block lies in row `r` of the window that begins at graph `l`. -/
def Hit (r : Fin 32) (k : Fin 4000) : Prop := bt (ix2 0 k) - l = BitVec.ofNat 32 r.val

instance (r : Fin 32) (k : Fin 4000) : Decidable (Hit l bt r k) := by unfold Hit; infer_instance

/-- The energy of node `k` against the query of row `r`. -/
def energy (r : Fin 32) (k : Fin 4000) : EReal := ∑ j : Fin 128, h (ix2 r j) * x (ix2 k j)

/-- The greatest energy among the nodes of row `r`. -/
def peak (r : Fin 32) : EReal := Finset.univ.sup fun k : Fin 4000 => if Hit l bt r k then energy x h r k else ⊥

/-- The weight of node `k` in row `r`. -/
def weight (r : Fin 32) (k : Fin 4000) : EReal := if Hit l bt r k then Idealize.ShloMosaic.Ideal.exp (energy x h r k - peak l x bt h r) else 0

/-- A node is in at most one row of a window. -/
theorem Hit.unique {r r' : Fin 32} {k : Fin 4000} (a : Hit l bt r k) (b : Hit l bt r' k) : r = r' := by
  have e := congrArg BitVec.toNat ((Eq.symm a).trans b)
  rw [BitVec.toNat_ofNat, BitVec.toNat_ofNat, Nat.mod_eq_of_lt (by omega), Nat.mod_eq_of_lt (by omega)] at e
  exact Fin.ext e

/-- The window's mask at an index. -/
theorem pay1_at (r : Fin 32) (k : Fin 4000) : k0_pay1 (F := Ideal) l bt (ix2 r k) = if Hit l bt r k then 1#1 else 0#1 := by
  unfold k0_pay1
  pointwise
  by_cases e : Hit l bt r k
  · have e' : bt (ix2 0 k) - l = BitVec.ofNat 32 r.val := e
    rw [if_pos e]; simp [IntOp.cmpi, IntOp.subi, e']
  · have e' : ¬ bt (ix2 0 k) - l = BitVec.ofNat 32 r.val := e
    rw [if_neg e]; simp only [IntOp.cmpi, IntOp.subi]; rw [beq_eq_false_iff_ne.mpr e']; rfl

/-- The energies at an index. -/
theorem pay2_at (r : Fin 32) (k : Fin 4000) : k0_pay2 (F := Ideal) x h (ix2 r k) = energy x h r k := by
  unfold k0_pay2
  pointwise
  rfl

/-- A running maximum from minus infinity is the supremum. -/
theorem fold_sup {ι : Type} (s : Finset ι) (f : ι → EReal) : Finset.fold max ⊥ f s = s.sup f := rfl

/-- The maximum of a row. -/
theorem pay3_at (r : Fin 32) : k0_pay3 (F := Ideal) l x bt h (ix2 r 0) = peak l x bt h r := by
  unfold k0_pay3
  pointwise
  rw [minus_inf]
  refine Finset.fold_congr (g := fun k => if Hit l bt r k then energy x h r k else ⊥) fun k _ => ?_
  rw [pay1_at, pay2_at]
  by_cases e : Hit l bt r k
  · simp only [if_pos e]; rfl
  · simp only [if_neg e]; exact mask_bot

/-- A node's membership as a float. -/
theorem as_float (b : Prop) [Decidable b] : (FloatOps.sitofp (F := Ideal) FTy.f32 (BitVec.setWidth 32 (if b then 1#1 else 0#1)) : EReal) = if b then 1 else 0 := by
  by_cases e : b
  · rw [if_pos e, if_pos e]; show (((BitVec.setWidth 32 1#1).toInt : ℝ) : EReal) = 1; simp
  · rw [if_neg e, if_neg e]; show (((BitVec.setWidth 32 0#1).toInt : ℝ) : EReal) = 0; simp

/-- The weights at an index: a node's column has one row that counts, so the sum down it is its own difference. -/
theorem pay4_at (r : Fin 32) (k : Fin 4000) : k0_pay4 (F := Ideal) l x bt h (ix2 r k) = weight l x bt h r k := by
  unfold k0_pay4
  pointwise
  simp only [pay1_at, pay2_at, pay3_at, as_float]
  unfold weight
  by_cases e : Hit l bt r k
  · rw [if_pos e, if_pos e, one_mul, Finset.sum_eq_single r, if_pos e, one_mul]
    · intro r' _ hr
      rw [if_neg (fun e' => hr (Hit.unique l bt e' e)), zero_mul]
    · intro hr; exact absurd (Finset.mem_univ r) hr
  · rw [if_neg e, if_neg e, zero_mul]

/-- The weights' sum of a row. -/
theorem pay5_at (r : Fin 32) : k0_pay5 (F := Ideal) l x bt h (ix2 r 0) = ∑ k, weight l x bt h r k := by
  unfold k0_pay5
  pointwise
  simp only [pay4_at]

/-- The nodes' weighted sum of a row. -/
theorem pay6_at (r : Fin 32) (j : Fin 128) : k0_pay6 (F := Ideal) l x bt h (ix2 r j) = ∑ k, weight l x bt h r k * x (ix2 k j) := by
  unfold k0_pay6
  pointwise
  simp only [pay4_at]

/-- What is stored of the maximum. -/
theorem pay7_at (r : Fin 32) : k0_pay7 (F := Ideal) l x bt h (ix3 0 r 0) = peak l x bt h r := by
  unfold k0_pay7
  pointwise
  exact pay3_at l x bt h r

/-- What is stored of the sum. -/
theorem pay55_at (r : Fin 32) : k0_pay55 (F := Ideal) (k0_pay5 (F := Ideal) l x bt h) (ix3 0 r 0) = ∑ k, weight l x bt h r k := by
  unfold k0_pay55
  pointwise
  exact pay5_at l x bt h r

/-- What is stored of the weighted sum. -/
theorem pay56_at (r : Fin 32) (j : Fin 128) : k0_pay56 (F := Ideal) (k0_pay6 (F := Ideal) l x bt h) (ix3 0 r j) = ∑ k, weight l x bt h r k * x (ix2 k j) := by
  unfold k0_pay56
  pointwise
  exact pay6_at l x bt h r j

/-- A row's running maximum. -/
theorem pay59_at (a : S32x1.Idx → EReal) (b : S1x32x1.Idx → EReal) (r : Fin 32) :
    k0_pay59 (F := Ideal) a b (ix2 r 0) = max (a (ix2 r 0)) (b (ix3 0 r 0)) := by
  unfold k0_pay59
  pointwise

/-- A row's running sum, the piece rescaled. -/
theorem pay63_at (a d : S1x32x1.Idx → EReal) (b c : S32x1.Idx → EReal) (r : Fin 32) : k0_pay63 (F := Ideal) a b c d (ix2 r 0)
    = c (ix2 r 0) + d (ix3 0 r 0) * Idealize.ShloMosaic.Ideal.exp (a (ix3 0 r 0) - b (ix2 r 0)) := by
  unfold k0_pay63 k0_pay62
  pointwise

/-- A row's running weighted sum, the piece rescaled. -/
theorem pay64_at (a : S1x32x1.Idx → EReal) (b : S32x1.Idx → EReal) (c : S32x128.Idx → EReal) (d : S1x32x128.Idx → EReal)
    (r : Fin 32) (j : Fin 128) : k0_pay64 (F := Ideal) a b c d (ix2 r j)
    = c (ix2 r j) + d (ix3 0 r j) * Idealize.ShloMosaic.Ideal.exp (a (ix3 0 r 0) - b (ix2 r 0)) := by
  unfold k0_pay64 k0_pay62
  pointwise

/-- The maxima start at minus infinity. -/
theorem pay75_at (i : Fin 288) (j : Fin 128) : k0_pay75 (F := Ideal) (ix2 i j) = ⊥ := by
  unfold k0_pay75
  pointwise
  exact mask_bot

/-- The sums start at zero. -/
theorem pay77_at (i : Fin 288) (j : Fin 128) : k0_pay77 (F := Ideal) (k0_pay76 (F := Ideal)) (ix2 i j) = 0 := by
  unfold k0_pay77 k0_pay76
  pointwise

/-- The weighted sums start at zero. -/
theorem pay84_at (i : Fin 288) (j : Fin 128) : k0_pay84 (F := Ideal) (ix2 i j) = 0 := by
  unfold k0_pay84
  pointwise

/-- The readout: the weighted sum over the sum. -/
theorem pay92_at (u : S256x128.Idx → EReal) (d : S256x1.Idx → EReal) (g : Fin 256) (j : Fin 128) : k0_pay92 (F := Ideal) u d (ix2 g j)
    = Idealize.ShloMosaic.Ideal.div (u (ix2 g j)) (d (ix2 g 0) + Idealize.ShloMosaic.Ideal.ofBits .f32 0x24E69595#32) := by
  unfold k0_pay92
  pointwise

end Cert.Proof
-- ==== Proof.Reads.lean ====
/-
  Windows and overwritten windows read at an index.
-/
module

public import Idealize.ShloMosaic.Lib.VecWindow
public import Idealize.ShloMosaic.Lib.Pointwise

@[expose] public section

noncomputable section

namespace Cert.Proof

open Idealize.ShloMosaic Idealize.ShloMosaic.Tactic
open Idealize.ShloMosaic.VecWindow (window put)

variable {α : Type}

/-- A window of a matrix. -/
theorem window2 {A B a b p q : ℕ} (x : (⟨2, ![A, B]⟩ : Shape).Idx → α) (inb) (i : Fin a) (j : Fin b) (hi : p + i.val < A) (hj : q + j.val < B) :
    window (s := ⟨2, ![A, B]⟩) x ![p, q] ![a, b] inb (ix2 i j) = x (ix2 ⟨p + i.val, hi⟩ ⟨q + j.val, hj⟩) := by
  unfold window
  refine congrArg x (funext fun c => ?_)
  fin_cases c
  · exact Fin.ext (show p + 1 * i.val = p + i.val by omega)
  · exact Fin.ext (show q + 1 * j.val = q + j.val by omega)

/-- An overwritten window of a matrix, inside, -/
theorem put2_in {A B a b p q : ℕ} (x : (⟨2, ![A, B]⟩ : Shape).Idx → α) (w : (⟨2, ![a, b]⟩ : Shape).Idx → α) (i : Fin A) (j : Fin B)
    (i' : Fin a) (j' : Fin b) (hi : i.val = p + i'.val) (hj : j.val = q + j'.val) :
    put (s := ⟨2, ![A, B]⟩) x ![p, q] ![a, b] w (ix2 i j) = w (ix2 i' j') := by
  unfold put
  rw [dif_pos]
  · refine congrArg w (funext fun c => ?_)
    fin_cases c
    · exact Fin.ext (show i.val - p = i'.val by omega)
    · exact Fin.ext (show j.val - q = j'.val by omega)
  · intro c
    fin_cases c
    · show p ≤ i.val ∧ i.val < p + a; omega
    · show q ≤ j.val ∧ j.val < q + b; omega

/-- above or below, -/
theorem put2_row {A B a b p q : ℕ} (x : (⟨2, ![A, B]⟩ : Shape).Idx → α) (w : (⟨2, ![a, b]⟩ : Shape).Idx → α) (i : Fin A) (j : Fin B)
    (h : i.val < p ∨ p + a ≤ i.val) : put (s := ⟨2, ![A, B]⟩) x ![p, q] ![a, b] w (ix2 i j) = x (ix2 i j) := by
  unfold put
  rw [dif_neg]
  intro hc
  have : p ≤ i.val ∧ i.val < p + a := hc 0
  omega

/-- and beside. -/
theorem put2_col {A B a b p q : ℕ} (x : (⟨2, ![A, B]⟩ : Shape).Idx → α) (w : (⟨2, ![a, b]⟩ : Shape).Idx → α) (i : Fin A) (j : Fin B)
    (h : j.val < q ∨ q + b ≤ j.val) : put (s := ⟨2, ![A, B]⟩) x ![p, q] ![a, b] w (ix2 i j) = x (ix2 i j) := by
  unfold put
  rw [dif_neg]
  intro hc
  have : q ≤ j.val ∧ j.val < q + b := hc 1
  omega

/-- One row of a stack, -/
theorem window3 {A a b t : ℕ} (x : (⟨3, ![A, a, b]⟩ : Shape).Idx → α) (inb) (i : Fin a) (j : Fin b) (ht : t < A) :
    window (s := ⟨3, ![A, a, b]⟩) x ![t, 0, 0] ![1, a, b] inb (ix3 0 i j) = x (ix3 ⟨t, ht⟩ i j) := by
  unfold window
  refine congrArg x (funext fun c => ?_)
  fin_cases c
  · exact Fin.ext (show t + 1 * 0 = t by omega)
  · exact Fin.ext (show 0 + 1 * i.val = i.val by omega)
  · exact Fin.ext (show 0 + 1 * j.val = j.val by omega)

/-- the row overwritten, -/
theorem put3_in {A a b t : ℕ} (x : (⟨3, ![A, a, b]⟩ : Shape).Idx → α) (w : (⟨3, ![1, a, b]⟩ : Shape).Idx → α) (t' : Fin A) (i : Fin a) (j : Fin b)
    (h : t'.val = t) : put (s := ⟨3, ![A, a, b]⟩) x ![t, 0, 0] ![1, a, b] w (ix3 t' i j) = w (ix3 0 i j) := by
  unfold put
  rw [dif_pos]
  · refine congrArg w (funext fun c => ?_)
    fin_cases c
    · exact Fin.ext (show t'.val - t = 0 by omega)
    · rfl
    · rfl
  · intro c
    fin_cases c
    · show t ≤ t'.val ∧ t'.val < t + 1; omega
    · show 0 ≤ i.val ∧ i.val < 0 + a; omega
    · show 0 ≤ j.val ∧ j.val < 0 + b; omega

/-- and the others. -/
theorem put3_out {A a b t : ℕ} (x : (⟨3, ![A, a, b]⟩ : Shape).Idx → α) (w : (⟨3, ![1, a, b]⟩ : Shape).Idx → α) (t' : Fin A) (i : Fin a) (j : Fin b)
    (h : t'.val ≠ t) : put (s := ⟨3, ![A, a, b]⟩) x ![t, 0, 0] ![1, a, b] w (ix3 t' i j) = x (ix3 t' i j) := by
  unfold put
  rw [dif_neg]
  intro hc
  have : t ≤ t'.val ∧ t'.val < t + 1 := hc 0
  omega

end Cert.Proof
-- ==== Proof.Soft.lean ====
/-
  The softmax over the nodes of a graph, taken in pieces.
-/
module

public import Idealize.ShloMosaic.PureOps.Ideal

@[expose] public section

noncomputable section

namespace Cert.Proof

open Idealize.ShloMosaic

/-- The shift of a graph's energies: their maximum, and zero for a graph without a finite or infinite one. -/
def shift (m : EReal) : EReal := if m = ⊥ then 0 else m

/-- An exponential of a difference that isn't positive is a real that isn't negative. -/
theorem exp_real {e m : EReal} (h : e ≤ m) : ∃ r : ℝ, 0 ≤ r ∧ Ideal.exp (e - m) = (r : EReal) := by
  induction m with
  | bot =>
    obtain rfl := le_bot_iff.1 h
    exact ⟨0, le_rfl, rfl⟩
  | top =>
    refine ⟨0, le_rfl, ?_⟩
    have : e - (⊤ : EReal) = ⊥ := by induction e <;> rfl
    rw [this]; rfl
  | coe m =>
    induction e with
    | bot => exact ⟨0, le_rfl, rfl⟩
    | top => exact absurd h (by simp)
    | coe e => exact ⟨Real.exp (e - m), (Real.exp_pos _).le, by rw [← EReal.coe_sub]; rfl⟩

/-- Rescaling from a piece's maximum `b` to the whole's `m`. -/
theorem exp_mul {e b m : EReal} (h : e ≤ b) (h' : b ≤ m) : Ideal.exp (e - b) * Ideal.exp (b - m) = Ideal.exp (e - shift m) := by
  unfold shift
  induction m with
  | bot =>
    obtain rfl := le_bot_iff.1 h'
    obtain rfl := le_bot_iff.1 h
    rw [if_pos rfl]
    have e1 : (⊥ : EReal) - ⊥ = ⊥ := rfl
    have e2 : (⊥ : EReal) - 0 = ⊥ := rfl
    rw [e1, e2]; simp
  | top =>
    rw [if_neg (by simp)]
    have q : ∀ z : EReal, z - (⊤ : EReal) = ⊥ := fun z => by induction z <;> rfl
    rw [q, q]; simp
  | coe m =>
    rw [if_neg (by simp)]
    induction b with
    | bot =>
      obtain rfl := le_bot_iff.1 h
      have e1 : (⊥ : EReal) - ⊥ = ⊥ := rfl
      have e2 : (⊥ : EReal) - (m : EReal) = ⊥ := rfl
      rw [e1, e2]; simp
    | top => exact absurd h' (by simp)
    | coe b =>
      induction e with
      | bot =>
        have e1 : (⊥ : EReal) - (b : EReal) = ⊥ := rfl
        have e2 : (⊥ : EReal) - (m : EReal) = ⊥ := rfl
        rw [e1, e2]; simp
      | top => exact absurd h (by simp)
      | coe e =>
        rw [← EReal.coe_sub, ← EReal.coe_sub, ← EReal.coe_sub, Ideal.exp_coe, Ideal.exp_coe, Ideal.exp_coe, ← EReal.coe_mul, ← Real.exp_add]
        congr 2; ring

/-- A real factor that isn't negative goes into a sum. -/
theorem sum_mul_real {ι : Type*} (s : Finset ι) (f : ι → EReal) {r : ℝ} (h : 0 ≤ r) : (∑ n ∈ s, f n) * (r : EReal) = ∑ n ∈ s, f n * (r : EReal) := by
  classical
  induction s using Finset.induction_on with
  | empty => simp
  | insert a s ha ih =>
    rw [Finset.sum_insert ha, Finset.sum_insert ha, EReal.right_distrib_of_nonneg_of_ne_top (by exact_mod_cast h) (EReal.coe_ne_top r), ih]

/-- A sum of reals that aren't negative is one. -/
theorem sum_real {ι : Type*} (s : Finset ι) (f : ι → EReal) (h : ∀ n ∈ s, ∃ r : ℝ, 0 ≤ r ∧ f n = (r : EReal)) : ∃ r : ℝ, 0 ≤ r ∧ ∑ n ∈ s, f n = (r : EReal) := by
  classical
  induction s using Finset.induction_on with
  | empty => exact ⟨0, le_rfl, by simp⟩
  | insert a s ha ih =>
    obtain ⟨r, hr, e⟩ := ih fun n hn => h n (Finset.mem_insert_of_mem hn)
    obtain ⟨q, hq, e'⟩ := h a (Finset.mem_insert_self a s)
    exact ⟨q + r, add_nonneg hq hr, by rw [Finset.sum_insert ha, e, e', EReal.coe_add]⟩

variable {ι T : Type*} [DecidableEq ι] (tasks : Finset T) (piece : T → Finset ι) (e y : ι → EReal)

/-- The pieces' weighted sums, each rescaled to the maximum of the whole, add to the weighted sum of the whole. -/
theorem pieces (dis : ∀ a ∈ tasks, ∀ b ∈ tasks, a ≠ b → Disjoint (piece a) (piece b)) {m : EReal} (hm : ∀ n ∈ tasks.biUnion piece, e n ≤ m) :
    ∑ t ∈ tasks, (∑ n ∈ piece t, Ideal.exp (e n - (piece t).sup e) * y n) * Ideal.exp ((piece t).sup e - m)
      = ∑ n ∈ tasks.biUnion piece, Ideal.exp (e n - shift m) * y n := by
  rw [Finset.sum_biUnion fun a ha b hb hab => dis a ha b hb hab]
  refine Finset.sum_congr rfl fun t ht => ?_
  have hle : (piece t).sup e ≤ m := Finset.sup_le fun n hn => hm n (Finset.mem_biUnion.2 ⟨t, ht, hn⟩)
  obtain ⟨r, hr, er⟩ := exp_real hle
  rw [er, sum_mul_real _ _ hr]
  refine Finset.sum_congr rfl fun n hn => ?_
  rw [← exp_mul (Finset.le_sup hn) hle, er, mul_right_comm]

/-- The quotient of a weighted sum by the sum of the weights is the sum with the weights divided first. -/
theorem quotient (s : Finset ι) {m : EReal} (hm : ∀ n ∈ s, e n ≤ m) {ε : ℝ} (hε : 0 < ε) :
    Ideal.div (∑ n ∈ s, Ideal.exp (e n - shift m) * y n) (∑ n ∈ s, Ideal.exp (e n - shift m) + (ε : EReal))
      = ∑ n ∈ s, Ideal.div (Ideal.exp (e n - shift m)) (∑ n ∈ s, Ideal.exp (e n - shift m) + (ε : EReal)) * y n := by
  have w : ∀ n ∈ s, ∃ r : ℝ, 0 ≤ r ∧ Ideal.exp (e n - shift m) = (r : EReal) := fun n hn => by
    rw [← exp_mul le_rfl (hm n hn)]
    obtain ⟨a, ha, ea⟩ := exp_real (le_refl (e n))
    obtain ⟨b, hb, eb⟩ := exp_real (hm n hn)
    exact ⟨a * b, mul_nonneg ha hb, by rw [ea, eb, EReal.coe_mul]⟩
  obtain ⟨d, hd, ed⟩ := sum_real s _ w
  have hne : d + ε ≠ 0 := by positivity
  rw [ed, ← EReal.coe_add, Ideal.div_coe hne, sum_mul_real _ _ (by positivity)]
  refine Finset.sum_congr rfl fun n _ => ?_
  rw [Ideal.div_coe hne, mul_right_comm]

end Cert.Proof
-- ==== Proof.Passes.lean ====
/-
  What the three passes over the tasks leave, over the extended reals.
-/
module

public import proofs.«01_k».proof.Proof.Run
public import proofs.«01_k».proof.Proof.Pays
public import proofs.«01_k».proof.Proof.Reads
public import proofs.«01_k».proof.Proof.Soft

@[expose] public section

noncomputable section

namespace Cert.Proof

open Cert.KernelIdeal Cert.KernelIdeal.Gen Cert.KernelIdeal.Facts
open Idealize.ShloMosaic Idealize.ShloMosaic.TcCoe Idealize.ShloMosaic.Tactic
open Idealize.ShloMosaic.VecWindow (window put)

/-- The graphs of the nodes, and tasks that partition the nodes: task `t` takes block `TB t`, and there the graphs from `TL t` on. -/
structure Plan where
  G : Fin 100000 → ℕ
  TB : Fin 200 → ℕ
  TL : Fin 200 → ℕ
  K : ℕ
  lt : ∀ n, G n < 256
  len : K ≤ 200
  tb : ∀ t : Fin 200, t.val < K → TB t < 25
  tl : ∀ t : Fin 200, t.val < K → TL t ≤ 256
  one : ∀ n : Fin 100000, ∃! t : Fin 200, t.val < K ∧ TB t = n.val / 4000 ∧ TL t ≤ G n ∧ G n < TL t + 32

namespace Plan

variable (p : Plan)

/-- The nodes of graph `g` in the block of task `t`. -/
def piece (t : Fin 200) (g : ℕ) : Finset (Fin 100000) := Finset.univ.filter fun n => n.val / 4000 = p.TB t ∧ p.G n = g

/-- The first `k` tasks, those whose window holds graph `g`. -/
def tasks (g k : ℕ) : Finset (Fin 200) := Finset.univ.filter fun t => t.val < k ∧ p.TL t ≤ g ∧ g < p.TL t + 32

/-- The nodes of graph `g`. -/
def nodes (g : ℕ) : Finset (Fin 100000) := Finset.univ.filter fun n => p.G n = g

/-- Before the first trip a graph has no tasks. -/
theorem tasks_zero (g : ℕ) : p.tasks g 0 = ∅ := by
  unfold tasks
  exact Finset.filter_eq_empty_iff.2 fun t _ h => absurd h.1 (Nat.not_lt_zero _)

/-- A trip whose window has the graph adds its task. -/
theorem tasks_in {g k : ℕ} (hk : k < 200) (h : p.TL ⟨k, hk⟩ ≤ g ∧ g < p.TL ⟨k, hk⟩ + 32) : p.tasks g (k + 1) = insert ⟨k, hk⟩ (p.tasks g k) := by
  ext t
  simp only [tasks, Finset.mem_filter, Finset.mem_univ, true_and, Finset.mem_insert]
  constructor
  · rintro ⟨a, b⟩
    rcases Nat.lt_succ_iff_lt_or_eq.1 a with a | a
    · exact .inr ⟨a, b⟩
    · exact .inl (Fin.ext a)
  · rintro (rfl | ⟨a, b⟩)
    · exact ⟨Nat.lt_succ_self k, h⟩
    · exact ⟨Nat.lt_succ_of_lt a, b⟩

/-- A trip whose window hasn't the graph adds no task. -/
theorem tasks_out {g k : ℕ} (hk : k < 200) (h : ¬ (p.TL ⟨k, hk⟩ ≤ g ∧ g < p.TL ⟨k, hk⟩ + 32)) : p.tasks g (k + 1) = p.tasks g k := by
  ext t
  simp only [tasks, Finset.mem_filter, Finset.mem_univ, true_and]
  constructor
  · rintro ⟨a, b⟩
    rcases Nat.lt_succ_iff_lt_or_eq.1 a with a | a
    · exact ⟨a, b⟩
    · obtain rfl : t = ⟨k, hk⟩ := Fin.ext a
      exact absurd b h
  · rintro ⟨a, b⟩
    exact ⟨Nat.lt_succ_of_lt a, b⟩

/-- A task is not among the earlier ones. -/
theorem fresh {g k : ℕ} (hk : k < 200) : (⟨k, hk⟩ : Fin 200) ∉ p.tasks g k := by
  simp [tasks]

/-- The pieces of the tasks of a graph are the graph, -/
theorem union (g : ℕ) : (p.tasks g p.K).biUnion (fun t => p.piece t g) = p.nodes g := by
  ext n
  simp only [Finset.mem_biUnion, tasks, piece, nodes, Finset.mem_filter, Finset.mem_univ, true_and]
  constructor
  · rintro ⟨t, _, _, h⟩; exact h
  · rintro rfl
    obtain ⟨t, ⟨h1, h2, h3, h4⟩, _⟩ := p.one n
    exact ⟨t, ⟨h1, h3, h4⟩, h2.symm, rfl⟩

/-- and no node is in two. -/
theorem apart (g : ℕ) : ∀ a ∈ p.tasks g p.K, ∀ b ∈ p.tasks g p.K, a ≠ b → Disjoint (p.piece a g) (p.piece b g) := by
  intro a ha b hb hab
  rw [Finset.disjoint_left]
  intro n hna hnb
  simp only [tasks, piece, Finset.mem_filter, Finset.mem_univ, true_and] at ha hb hna hnb
  obtain ⟨h1, h2⟩ := hna
  subst h2
  exact hab ((p.one n).unique ⟨ha.1, h1.symm, ha.2.1, ha.2.2⟩ ⟨hb.1, hnb.1.symm, hb.2.1, hb.2.2⟩)

/-- The nodes of a block, numbered in all. -/
def node (t : Fin 200) (h : p.TB t < 25) : Fin 4000 ↪ Fin 100000 where
  toFun k := ⟨p.TB t * 4000 + k.val, by omega⟩
  inj' a b e := Fin.ext (by have := congrArg Fin.val e; simp only at this; omega)

/-- A task's nodes of a graph are those of its block. -/
theorem piece_eq (t : Fin 200) (h : p.TB t < 25) (g : ℕ) : p.piece t g = (Finset.univ.filter fun k => p.G (p.node t h k) = g).map (p.node t h) := by
  ext n
  simp only [piece, Finset.mem_map, Finset.mem_filter, Finset.mem_univ, true_and]
  constructor
  · rintro ⟨a, b⟩
    have e : p.node t h ⟨n.val - p.TB t * 4000, by omega⟩ = n := Fin.ext (show p.TB t * 4000 + (n.val - p.TB t * 4000) = n.val by omega)
    exact ⟨⟨n.val - p.TB t * 4000, by omega⟩, by rw [e]; exact b, e⟩
  · rintro ⟨k, hk, rfl⟩
    exact ⟨show (p.TB t * 4000 + k.val) / 4000 = p.TB t by omega, hk⟩

/-- A sum over a task's nodes of a graph is one over its block. -/
theorem sum_piece (t : Fin 200) (h : p.TB t < 25) (g : ℕ) (f : Fin 100000 → EReal) :
    ∑ k, (if p.G (p.node t h k) = g then f (p.node t h k) else 0) = ∑ n ∈ p.piece t g, f n := by
  rw [p.piece_eq t h, Finset.sum_map, Finset.sum_filter]

/-- A maximum over a task's nodes of a graph is one over its block. -/
theorem sup_piece (t : Fin 200) (h : p.TB t < 25) (g : ℕ) (f : Fin 100000 → EReal) :
    (Finset.univ.sup fun k => if p.G (p.node t h k) = g then f (p.node t h k) else ⊥) = (p.piece t g).sup f := by
  rw [p.piece_eq t h, Finset.sup_map, Finset.sup_ite, Finset.sup_bot, sup_bot_eq]
  rfl

end Plan

variable (p : Plan) (X : S100000x128.Idx → EReal)

/-- The state's inputs are the nodes and the tables of the plan. -/
structure Fits (s : Sto Ideal) : Prop where
  x : s .x = X
  bt : ∀ (i : Fin 25) (k : Fin 4000) (h : i.val * 4000 + k.val < 100000), (s .bt (ix2 i k) : BitVec 32) = BitVec.ofNat 32 (p.G ⟨i.val * 4000 + k.val, h⟩)
  tb : ∀ t : Fin 200, (s .tb (ix1 t) : BitVec 32).toNat = p.TB t
  tl : ∀ t : Fin 200, (s .tl (ix1 t) : BitVec 32).toNat = p.TL t
  nt : cnt s = p.K

/-- What keeps the inputs keeps the plan. -/
theorem Fits.keep {s s' : Sto Ideal} (h : Fits p X s) (k : Keeps s s') : Fits p X s' := by
  have e0 := k .x (by decide) (by decide) (by decide) (by decide) (by decide) (by decide)
  have e1 := k .nt (by decide) (by decide) (by decide) (by decide) (by decide) (by decide)
  have e2 := k .tb (by decide) (by decide) (by decide) (by decide) (by decide) (by decide)
  have e3 := k .tl (by decide) (by decide) (by decide) (by decide) (by decide) (by decide)
  have e4 := k .bt (by decide) (by decide) (by decide) (by decide) (by decide) (by decide)
  refine ⟨by rw [e0]; exact h.x, by rw [e4]; exact h.bt, by rw [e2]; exact h.tb, by rw [e3]; exact h.tl, ?_⟩
  unfold cnt
  rw [e1]; exact h.nt

/-- The query of graph `g`. -/
def query (H : S288x128.Idx → EReal) (g : ℕ) (j : Fin 128) : EReal := if h : g < 288 then H (ix2 ⟨g, h⟩ j) else 0

/-- The energy of node `n` against the query of graph `g`. -/
def en (H : S288x128.Idx → EReal) (g : ℕ) (n : Fin 100000) : EReal := ∑ j : Fin 128, query H g j * X (ix2 n j)

/-- The greatest energy of a piece, -/
def pmax (H : S288x128.Idx → EReal) (t : Fin 200) (g : ℕ) : EReal := (p.piece t g).sup (en X H g)

/-- the sum of its weights, -/
def psum (H : S288x128.Idx → EReal) (t : Fin 200) (g : ℕ) : EReal := ∑ n ∈ p.piece t g, Idealize.ShloMosaic.Ideal.exp (en X H g n - pmax p X H t g)

/-- and its weighted sum. -/
def pvec (H : S288x128.Idx → EReal) (t : Fin 200) (g : ℕ) (j : Fin 128) : EReal :=
  ∑ n ∈ p.piece t g, Idealize.ShloMosaic.Ideal.exp (en X H g n - pmax p X H t g) * X (ix2 n j)

section block

variable {p X} {s : Sto Ideal} (hs : Fits p X s) {t : Fin 200} (ht : t.val < p.K) (hb : (s .tb (ix1 t) : BitVec 32).toNat < 25) (hl : (s .tl (ix1 t) : BitVec 32).toNat ≤ 256)

/-- The block of a task. -/
def blkX : S4000x128.Idx → EReal := window (s .x) ![(s .tb (ix1 t) : BitVec 32).toNat * 4000, 0] S4000x128.size (inb_x hb)
/-- The graphs of a task's block. -/
def blkB : S1x4000.Idx → BitVec 32 := window (s .bt) ![(s .tb (ix1 t) : BitVec 32).toNat, 0] S1x4000.size (inb_bt hb)
/-- The queries of a task. -/
def blkH : S32x128.Idx → EReal := window (s .h) ![(s .tl (ix1 t) : BitVec 32).toNat, 0] S32x128.size (inb_w128 hl)

include hs

/-- A task's block of nodes at an index. -/
theorem blkX_at (hT : p.TB t < 25) (k : Fin 4000) (j : Fin 128) : blkX hb (ix2 k j) = X (ix2 (p.node t hT k) j) := by
  unfold blkX
  have e := hs.tb t
  refine (window2 (α := EReal) (A := 100000) (B := 128) (a := 4000) (b := 128) _ _ k j (by omega) (by omega)).trans ?_
  rw [hs.x]
  refine congrArg X (congrArg₂ ix2 (Fin.ext ?_) (Fin.ext ?_))
  · show (s .tb (ix1 t) : BitVec 32).toNat * 4000 + k.val = p.TB t * 4000 + k.val
    rw [e]
  · show 0 + j.val = j.val
    omega

/-- The graphs of a task's block at an index. -/
theorem blkB_at (hT : p.TB t < 25) (k : Fin 4000) : blkB hb (ix2 0 k) = BitVec.ofNat 32 (p.G (p.node t hT k)) := by
  unfold blkB
  have e := hs.tb t
  refine (window2 (α := BitVec 32) (A := 25) (B := 4000) (a := 1) (b := 4000) _ _ 0 k (by simp; omega) (by omega)).trans ?_
  refine (hs.bt _ _ (by simp; omega)).trans ?_
  refine congrArg (fun n => BitVec.ofNat 32 (p.G n)) (Fin.ext ?_)
  show ((s .tb (ix1 t) : BitVec 32).toNat + 0) * 4000 + (0 + k.val) = p.TB t * 4000 + k.val
  rw [e]; omega

/-- The queries of a task's window at an index. -/
theorem blkH_at (r : Fin 32) (j : Fin 128) : blkH hl (ix2 r j) = query (s .h) (p.TL t + r.val) j := by
  unfold blkH query
  have e := hs.tl t
  rw [dif_pos (by omega)]
  refine (window2 (α := EReal) (A := 288) (B := 128) (a := 32) (b := 128) _ _ r j (by omega) (by omega)).trans ?_
  refine congrArg (s .h) (congrArg₂ ix2 (Fin.ext ?_) (Fin.ext ?_))
  · show (s .tl (ix1 t) : BitVec 32).toNat + r.val = p.TL t + r.val
    rw [e]
  · show 0 + j.val = j.val
    omega

include hl in
/-- A node is in a window's row where its graph is the row's. -/
theorem hit_iff (hT : p.TB t < 25) (r : Fin 32) (k : Fin 4000) : Hit (s .tl (ix1 t)) (blkB hb) r k ↔ p.G (p.node t hT k) = p.TL t + r.val := by
  unfold Hit
  rw [blkB_at hs hb hT]
  have e := hs.tl t
  have g := p.lt (p.node t hT k)
  generalize p.G (p.node t hT k) = G at g ⊢
  generalize (s .tl (ix1 t) : BitVec 32) = l at e hl ⊢
  have hr := r.isLt
  constructor
  · intro h
    have := congrArg BitVec.toNat h
    rw [BitVec.toNat_sub, BitVec.toNat_ofNat, BitVec.toNat_ofNat] at this
    omega
  · intro h
    apply BitVec.eq_of_toNat_eq
    rw [BitVec.toNat_sub, BitVec.toNat_ofNat, BitVec.toNat_ofNat]
    omega

/-- A row's energies are those of its graph. -/
theorem energy_at (hT : p.TB t < 25) (r : Fin 32) (k : Fin 4000) : energy (blkX hb) (blkH hl) r k = en X (s .h) (p.TL t + r.val) (p.node t hT k) := by
  unfold energy en
  refine Finset.sum_congr rfl fun j _ => ?_
  rw [blkX_at hs hb hT, blkH_at hs hl]

/-- A row's maximum is that of the task's nodes of its graph. -/
theorem peak_at (hT : p.TB t < 25) (r : Fin 32) : peak (s .tl (ix1 t)) (blkX hb) (blkB hb) (blkH hl) r = pmax p X (s .h) t (p.TL t + r.val) := by
  unfold peak pmax
  rw [← p.sup_piece t hT]
  refine Finset.sup_congr rfl fun k _ => ?_
  rw [energy_at hs hb hl hT]
  by_cases h : p.G (p.node t hT k) = p.TL t + r.val
  · rw [if_pos h, if_pos ((hit_iff hs hb hl hT r k).2 h)]
  · rw [if_neg h, if_neg fun h' => h ((hit_iff hs hb hl hT r k).1 h')]

/-- A row's weights are those of its graph's nodes, and zero elsewhere. -/
theorem weight_at (hT : p.TB t < 25) (r : Fin 32) (k : Fin 4000) : weight (s .tl (ix1 t)) (blkX hb) (blkB hb) (blkH hl) r k
    = if p.G (p.node t hT k) = p.TL t + r.val then Idealize.ShloMosaic.Ideal.exp (en X (s .h) (p.TL t + r.val) (p.node t hT k) - pmax p X (s .h) t (p.TL t + r.val)) else 0 := by
  unfold weight
  rw [energy_at hs hb hl hT, peak_at hs hb hl hT]
  by_cases h : p.G (p.node t hT k) = p.TL t + r.val
  · rw [if_pos h, if_pos ((hit_iff hs hb hl hT r k).2 h)]
  · rw [if_neg h, if_neg fun h' => h ((hit_iff hs hb hl hT r k).1 h')]

/-- A row's weights add to the task's sum. -/
theorem sum_at (hT : p.TB t < 25) (r : Fin 32) : ∑ k, weight (s .tl (ix1 t)) (blkX hb) (blkB hb) (blkH hl) r k = psum p X (s .h) t (p.TL t + r.val) := by
  unfold psum
  rw [← p.sum_piece t hT]
  exact Finset.sum_congr rfl fun k _ => weight_at hs hb hl hT r k

/-- A row's weighted nodes add to the task's weighted sum. -/
theorem vec_at (hT : p.TB t < 25) (r : Fin 32) (j : Fin 128) : ∑ k, weight (s .tl (ix1 t)) (blkX hb) (blkB hb) (blkH hl) r k * blkX hb (ix2 k j)
    = pvec p X (s .h) t (p.TL t + r.val) j := by
  unfold pvec
  rw [← p.sum_piece t hT]
  refine Finset.sum_congr rfl fun k _ => ?_
  rw [weight_at hs hb hl hT, blkX_at hs hb hT]
  by_cases h : p.G (p.node t hT k) = p.TL t + r.val
  · rw [if_pos h, if_pos h]
  · rw [if_neg h, if_neg h, zero_mul]

end block

end Cert.Proof
-- ==== Proof.Loops.lean ====
/-
  The loops over the tasks: after the last trip the partial results, the maxima and the sums.
-/
module

public import proofs.«01_k».proof.Proof.Passes

@[expose] public section

noncomputable section

namespace Cert.Proof

open Cert.KernelIdeal Cert.KernelIdeal.Gen Cert.KernelIdeal.Facts
open Idealize.ShloMosaic Idealize.ShloMosaic.TcCoe Idealize.ShloMosaic.Tactic
open Idealize.ShloMosaic.VecWindow (window put)

variable (p : Plan) (X : S100000x128.Idx → EReal)

/-- Row `t` of the partial results is task `t`'s. -/
structure RowOf (H : S288x128.Idx → EReal) (t : Fin 200) (s : Sto Ideal) : Prop where
  mb : ∀ r : Fin 32, (s .mb (ix3 t r 0) : EReal) = pmax p X H t (p.TL t + r.val)
  db : ∀ r : Fin 32, (s .db (ix3 t r 0) : EReal) = psum p X H t (p.TL t + r.val)
  ub : ∀ (r : Fin 32) (j : Fin 128), (s .ub (ix3 t r j) : EReal) = pvec p X H t (p.TL t + r.val) j

variable {p X}

/-- A sweep's trip leaves its own row of partial results. -/
theorem Sweep.row {t : Fin 200} {s s' : Sto Ideal} (hs : Fits p X s) (ht : t.val < p.K) (h : Sweep t s s') : RowOf p X (s .h) t s' := by
  obtain ⟨hb, hl, rfl⟩ := h
  have hT := p.tb t ht
  refine ⟨fun r => ?_, fun r => ?_, fun r j => ?_⟩
  · rw [Function.update_of_ne (by decide), Function.update_of_ne (by decide), Function.update_self]
    refine (put3_in (α := EReal) (A := 200) (a := 32) (b := 1) _ _ t r 0 rfl).trans ?_
    exact (pay7_at _ _ _ _ r).trans (peak_at hs hb hl hT r)
  · rw [Function.update_of_ne (by decide), Function.update_self]
    refine (put3_in (α := EReal) (A := 200) (a := 32) (b := 1) _ _ t r 0 rfl).trans ?_
    exact (pay55_at _ _ _ _ r).trans (sum_at hs hb hl hT r)
  · rw [Function.update_self]
    refine (put3_in (α := EReal) (A := 200) (a := 32) (b := 128) _ _ t r j rfl).trans ?_
    exact (pay56_at _ _ _ _ r j).trans (vec_at hs hb hl hT r j)

/-- A sweep's trip keeps the rows of the other tasks. -/
theorem Sweep.other {t t' : Fin 200} {s s' : Sto Ideal} (ht : t' ≠ t) (h : Sweep t s s') {H : S288x128.Idx → EReal} (hr : RowOf p X H t' s) : RowOf p X H t' s' := by
  obtain ⟨hb, hl, rfl⟩ := h
  have hn : t'.val ≠ t.val := fun e => ht (Fin.ext e)
  refine ⟨fun r => ?_, fun r => ?_, fun r j => ?_⟩
  · rw [Function.update_of_ne (by decide), Function.update_of_ne (by decide), Function.update_self]
    exact (put3_out (α := EReal) (A := 200) (a := 32) (b := 1) _ _ t' r 0 hn).trans (hr.mb r)
  · rw [Function.update_of_ne (by decide), Function.update_self]
    exact (put3_out (α := EReal) (A := 200) (a := 32) (b := 1) _ _ t' r 0 hn).trans (hr.db r)
  · rw [Function.update_self]
    exact (put3_out (α := EReal) (A := 200) (a := 32) (b := 128) _ _ t' r j hn).trans (hr.ub r j)

/-- After the pass over the nodes every row is its task's. -/
theorem sweeps {s s' : Sto Ideal} (hs : Fits p X s) {k : ℕ} (hk : k ≤ p.K) (h : Iter Sweep s k s') : ∀ t : Fin 200, t.val < k → RowOf p X (s .h) t s' := by
  induction h with
  | zero => intro t ht; exact absurd ht (Nat.not_lt_zero _)
  | succ hk' hi hr ih =>
    intro t ht
    have kp := hi.keeps fun _ _ _ h => h.keeps
    rcases Nat.lt_succ_iff_lt_or_eq.1 ht with a | a
    · exact hr.other (fun e => by rw [e] at a; exact lt_irrefl _ a) (ih (by omega) t a)
    · obtain rfl : t = ⟨_, hk'⟩ := Fin.ext a
      rw [← kp .h (by decide) (by decide) (by decide) (by decide) (by decide) (by decide)]
      exact hr.row (Fits.keep p X hs kp) (by show _ < _; omega)

/-- What the pass over the nodes leaves alone. -/
theorem sweeps_keep {s s' : Sto Ideal} {k : ℕ} (h : Iter Sweep s k s') : s' .m = s .m ∧ s' .d = s .d ∧ s' .u = s .u := by
  induction h with
  | zero => exact ⟨rfl, rfl, rfl⟩
  | succ hk' hi hr ih =>
    obtain ⟨hb, hl, rfl⟩ := hr
    refine ⟨?_, ?_, ?_⟩
    · rw [Function.update_of_ne (by decide), Function.update_of_ne (by decide), Function.update_of_ne (by decide)]; exact ih.1
    · rw [Function.update_of_ne (by decide), Function.update_of_ne (by decide), Function.update_of_ne (by decide)]; exact ih.2.1
    · rw [Function.update_of_ne (by decide), Function.update_of_ne (by decide), Function.update_of_ne (by decide)]; exact ih.2.2

/-- What the fold of the maxima leaves alone. -/
theorem maxes_keep {s s' : Sto Ideal} {k : ℕ} (h : Iter MaxStep s k s') : s' .mb = s .mb ∧ s' .db = s .db ∧ s' .ub = s .ub ∧ s' .d = s .d := by
  induction h with
  | zero => exact ⟨rfl, rfl, rfl, rfl⟩
  | succ hk' hi hr ih =>
    obtain ⟨hl, rfl⟩ := hr
    refine ⟨?_, ?_, ?_, ?_⟩
    · rw [Function.update_of_ne (by decide)]; exact ih.1
    · rw [Function.update_of_ne (by decide)]; exact ih.2.1
    · rw [Function.update_of_ne (by decide)]; exact ih.2.2.1
    · rw [Function.update_of_ne (by decide)]; exact ih.2.2.2

/-- What the pass of the sums leaves alone. -/
theorem adds_keep {s s' : Sto Ideal} {k : ℕ} (h : Iter AddStep s k s') : s' .mb = s .mb ∧ s' .db = s .db ∧ s' .ub = s .ub ∧ s' .m = s .m := by
  induction h with
  | zero => exact ⟨rfl, rfl, rfl, rfl⟩
  | succ hk' hi hr ih =>
    obtain ⟨hl, rfl⟩ := hr
    refine ⟨?_, ?_, ?_, ?_⟩
    · rw [Function.update_of_ne (by decide), Function.update_of_ne (by decide)]; exact ih.1
    · rw [Function.update_of_ne (by decide), Function.update_of_ne (by decide)]; exact ih.2.1
    · rw [Function.update_of_ne (by decide), Function.update_of_ne (by decide)]; exact ih.2.2.1
    · rw [Function.update_of_ne (by decide), Function.update_of_ne (by decide)]; exact ih.2.2.2

/-- After the fold of the maxima each graph's entry is the greatest of its pieces'. -/
theorem maxes {s s' : Sto Ideal} (hs : Fits p X s) {H : S288x128.Idx → EReal} (hr : ∀ t : Fin 200, t.val < p.K → RowOf p X H t s)
    (h0 : ∀ g : Fin 288, (s .m (ix2 g 0) : EReal) = ⊥) {k : ℕ} (hk : k ≤ p.K) (h : Iter MaxStep s k s') :
    ∀ g : Fin 288, (s' .m (ix2 g 0) : EReal) = (p.tasks g.val k).sup fun t => pmax p X H t g.val := by
  induction h with
  | zero => intro g; rw [h0, p.tasks_zero]; rfl
  | @succ k a b hk' hi hm ih =>
    intro g
    have kp := hi.keeps fun _ _ _ h => h.keeps
    obtain ⟨e1, _, _, _⟩ := maxes_keep hi
    have tl := (Fits.keep p X hs kp).tl ⟨k, hk'⟩
    obtain ⟨hl, rfl⟩ := hm
    rw [Function.update_self]
    by_cases hg : p.TL ⟨k, hk'⟩ ≤ g.val ∧ g.val < p.TL ⟨k, hk'⟩ + 32
    · have hq : g.val = (a .tl (ix1 ⟨k, hk'⟩) : BitVec 32).toNat + (⟨g.val - p.TL ⟨k, hk'⟩, by omega⟩ : Fin 32).val := by
        rw [tl]; show g.val = p.TL ⟨k, hk'⟩ + (g.val - p.TL ⟨k, hk'⟩); omega
      refine (put2_in (α := EReal) (A := 288) (B := 128) (a := 32) (b := 1) _ _ g 0 ⟨g.val - p.TL ⟨k, hk'⟩, by omega⟩ 0 hq rfl).trans ?_
      refine (pay59_at _ _ _).trans ?_
      rw [p.tasks_in hk' hg, Finset.sup_insert]
      refine Eq.trans ?_ (sup_comm _ _)
      refine congrArg₂ (fun y z : EReal => y ⊔ z) ?_ ?_
      · refine (window2 (α := EReal) (A := 288) (B := 128) (a := 32) (b := 1) _ _ ⟨g.val - p.TL ⟨k, hk'⟩, by omega⟩ 0 (by rw [← hq]; exact g.isLt) (show 0 + 0 < 128 by omega)).trans ?_
        refine Eq.trans ?_ (ih (by omega) g)
        exact congrArg (a .m) (congrArg₂ ix2 (Fin.ext hq.symm) rfl)
      · refine (window3 (α := EReal) (A := 200) (a := 32) (b := 1) _ _ _ 0 hk').trans ?_
        rw [e1]
        refine ((hr ⟨k, hk'⟩ (by show k < _; omega)).mb _).trans (congrArg (pmax p X H _) ?_)
        show p.TL ⟨k, hk'⟩ + (g.val - p.TL ⟨k, hk'⟩) = g.val
        omega
    · rw [p.tasks_out hk' hg, ← ih (by omega) g]
      exact put2_row (α := EReal) (A := 288) (B := 128) (a := 32) (b := 1) _ _ g 0 (by rw [tl]; omega)

/-- After the pass of the sums each graph's entries are the sums of its pieces', rescaled. -/
theorem adds {s s' : Sto Ideal} (hs : Fits p X s) {H : S288x128.Idx → EReal} (hr : ∀ t : Fin 200, t.val < p.K → RowOf p X H t s)
    (h0 : ∀ g : Fin 288, (s .d (ix2 g 0) : EReal) = 0) (h1 : ∀ (g : Fin 288) (j : Fin 128), (s .u (ix2 g j) : EReal) = 0)
    {k : ℕ} (hk : k ≤ p.K) (h : Iter AddStep s k s') (g : Fin 288) :
    (s' .d (ix2 g 0) : EReal) = ∑ t ∈ p.tasks g.val k, psum p X H t g.val * Idealize.ShloMosaic.Ideal.exp (pmax p X H t g.val - (s .m (ix2 g 0) : EReal))
    ∧ ∀ j : Fin 128, (s' .u (ix2 g j) : EReal)
      = ∑ t ∈ p.tasks g.val k, pvec p X H t g.val j * Idealize.ShloMosaic.Ideal.exp (pmax p X H t g.val - (s .m (ix2 g 0) : EReal)) := by
  induction h with
  | zero => rw [p.tasks_zero]; exact ⟨h0 g, fun j => h1 g j⟩
  | @succ k a b hk' hi hm ih =>
    have kp := hi.keeps fun _ _ _ h => h.keeps
    obtain ⟨e1, e2, e3, e4⟩ := adds_keep hi
    have tl := (Fits.keep p X hs kp).tl ⟨k, hk'⟩
    obtain ⟨i1, i2⟩ := ih (by omega)
    obtain ⟨hl, rfl⟩ := hm
    have row := hr ⟨k, hk'⟩ (by show k < _; omega)
    by_cases hg : p.TL ⟨k, hk'⟩ ≤ g.val ∧ g.val < p.TL ⟨k, hk'⟩ + 32
    · obtain ⟨r, er⟩ : ∃ r : Fin 32, p.TL ⟨k, hk'⟩ + r.val = g.val := ⟨⟨g.val - p.TL ⟨k, hk'⟩, by omega⟩, by show p.TL ⟨k, hk'⟩ + (g.val - p.TL ⟨k, hk'⟩) = g.val; omega⟩
      have hq : g.val = (a .tl (ix1 ⟨k, hk'⟩) : BitVec 32).toNat + r.val := by rw [tl, er]
      have w1 : ∀ (y : S288x128.Idx → EReal) (inb), window (s := S288x128) y ![(a .tl (ix1 ⟨k, hk'⟩) : BitVec 32).toNat, 0] S32x1.size inb (ix2 r 0) = y (ix2 g 0) := fun y inb => by
        refine (window2 (α := EReal) (A := 288) (B := 128) (a := 32) (b := 1) _ _ r 0 (by rw [← hq]; exact g.isLt) (by simp)).trans ?_
        exact congrArg y (congrArg₂ ix2 (Fin.ext hq.symm) rfl)
      have w128 : ∀ (y : S288x128.Idx → EReal) (inb) (j : Fin 128), window (s := S288x128) y ![(a .tl (ix1 ⟨k, hk'⟩) : BitVec 32).toNat, 0] S32x128.size inb (ix2 r j) = y (ix2 g j) := fun y inb j => by
        refine (window2 (α := EReal) (A := 288) (B := 128) (a := 32) (b := 128) _ _ r j (by rw [← hq]; exact g.isLt) (by omega)).trans ?_
        exact congrArg y (congrArg₂ ix2 (Fin.ext hq.symm) (Fin.ext (by show 0 + j.val = j.val; omega)))
      have m1 := (window3 (α := EReal) (A := 200) (a := 32) (b := 1) (a .mb) (inb_row1 ⟨k, hk'⟩) r 0 hk').trans ((congrFun e1 _).trans (row.mb r))
      have d1 := (window3 (α := EReal) (A := 200) (a := 32) (b := 1) (a .db) (inb_row1 ⟨k, hk'⟩) r 0 hk').trans ((congrFun e2 _).trans (row.db r))
      have u1 := fun j : Fin 128 => (window3 (α := EReal) (A := 200) (a := 32) (b := 128) (a .ub) (inb_row128 ⟨k, hk'⟩) r j hk').trans ((congrFun e3 _).trans (row.ub r j))
      rw [er] at m1 d1
      simp only [er] at u1
      have f1 := (w1 (a .m) (inb_w1 hl)).trans (congrFun e4 _)
      refine ⟨?_, fun j => ?_⟩
      · rw [Function.update_of_ne (by decide), Function.update_self, p.tasks_in hk' hg, Finset.sum_insert (p.fresh hk'), add_comm]
        refine (put2_in (α := EReal) (A := 288) (B := 128) (a := 32) (b := 1) _ _ g 0 r 0 hq rfl).trans ?_
        refine (pay63_at _ _ _ _ r).trans ?_
        refine congrArg₂ (· + ·) ((w1 _ _).trans i1) (congrArg₂ (· * ·) d1 (congrArg Idealize.ShloMosaic.Ideal.exp (congrArg₂ (· - ·) m1 f1)))
      · rw [Function.update_self, p.tasks_in hk' hg, Finset.sum_insert (p.fresh hk'), add_comm]
        refine (put2_in (α := EReal) (A := 288) (B := 128) (a := 32) (b := 128) _ _ g j r j hq (by omega)).trans ?_
        refine (pay64_at _ _ _ _ r j).trans ?_
        refine congrArg₂ (· + ·) ((w128 _ _ j).trans (i2 j)) (congrArg₂ (· * ·) (u1 j) (congrArg Idealize.ShloMosaic.Ideal.exp (congrArg₂ (· - ·) m1 f1)))
    · rw [p.tasks_out hk' hg]
      refine ⟨?_, fun j => ?_⟩
      · rw [Function.update_of_ne (by decide), Function.update_self, ← i1]
        exact put2_row (α := EReal) (A := 288) (B := 128) (a := 32) (b := 1) _ _ g 0 (by rw [tl]; omega)
      · rw [Function.update_self, ← i2 j]
        exact put2_row (α := EReal) (A := 288) (B := 128) (a := 32) (b := 128) _ _ g j (by rw [tl]; omega)

end Cert.Proof
-- ==== Proof.Spec.lean ====
/-
  The mathematics both programs compute: one step of the cell and of the readout, and three of them from zero.
-/
module

public import proofs.«01_k».proof.Proof.Soft
public import Idealize.ShloMosaic.Lib.Pointwise
public import proofs.«01_k».proof.Proof.Gen.KernelIdeal.Launch

@[expose] public section

noncomputable section

namespace Cert.Proof

open Cert.KernelIdeal
open Idealize.ShloMosaic Idealize.ShloMosaic.Tactic

/-- The weights of the cell. -/
structure Weights where
  wi : S512x256.Idx → EReal
  wh : S512x128.Idx → EReal
  bi : Fin 512 → EReal
  bh : Fin 512 → EReal

/-- The nodes and their graphs. -/
structure Nodes where
  X : S100000x128.Idx → EReal
  G : Fin 100000 → ℕ

namespace Weights

variable (w : Weights) (q : S256x256.Idx → EReal) (h c : S256x128.Idx → EReal)

/-- The gates: the query and the state times their weights, and the biases. -/
def gate (g : Fin 256) (a : Fin 512) : EReal :=
  (∑ k : Fin 256, q (ix2 g k) * w.wi (ix2 a k)) + (∑ k : Fin 128, h (ix2 g k) * w.wh (ix2 a k)) + w.bi a + w.bh a

/-- The cell's new memory, -/
def cell (g : Fin 256) (j : Fin 128) : EReal :=
  Idealize.ShloMosaic.Ideal.logistic (w.gate q h g ⟨128 + j.val, by omega⟩) * c (ix2 g j)
    + Idealize.ShloMosaic.Ideal.logistic (w.gate q h g ⟨j.val, by omega⟩) * Idealize.ShloMosaic.Ideal.tanh (w.gate q h g ⟨256 + j.val, by omega⟩)

/-- and its new state. -/
def state (g : Fin 256) (j : Fin 128) : EReal :=
  Idealize.ShloMosaic.Ideal.logistic (w.gate q h g ⟨384 + j.val, by omega⟩) * Idealize.ShloMosaic.Ideal.tanh (w.cell q h c g j)

end Weights

namespace Nodes

variable (v : Nodes) (h : S256x128.Idx → EReal)

/-- The nodes of graph `g`. -/
def of (g : Fin 256) : Finset (Fin 100000) := Finset.univ.filter fun n => v.G n = g.val

/-- A node's energy against graph `g`'s query. -/
def energy (g : Fin 256) (n : Fin 100000) : EReal := ∑ j : Fin 128, h (ix2 g j) * v.X (ix2 n j)

/-- A graph's greatest energy, -/
def top (g : Fin 256) : EReal := (v.of g).sup (v.energy h g)

/-- a node's weight, -/
def weight (g : Fin 256) (n : Fin 100000) : EReal := Idealize.ShloMosaic.Ideal.exp (v.energy h g n - shift (v.top h g))

/-- what the weights are divided by, -/
def total (g : Fin 256) : EReal := ∑ n ∈ v.of g, v.weight h g n + Idealize.ShloMosaic.Ideal.ofBits .f32 0x24E69595#32

/-- and the graph's weighted sum of its nodes. -/
def read (g : Fin 256) (j : Fin 128) : EReal := ∑ n ∈ v.of g, Idealize.ShloMosaic.Ideal.div (v.weight h g n) (v.total h g) * v.X (ix2 n j)

end Nodes

/-- A state of the computation: the query, the state and the memory of the cell. -/
structure St where
  q : S256x256.Idx → EReal
  h : S256x128.Idx → EReal
  c : S256x128.Idx → EReal

/-- One step. -/
def St.next (w : Weights) (v : Nodes) (s : St) : St where
  q i := if k : (i 1).val < 128 then w.state s.q s.h s.c (i 0) ⟨(i 1).val, k⟩
    else v.read (fun i => w.state s.q s.h s.c (i 0) (i 1)) (i 0) ⟨(i 1).val - 128, by have := (i 1).isLt; simp at this; omega⟩
  h i := w.state s.q s.h s.c (i 0) (i 1)
  c i := w.cell s.q s.h s.c (i 0) (i 1)

/-- The start. -/
def St.zero : St := ⟨fun _ => 0, fun _ => 0, fun _ => 0⟩

/-- The result: the query after three steps. -/
def St.result (w : Weights) (v : Nodes) : S256x256.Idx → EReal := (St.zero.next w v |>.next w v |>.next w v).q

end Cert.Proof
-- ==== Proof.Cells.lean ====
/-
  The cell and the readout as the kernel computes them.
-/
module

public import proofs.«01_k».proof.Proof.Loops
public import proofs.«01_k».proof.Proof.Spec

@[expose] public section

noncomputable section

namespace Cert.Proof

open Cert.KernelIdeal Cert.KernelIdeal.Gen Cert.KernelIdeal.Facts
open Idealize.ShloMosaic Idealize.ShloMosaic.TcCoe Idealize.ShloMosaic.Tactic
open Idealize.ShloMosaic.VecWindow (window put)

section cell

variable (w : Weights) (q : S256x256.Idx → EReal) (h c : S256x128.Idx → EReal) (bi bh : S1x512.Idx → EReal)
  (ei : ∀ a, bi (ix2 0 a) = w.bi a) (eh : ∀ a, bh (ix2 0 a) = w.bh a)

include ei eh

/-- The gates the kernel computes. -/
theorem pay70_at (g : Fin 256) (a : Fin 512) : k0_pay70 (F := Ideal) q h w.wi w.wh bi bh (ix2 g a) = w.gate q h g a := by
  unfold k0_pay70
  pointwise
  rw [ei, eh]
  rfl

/-- The kernel's new cell is the computation's. -/
theorem pay71_at (g : Fin 256) (j : Fin 128) : k0_pay71 (F := Ideal) q h c w.wi w.wh bi bh (ix2 g j) = w.cell q h c g j := by
  unfold k0_pay71
  pointwise
  simp only [pay70_at w q h bi bh ei eh]
  rfl

/-- The kernel's new state is the computation's. -/
theorem pay72_at (g : Fin 256) (j : Fin 128) : k0_pay72 (F := Ideal) q h c w.wi w.wh bi bh (ix2 g j) = w.state q h c g j := by
  unfold k0_pay72
  pointwise
  simp only [pay70_at w q h bi bh ei eh, pay71_at w q h c bi bh ei eh]
  rfl

end cell

/-- A window that is the whole of a matrix. -/
theorem window_all {A B : ℕ} (x : (⟨2, ![A, B]⟩ : Shape).Idx → EReal) (inb) : window (s := ⟨2, ![A, B]⟩) x ![0, 0] ![A, B] inb = x := by
  funext i
  obtain ⟨a, b, rfl⟩ : ∃ a b, i = ix2 a b := ⟨_, _, eq_ix2 i⟩
  refine (window2 x inb a b (by omega) (by omega)).trans (congrArg x (congrArg₂ ix2 (Fin.ext ?_) (Fin.ext ?_)))
  · show 0 + a.val = a.val; omega
  · show 0 + b.val = b.val; omega

/-- A matrix whose every entry is overwritten. -/
theorem put_all {A B : ℕ} (x w : (⟨2, ![A, B]⟩ : Shape).Idx → EReal) : put (s := ⟨2, ![A, B]⟩) x ![0, 0] ![A, B] w = w := by
  funext i
  obtain ⟨a, b, rfl⟩ : ∃ a b, i = ix2 a b := ⟨_, _, eq_ix2 i⟩
  exact put2_in x w a b a b (by omega) (by omega)

variable (p : Plan) (X : S100000x128.Idx → EReal) (w : Weights)

/-- Overwriting a buffer that is no input keeps the plan. -/
theorem Fits.update {s : Sto Ideal} (h : Fits p X s) (b : B) (y : b.sh.Idx → Elt Ideal b.el)
    (h1 : B.x ≠ b) (h2 : B.bt ≠ b) (h3 : B.tb ≠ b) (h4 : B.tl ≠ b) (h5 : B.nt ≠ b) : Fits p X (Function.update s b y) := by
  refine ⟨?_, ?_, ?_, ?_, ?_⟩
  · rw [Function.update_of_ne h1]; exact h.x
  · rw [Function.update_of_ne h2]; exact h.bt
  · rw [Function.update_of_ne h3]; exact h.tb
  · rw [Function.update_of_ne h4]; exact h.tl
  · rw [cnt_update s b y h5]; exact h.nt

/-- The kernel's state holds the nodes, the tables, the weights and the computation's state. -/
structure Holds (S : St) (s : Sto Ideal) : Prop where
  fits : Fits p X s
  wi : s .wi = w.wi
  wh : s .wh = w.wh
  bi : ∀ a : Fin 512, (s .bi (ix2 0 a) : EReal) = w.bi a
  bh : ∀ a : Fin 512, (s .bh (ix2 0 a) : EReal) = w.bh a
  q : s .q = S.q
  h : ∀ (g : Fin 256) (j : Fin 128), (s .h (ix2 (⟨g.val, by omega⟩ : Fin 288) j) : EReal) = S.h (ix2 g j)
  c : s .c = S.c

variable {p X w}

section step

variable {S : St} {s : Sto Ideal} (hs : Holds p X w S s)

include hs

/-- The first 256 rows of the state buffer hold the state. -/
theorem Holds.rows : window (s .h) ![0, 0] S256x128.size inb_S288x128_S256x128_0_0 = S.h := by
  funext i
  obtain ⟨a, b, rfl⟩ : ∃ a b, i = ix2 (n0 := 256) (n1 := 128) a b := ⟨_, _, eq_ix2 i⟩
  refine (window2 (α := EReal) (A := 288) (B := 128) (a := 256) (b := 128) _ _ a b (by omega) (by omega)).trans ?_
  rw [← hs.h a b]
  refine congrArg (s .h) (congrArg₂ ix2 (Fin.ext ?_) (Fin.ext ?_))
  · show 0 + a.val = a.val; omega
  · show 0 + b.val = b.val; omega

/-- The inputs of the cell are the state's. -/
theorem Holds.cellIn {α : Sort*} (f : Vec Ideal S256x256 .f32 → Vec Ideal S256x128 .f32 → Vec Ideal S256x128 .f32 → Vec Ideal S512x256 .f32 → Vec Ideal S512x128 .f32
    → Vec Ideal S1x512 .f32 → Vec Ideal S1x512 .f32 → α) : cellIn s f = f S.q S.h S.c w.wi w.wh (s .bi) (s .bh) := by
  unfold Cert.Proof.cellIn
  rw [hs.rows, ← hs.q, ← hs.c, ← hs.wi, ← hs.wh]
  have e1 := window_all (A := 256) (B := 256) (s .q) inb_S256x256_S256x256_0_0
  have e2 := window_all (A := 256) (B := 128) (s .c) inb_S256x128_S256x128_0_0
  have e3 := window_all (A := 512) (B := 256) (s .wi) inb_S512x256_S512x256_0_0
  have e4 := window_all (A := 512) (B := 128) (s .wh) inb_S512x128_S512x128_0_0
  have e5 := window_all (A := 1) (B := 512) (s .bi) inb_S1x512_S1x512_0_0
  have e6 := window_all (A := 1) (B := 512) (s .bh) inb_S1x512_S1x512_0_0
  exact congr (congr (congr (congr (congr (congrArg (fun a b => f a S.h b) e1) e2) e3) e4) e5) e6

/-- The new state, -/
theorem Holds.state (g : Fin 256) (j : Fin 128) : (Cert.Proof.cellIn s (k0_pay72 (F := Ideal)) (ix2 g j) : EReal) = w.state S.q S.h S.c g j := by
  rw [hs.cellIn]
  exact pay72_at w S.q S.h S.c (s .bi) (s .bh) hs.bi hs.bh g j

/-- stored, -/
theorem Holds.cell_h (g : Fin 256) (j : Fin 128) : (Cell s .h (ix2 (⟨g.val, by omega⟩ : Fin 288) j) : EReal) = w.state S.q S.h S.c g j := by
  unfold Cell
  rw [Function.update_of_ne (by decide), Function.update_of_ne (by decide), Function.update_of_ne (by decide), Function.update_self]
  refine (put2_in (α := EReal) (A := 288) (B := 128) (a := 256) (b := 128) _ _ _ j g j (Nat.zero_add _).symm (by omega)).trans ?_
  rw [hs.cellIn]
  unfold k0_pay73
  pointwise
  exact pay72_at w S.q S.h S.c (s .bi) (s .bh) hs.bi hs.bh g j

/-- and the new memory. -/
theorem Holds.cell_c : Cell s .c = fun i : S256x128.Idx => w.cell S.q S.h S.c (i 0) (i 1) := by
  unfold Cell
  rw [Function.update_of_ne (by decide), Function.update_of_ne (by decide), Function.update_self]
  refine (put_all (A := 256) (B := 128) _ _).trans ?_
  rw [hs.cellIn]
  funext i
  obtain ⟨a, b, rfl⟩ : ∃ a b, i = ix2 (n0 := 256) (n1 := 128) a b := ⟨_, _, eq_ix2 i⟩
  unfold k0_pay74
  pointwise
  exact pay71_at w S.q S.h S.c (s .bi) (s .bh) hs.bi hs.bh a b

end step

/-- After the cell every maximum is minus infinity. -/
theorem cell_m (s : Sto Ideal) (g : Fin 288) : (Cell s .m (ix2 g 0) : EReal) = ⊥ := by
  unfold Cell
  rw [Function.update_of_ne (by decide), Function.update_self]
  exact (congrFun (put_all (A := 288) (B := 128) _ _) _).trans (pay75_at g 0)

/-- After the cell every sum is zero. -/
theorem cell_d (s : Sto Ideal) (g : Fin 288) : (Cell s .d (ix2 g 0) : EReal) = 0 := by
  unfold Cell
  rw [Function.update_self]
  exact (congrFun (put_all (A := 288) (B := 128) _ _) _).trans (pay77_at g 0)

/-- Every weighted sum starts at zero. -/
theorem zero_u (s : Sto Ideal) (g : Fin 288) (j : Fin 128) : (ZeroU s .u (ix2 g j) : EReal) = 0 := by
  unfold ZeroU
  rw [Function.update_self]
  exact (congrFun (put_all (A := 288) (B := 128) _ _) _).trans (pay84_at g j)

/-- A row of partial results stays where its three buffers stay. -/
theorem RowOf.same {H : S288x128.Idx → EReal} {t : Fin 200} {s s' : Sto Ideal} (h : RowOf p X H t s) (e1 : s' .mb = s .mb) (e2 : s' .db = s .db) (e3 : s' .ub = s .ub) :
    RowOf p X H t s' := ⟨fun r => by rw [e1]; exact h.mb r, fun r => by rw [e2]; exact h.db r, fun r j => by rw [e3]; exact h.ub r j⟩

end Cert.Proof
-- ==== Proof.Whole.lean ====
/-
  The kernel's steps are the computation's.
-/
module

public import proofs.«01_k».proof.Proof.Cells

@[expose] public section

noncomputable section

namespace Cert.Proof

open Cert.KernelIdeal Cert.KernelIdeal.Gen Cert.KernelIdeal.Facts
open Idealize.ShloMosaic Idealize.ShloMosaic.TcCoe Idealize.ShloMosaic.Tactic
open Idealize.ShloMosaic.VecWindow (window put)

variable {p : Plan} {X : S100000x128.Idx → EReal} {w : Weights}

/-- The nodes of a plan. -/
abbrev Plan.v (p : Plan) (X : S100000x128.Idx → EReal) : Nodes := ⟨X, p.G⟩

section graph

variable {H : S288x128.Idx → EReal} {h : S256x128.Idx → EReal} (hH : ∀ (g : Fin 256) (j : Fin 128), H (ix2 (⟨g.val, by omega⟩ : Fin 288) j) = h (ix2 g j)) (g : Fin 256)

include hH

/-- An energy is the computation's. -/
theorem en_eq : en X H g.val = (p.v X).energy h g := by
  funext n
  unfold en Nodes.energy query
  refine Finset.sum_congr rfl fun j _ => ?_
  rw [dif_pos (show g.val < 288 by omega), hH]

/-- A task's maximum is that of its nodes' energies. -/
theorem pmax_eq (t : Fin 200) : pmax p X H t g.val = (p.piece t g.val).sup ((p.v X).energy h g) := by
  unfold pmax
  rw [en_eq (p := p) hH g]

/-- The greatest of the pieces' maxima is the graph's. -/
theorem top_eq : ((p.tasks g.val p.K).sup fun t => pmax p X H t g.val) = (p.v X).top h g := by
  simp only [pmax_eq hH g]
  rw [← Finset.sup_biUnion, p.union]
  rfl

/-- No energy of a graph's task exceeds the graph's maximum. -/
theorem energy_le (n : Fin 100000) (hn : n ∈ (p.tasks g.val p.K).biUnion fun t => p.piece t g.val) : (p.v X).energy h g n ≤ (p.v X).top h g := by
  rw [p.union] at hn
  exact Finset.le_sup (f := (p.v X).energy h g) hn

/-- The rescaled sums of the pieces add to the graph's, -/
theorem sum_eq : ∑ t ∈ p.tasks g.val p.K, psum p X H t g.val * Idealize.ShloMosaic.Ideal.exp (pmax p X H t g.val - (p.v X).top h g)
    = ∑ n ∈ (p.v X).of g, (p.v X).weight h g n := by
  have e := pieces (p.tasks g.val p.K) (fun t => p.piece t g.val) ((p.v X).energy h g) (fun _ => 1) (p.apart g.val) (energy_le hH g)
  simp only [mul_one] at e
  rw [p.union] at e
  refine Eq.trans (Finset.sum_congr rfl fun t _ => ?_) e
  unfold psum
  rw [pmax_eq hH g, en_eq (p := p) hH g]

/-- and so do the weighted sums. -/
theorem vec_eq (j : Fin 128) : ∑ t ∈ p.tasks g.val p.K, pvec p X H t g.val j * Idealize.ShloMosaic.Ideal.exp (pmax p X H t g.val - (p.v X).top h g)
    = ∑ n ∈ (p.v X).of g, (p.v X).weight h g n * X (ix2 n j) := by
  have e := pieces (p.tasks g.val p.K) (fun t => p.piece t g.val) ((p.v X).energy h g) (fun n => X (ix2 n j)) (p.apart g.val) (energy_le hH g)
  rw [p.union] at e
  refine Eq.trans (Finset.sum_congr rfl fun t _ => ?_) e
  unfold pvec
  rw [pmax_eq hH g, en_eq (p := p) hH g]

end graph

/-- The readout's quotient. -/
theorem read_eq (v : Nodes) (h : S256x128.Idx → EReal) (g : Fin 256) (j : Fin 128) :
    Idealize.ShloMosaic.Ideal.div (∑ n ∈ v.of g, v.weight h g n * v.X (ix2 n j)) (v.total h g) = v.read h g j := by
  obtain ⟨r, hr, er⟩ := eps_pos
  unfold Nodes.read Nodes.total
  rw [er]
  exact quotient (v.energy h g) (fun n => v.X (ix2 n j)) (v.of g) (m := v.top h g) (fun n hn => Finset.le_sup (f := v.energy h g) hn) hr

/-- One step of the kernel is one of the computation. -/
theorem Holds.step {S : St} {s s' : Sto Ideal} (hs : Holds p X w S s) (h : Step s s') : Holds p X w (S.next w (p.v X)) s' := by
  obtain ⟨s1, s2, s3, h1, h2, h3, rfl⟩ := h
  rw [hs.fits.nt] at h1 h2 h3
  have f0 : Fits p X (Cell s) := (((hs.fits.update p X .h _ (by decide) (by decide) (by decide) (by decide) (by decide)).update p X .c _
    (by decide) (by decide) (by decide) (by decide) (by decide)).update p X .m _ (by decide) (by decide) (by decide) (by decide) (by decide)).update p X .d _
    (by decide) (by decide) (by decide) (by decide) (by decide)
  have k1 : Keeps (Cell s) s1 := h1.keeps fun _ _ _ h => h.keeps
  have k2 : Keeps s1 s2 := h2.keeps fun _ _ _ h => h.keeps
  have k3 : Keeps (ZeroU s2) s3 := h3.keeps fun _ _ _ h => h.keeps
  have kz : Keeps s2 (ZeroU s2) := fun b _ _ _ _ _ hb => Function.update_of_ne hb _ _
  have kk : Keeps (Cell s) s3 := fun b a1 a2 a3 a4 a5 a6 => by
    rw [k3 b a1 a2 a3 a4 a5 a6, kz b a1 a2 a3 a4 a5 a6, k2 b a1 a2 a3 a4 a5 a6, k1 b a1 a2 a3 a4 a5 a6]
  have f1 := Fits.keep p X f0 k1
  have f3 := Fits.keep p X (Fits.keep p X f1 k2) kz
  have r1 := sweeps f0 le_rfl h1
  obtain ⟨c1, c2, _⟩ := sweeps_keep h1
  obtain ⟨b1, b2, b3, b4⟩ := maxes_keep h2
  obtain ⟨_, _, _, a4⟩ := adds_keep h3
  have m2 := maxes f1 r1 (fun g => by rw [c1]; exact cell_m s g) le_rfl h2
  have d3 := adds f3 (H := Cell s .h) (fun t ht => (r1 t ht).same (s' := ZeroU s2) b1 b2 b3)
    (fun g => by show (s2 .d (ix2 g 0) : EReal) = 0; rw [b4, c2]; exact cell_d s g) (zero_u s2) le_rfl h3
  have hH := hs.cell_h
  let h' : S256x128.Idx → EReal := fun i => w.state S.q S.h S.c (i 0) (i 1)
  have hH' : ∀ (g : Fin 256) (j : Fin 128), (Cell s .h : S288x128.Idx → EReal) (ix2 (⟨g.val, by omega⟩ : Fin 288) j) = h' (ix2 g j) := hH
  have out : ∀ (g : Fin 256), (s3 .d (ix2 (⟨g.val, by omega⟩ : Fin 288) 0) : EReal) = ∑ n ∈ (p.v X).of g, (p.v X).weight h' g n
      ∧ ∀ j : Fin 128, (s3 .u (ix2 (⟨g.val, by omega⟩ : Fin 288) j) : EReal) = ∑ n ∈ (p.v X).of g, (p.v X).weight h' g n * X (ix2 n j) := fun g => by
    have em : (ZeroU s2 .m (ix2 (⟨g.val, by omega⟩ : Fin 288) 0) : EReal) = (p.v X).top h' g := (m2 _).trans (top_eq hH' g)
    obtain ⟨e1, e2⟩ := d3 ⟨g.val, by omega⟩
    rw [em] at e1 e2
    exact ⟨e1.trans (sum_eq hH' g), fun j => (e2 j).trans (vec_eq hH' g j)⟩
  have rd : ∀ b, b ≠ .q → Right (Left (Cert.Proof.cellIn s k0_pay72) s3) b = s3 b := fun b hb => by
    unfold Right Left
    rw [Function.update_of_ne hb, Function.update_of_ne hb]
  have rest : ∀ b, b ≠ .q → b ≠ .mb → b ≠ .db → b ≠ .ub → b ≠ .m → b ≠ .d → b ≠ .u → Right (Left (Cert.Proof.cellIn s k0_pay72) s3) b = Cell s b :=
    fun b hb a1 a2 a3 a4 a5 a6 => by rw [rd b hb, kk b a1 a2 a3 a4 a5 a6]
  have fin : ∀ b, b ≠ .h → b ≠ .c → b ≠ .m → b ≠ .d → Cell s b = s b := fun b a1 a2 a3 a4 => by
    unfold Cell
    rw [Function.update_of_ne a4, Function.update_of_ne a3, Function.update_of_ne a2, Function.update_of_ne a1]
  refine ⟨?_, ?_, ?_, ?_, ?_, ?_, ?_, ?_⟩
  · exact (((Fits.keep p X f0 kk).update p X .q _ (by decide) (by decide) (by decide) (by decide) (by decide))).update p X .q _ (by decide) (by decide) (by decide) (by decide) (by decide)
  · rw [rest .wi (by decide) (by decide) (by decide) (by decide) (by decide) (by decide) (by decide), fin .wi (by decide) (by decide) (by decide) (by decide)]; exact hs.wi
  · rw [rest .wh (by decide) (by decide) (by decide) (by decide) (by decide) (by decide) (by decide), fin .wh (by decide) (by decide) (by decide) (by decide)]; exact hs.wh
  · rw [rest .bi (by decide) (by decide) (by decide) (by decide) (by decide) (by decide) (by decide), fin .bi (by decide) (by decide) (by decide) (by decide)]; exact hs.bi
  · rw [rest .bh (by decide) (by decide) (by decide) (by decide) (by decide) (by decide) (by decide), fin .bh (by decide) (by decide) (by decide) (by decide)]; exact hs.bh
  · funext i
    obtain ⟨g, j, rfl⟩ : ∃ g j, i = ix2 (n0 := 256) (n1 := 256) g j := ⟨_, _, eq_ix2 i⟩
    unfold Right
    rw [Function.update_self]
    show _ = (if k : j.val < 128 then w.state S.q S.h S.c g ⟨j.val, k⟩ else (p.v X).read h' g ⟨j.val - 128, by omega⟩ : EReal)
    by_cases k : j.val < 128
    · rw [dif_pos k]
      refine (put2_col (α := EReal) (A := 256) (B := 256) (a := 256) (b := 128) _ _ g j (.inl k)).trans ?_
      unfold Left
      rw [Function.update_self]
      refine (put2_in (α := EReal) (A := 256) (B := 256) (a := 256) (b := 128) _ _ g j g ⟨j.val, k⟩ (by omega) (Nat.zero_add _).symm).trans ?_
      unfold k0_pay91
      pointwise
      exact hs.state g ⟨j.val, k⟩
    · rw [dif_neg k]
      refine (put2_in (α := EReal) (A := 256) (B := 256) (a := 256) (b := 128) _ _ g j g ⟨j.val - 128, by omega⟩ (by omega) (show j.val = 128 + (j.val - 128) by omega)).trans ?_
      refine (pay92_at _ _ g _).trans ?_
      rw [← read_eq]
      unfold Nodes.total
      refine congrArg₂ Idealize.ShloMosaic.Ideal.div ?_ (congrArg (· + _) ?_)
      · refine (window2 (α := EReal) (A := 288) (B := 128) (a := 256) (b := 128) _ _ g _ (by omega) (by omega)).trans ?_
        rw [← (out g).2]
        refine congrArg (s3 .u) (congrArg₂ ix2 (Fin.ext (Nat.zero_add _)) (Fin.ext (Nat.zero_add _)))
      · refine (window2 (α := EReal) (A := 288) (B := 128) (a := 256) (b := 1) _ _ g 0 (by omega) (show 0 + 0 < 128 by omega)).trans ?_
        rw [← (out g).1]
        refine congrArg (s3 .d) (congrArg₂ ix2 (Fin.ext (Nat.zero_add _)) (Fin.ext (Nat.zero_add _)))
  · intro g j
    rw [rest .h (by decide) (by decide) (by decide) (by decide) (by decide) (by decide) (by decide)]
    exact hH g j
  · rw [rest .c (by decide) (by decide) (by decide) (by decide) (by decide) (by decide) (by decide)]
    exact hs.cell_c

/-- The inputs the kernel starts from. -/
structure Given (p : Plan) (X : S100000x128.Idx → EReal) (w : Weights) (s : Sto Ideal) : Prop where
  fits : Fits p X s
  wi : s .wi = w.wi
  wh : s .wh = w.wh
  bi : ∀ a : Fin 512, (s .bi (ix2 0 a) : EReal) = w.bi a
  bh : ∀ a : Fin 512, (s .bh (ix2 0 a) : EReal) = w.bh a

/-- The kernel starts from zero, -/
theorem Given.init {s : Sto Ideal} (hs : Given p X w s) : Holds p X w St.zero (Init s) := by
  have oth : ∀ b, b ≠ .h → b ≠ .c → b ≠ .q → Init s b = s b := fun b a1 a2 a3 => by
    unfold Init
    rw [Function.update_of_ne a3, Function.update_of_ne a2, Function.update_of_ne a1]
  refine ⟨?_, ?_, ?_, ?_, ?_, ?_, ?_, ?_⟩
  · exact ((hs.fits.update p X .h _ (by decide) (by decide) (by decide) (by decide) (by decide)).update p X .c _
      (by decide) (by decide) (by decide) (by decide) (by decide)).update p X .q _ (by decide) (by decide) (by decide) (by decide) (by decide)
  · rw [oth .wi (by decide) (by decide) (by decide)]; exact hs.wi
  · rw [oth .wh (by decide) (by decide) (by decide)]; exact hs.wh
  · rw [oth .bi (by decide) (by decide) (by decide)]; exact hs.bi
  · rw [oth .bh (by decide) (by decide) (by decide)]; exact hs.bh
  · unfold Init
    rw [Function.update_self]
    refine (put_all (A := 256) (B := 256) _ _).trans (funext fun i => ?_)
    obtain ⟨a, b, rfl⟩ : ∃ a b, i = ix2 (n0 := 256) (n1 := 256) a b := ⟨_, _, eq_ix2 i⟩
    unfold k0_pay45
    pointwise
    rfl
  · intro g j
    unfold Init
    rw [Function.update_of_ne (by decide), Function.update_of_ne (by decide), Function.update_self]
    refine (congrFun (put_all (A := 288) (B := 128) _ _) _).trans ?_
    unfold k0_pay43
    pointwise
    rfl
  · unfold Init
    rw [Function.update_of_ne (by decide), Function.update_self]
    refine (put_all (A := 256) (B := 128) _ _).trans (funext fun i => ?_)
    obtain ⟨a, b, rfl⟩ : ∃ a b, i = ix2 (n0 := 256) (n1 := 128) a b := ⟨_, _, eq_ix2 i⟩
    unfold k0_pay44
    pointwise
    rfl

/-- and leaves the result. -/
theorem Given.kern {s s' : Sto Ideal} (hs : Given p X w s) (h : Kern s s') : s' .o = St.result w (p.v X) := by
  obtain ⟨s1, s2, s3, h1, h2, h3, rfl⟩ := h
  have e := (((hs.init.step h1).step h2).step h3).q
  rw [Function.update_self]
  refine (put_all (A := 256) (B := 256) _ _).trans ((window_all (A := 256) (B := 256) _ _).trans e)

end Cert.Proof
-- ==== Proof.Terms.lean ====
/-
  The reference's terms: one step's, named by what they compute, read at an index.
-/
module

public import proofs.«01_k».proof.Proof.Spec
public import proofs.«01_k».proof.Proof.Pays
public import proofs.«01_k».proof.Proof.Gen.ReferenceIdeal.Run
public import Idealize.ShloMosaic.Lib.Routing.OpsSet
public import Idealize.ShloMosaic.Lib.Routing.OpsPair

@[expose] public section

noncomputable section

namespace Cert.Proof.Ref

open Cert.ReferenceIdeal Cert.ReferenceIdeal.Gen
open Idealize.ShloMosaic Idealize.ShloMosaic.TcCoe Idealize.ShloMosaic.StableHlo Idealize.ShloMosaic.Tactic

section terms

variable {F : FTy → Type} [FloatOps F]
variable (x : FVec F S100000x128 .f32) (bt : IVec S100000 32) (wi : FVec F S512x256 .f32) (wh : FVec F S512x128 .f32) (bi bh : FVec F S512 .f32)

/-- Zero everywhere. -/
def zero128 : FVec F S256x128 .f32 := broadcastInDim S256x128 ![] bcast_S_S256x128 (constant S_ .f32 0x00000000#32)
/-- The first query: zero everywhere. -/
def zero256 : FVec F S256x256 .f32 := broadcastInDim S256x256 ![] bcast_S_S256x256 (constant S_ .f32 0x00000000#32)

/-- The gates. -/
def gates (q : FVec F S256x256 .f32) (h : FVec F S256x128 .f32) : FVec F S256x512 .f32 :=
  addf (addf (addf (Host.dotGeneral dot_S256x256_S256x512_S256x512_1_0_0_1_n_n none q (transpose S256x512 [1, 0] wi transposes_S512x256_S256x512_1_0))
    (broadcastInDim S256x512 ![0, 1] bcast_S1x512_S256x512_0_1 (broadcastInDim S1x512 ![1] bcast_S512_S1x512_1 bi)))
    (Host.dotGeneral dot_S256x128_S128x512_S256x512_1_0_0_1_n_n none h (transpose S128x512 [1, 0] wh transposes_S512x128_S128x512_1_0)))
    (broadcastInDim S256x512 ![0, 1] bcast_S1x512_S256x512_0_1 (broadcastInDim S1x512 ![1] bcast_S512_S1x512_1 bh))

/-- The logistic function of an array, as it is written out. -/
def logi (a : FVec F S256x128 .f32) : FVec F S256x128 .f32 :=
  Host.divf (broadcastInDim S256x128 ![] bcast_S_S256x128 (constant S_ .f32 0x3F800000#32))
    (addf (broadcastInDim S256x128 ![] bcast_S_S256x128 (constant S_ .f32 0x3F800000#32)) (Host.exp (Host.negf a)))

/-- The cell's memory, -/
def memory (g : FVec F S256x512 .f32) (c : FVec F S256x128 .f32) : FVec F S256x128 .f32 :=
  addf (mulf (logi (extractStridedSlice S256x128 ![0, 128] g slices_S256x512_S256x128_0_128)) c)
    (mulf (logi (extractStridedSlice S256x128 ![0, 0] g slices_S256x512_S256x128_0_0)) (Host.tanh (extractStridedSlice S256x128 ![0, 256] g slices_S256x512_S256x128_0_256)))

/-- and state. -/
def hidden (g : FVec F S256x512 .f32) (c : FVec F S256x128 .f32) : FVec F S256x128 .f32 :=
  mulf (logi (extractStridedSlice S256x128 ![0, 384] g slices_S256x512_S256x128_0_384)) (Host.tanh (memory g c))

/-- The nodes' graphs as a column, -/
def column : IVec S100000x1 32 := broadcastInDim S100000x1 ![0] bcast_S100000_S100000x1_0 bt

/-- and with a negative one counted from the end. -/
def wrapped : IVec S100000x1 32 :=
  broadcastInDim S100000x1 ![0] bcast_S100000_S100000x1_0 (select (cmpi .slt bt (broadcastInDim S100000 ![] bcast_S_S100000 (constantI S_ 32 0#32)))
    (addi bt (broadcastInDim S100000 ![] bcast_S_S100000 (constantI S_ 32 256#32))) bt)

/-- The energies, -/
def energies (h : FVec F S256x128 .f32) : FVec F S100000 .f32 :=
  Host.reduceAdd (mulf x (Host.gather gather_S256x128_S100000x1_S100000x128_1_0_n_n_0_1_1128 h (wrapped bt))) (constant S_ .f32 0x00000000#32) reducesTo_S100000x128_S100000_d1 h_S_

/-- which node is in which graph, -/
def member : IVec S256x100000 1 :=
  cmpi .eq (broadcastInDim S256x100000 ![0, 1] bcast_S1x100000_S256x100000_0_1 (broadcastInDim S1x100000 ![1] bcast_S100000_S1x100000_1 bt))
    (broadcastInDim S256x100000 ![0, 1] bcast_S256x1_S256x100000_0_1 (broadcastInDim S256x1 ![0] bcast_S256_S256x1_0 (iotaInDim S256 32 0)))

/-- the graphs' maxima, -/
def tops (e : FVec F S100000 .f32) : FVec F S256 .f32 :=
  Host.reduce FloatOps.maximumf (select (member bt)
    (broadcastInDim S256x100000 ![0, 1] bcast_S1x100000_S256x100000_0_1 (broadcastInDim S1x100000 ![1] bcast_S100000_S1x100000_1 e))
    (broadcastInDim S256x100000 ![] bcast_S_S256x100000 (id (constant S_ .f32 0xFF800000#32)))) (constant S_ .f32 0xFF800000#32) reducesTo_S256x100000_S256_d1 h_S_

/-- the weights -/
def weights (e : FVec F S100000 .f32) : FVec F S100000 .f32 :=
  Host.exp (subf e (Host.gather gather_S256_S100000x1_S100000_n_0_n_n_0_1_1
    (select (cmpf .oeq (tops bt e) (broadcastInDim S256 ![] bcast_S_S256 (constant S_ .f32 0xFF800000#32))) (broadcastInDim S256 ![] bcast_S_S256 (id (constant S_ .f32 0x00000000#32))) (tops bt e))
    (wrapped bt)))

/-- and their sums. -/
def sums (ex : FVec F S100000 .f32) : FVec F S256 .f32 :=
  Host.scatterAdd scatter_S256_S100000x1_S100000_n_0_0_1 (broadcastInDim S256 ![] bcast_S_S256 (constant S_ .f32 0x00000000#32)) (column bt) ex

/-- The weights divided, -/
def shares (ex : FVec F S100000 .f32) : FVec F S100000 .f32 :=
  Host.divf ex (addf (Host.gather gather_S256_S100000x1_S100000_n_0_n_n_0_1_1 (sums bt ex) (wrapped bt)) (broadcastInDim S100000 ![] bcast_S_S100000 (constant S_ .f32 0x24E69595#32)))

/-- and the readout. -/
def readout (ex : FVec F S100000 .f32) : FVec F S256x128 .f32 :=
  Host.scatterAdd scatter_S256x128_S100000x1_S100000x128_1_0_0_1 zero128 (column bt)
    (mulf (broadcastInDim S100000x128 ![0, 1] bcast_S100000x1_S100000x128_0_1 (broadcastInDim S100000x1 ![0] bcast_S100000_S100000x1_0 (shares bt ex))) x)

/-- The next query. -/
def query (h : FVec F S256x128 .f32) : FVec F S256x256 .f32 :=
  concatenate S256x256 1 [⟨S256x128, h⟩, ⟨S256x128, readout x bt (weights bt (energies x bt h))⟩] concatenates_S256x128_S256x128_S256x256_d1

end terms

variable (v : Nodes) (bt : IVec S100000 32) (lt : ∀ n, v.G n < 256) (eb : ∀ n, bt (ix1 n) = BitVec.ofNat 32 (v.G n))
variable (w : Weights) (bi bh : S512.Idx → EReal) (ei : ∀ a, bi (ix1 a) = w.bi a) (eh : ∀ a, bh (ix1 a) = w.bh a)

include ei eh in
/-- The gates are the cell's: the sums are taken in another order. -/
theorem gates_at (q : S256x256.Idx → EReal) (h : S256x128.Idx → EReal) (g : Fin 256) (a : Fin 512) : gates (F := Ideal) w.wi w.wh bi bh q h (ix2 g a) = w.gate q h g a := by
  unfold gates
  pointwise
  rw [ei, eh]
  unfold Weights.gate
  rw [add_right_comm (∑ k : Fin 256, q (ix2 g k) * w.wi (ix2 a k))]

/-- The term is the logistic function. -/
theorem logi_at (a : S256x128.Idx → EReal) (i : S256x128.Idx) : logi (F := Ideal) a i = Idealize.ShloMosaic.Ideal.logistic (a i) := by
  unfold logi
  pointwise
  rfl

include ei eh in
/-- The new cell is the computation's. -/
theorem memory_at (q : S256x256.Idx → EReal) (h c : S256x128.Idx → EReal) (g : Fin 256) (j : Fin 128) :
    memory (F := Ideal) (gates (F := Ideal) w.wi w.wh bi bh q h) c (ix2 g j) = w.cell q h c g j := by
  unfold memory
  pointwise
  simp only [logi_at]
  pointwise
  simp only [gates_at w bi bh ei eh]
  rfl

include ei eh in
/-- The new state is the computation's. -/
theorem hidden_at (q : S256x256.Idx → EReal) (h c : S256x128.Idx → EReal) (g : Fin 256) (j : Fin 128) :
    hidden (F := Ideal) (gates (F := Ideal) w.wi w.wh bi bh q h) c (ix2 g j) = w.state q h c g j := by
  unfold hidden
  pointwise
  simp only [logi_at]
  pointwise
  simp only [gates_at w bi bh ei eh, memory_at w bi bh ei eh]
  rfl

/-- The column at an index. -/
theorem column_at (n : Fin 100000) : column bt (ix2 n 0) = bt (ix1 n) := by
  unfold column
  pointwise

include lt eb in
/-- No graph number is negative, so nothing is counted from the end. -/
theorem wrapped_at (n : Fin 100000) : wrapped bt (ix2 n 0) = BitVec.ofNat 32 (v.G n) := by
  unfold wrapped
  pointwise
  rw [Routing.wrap_of_lt, eb]
  rw [eb, BitVec.toNat_ofNat]
  have := lt n
  omega

include lt eb in
/-- A node's word is a graph's where its number is. -/
theorem word_iff (n : Fin 100000) (g : Fin 256) : bt (ix1 n) = BitVec.ofNat 32 g.val ↔ v.G n = g.val := by
  rw [eb]
  have := lt n
  constructor
  · intro e
    have := congrArg BitVec.toNat e
    rw [BitVec.toNat_ofNat, BitVec.toNat_ofNat] at this
    omega
  · intro e; rw [e]

include lt eb in
/-- A node's energy is that under its own graph's query. -/
theorem energies_at (h : S256x128.Idx → EReal) (n : Fin 100000) : energies (F := Ideal) v.X bt h (ix1 n) = v.energy h ⟨v.G n, lt n⟩ n := by
  unfold energies
  pointwise
  unfold Nodes.energy
  refine Finset.sum_congr rfl fun k _ => ?_
  rw [mul_comm]
  refine congrArg (· * _) ?_
  exact Routing.gather_row gather_S256x128_S100000x1_S100000x128_1_0_n_n_0_1_1128 rfl rfl rfl rfl rfl h (wrapped bt) n k ⟨v.G n, lt n⟩ (wrapped_at v bt lt eb n) (by decide)

/-- A choice by an equality of words. -/
theorem pick {α : Type} (a b : BitVec 32) (y z : α) : Scalar.select (IntOp.cmpi .eq a b) y z = if a = b then y else z := by
  by_cases e : a = b
  · rw [if_pos e, e]; simp [IntOp.cmpi, Scalar.select]
  · rw [if_neg e]; simp [IntOp.cmpi, Scalar.select, beq_eq_false_iff_ne.2 e]

include lt eb in
/-- A graph's maximum is that of its nodes. -/
theorem tops_at (h : S256x128.Idx → EReal) (g : Fin 256) : tops (F := Ideal) bt (energies (F := Ideal) v.X bt h) (ix1 g) = v.top h g := by
  unfold tops member
  pointwise
  have e : ∀ n : Fin 100000, Scalar.select (IntOp.cmpi .eq (bt (ix1 n)) (BitVec.ofNat 32 g.val)) (energies (F := Ideal) v.X bt h (ix1 n)) (id (constant (F := Ideal) S_ .f32 4286578688#32) ix0)
      = if v.G n = g.val then v.energy h g n else ⊥ := fun n => by
    rw [pick]
    by_cases k : v.G n = g.val
    · rw [if_pos k, if_pos ((word_iff v bt lt eb n g).2 k)]
      have e2 : (⟨v.G n, lt n⟩ : Fin 256) = g := Fin.ext k
      have e3 := energies_at v bt lt eb h n
      rw [e2] at e3
      exact e3
    · rw [if_neg k, if_neg (mt (word_iff v bt lt eb n g).1 k)]
      exact minus_inf
  simp only [e]
  rw [minus_inf, fold_sup, Finset.sup_ite, Finset.sup_bot, sup_bot_eq]
  unfold Nodes.top Nodes.of
  rfl

/-- The maxima shifted, read at an index. -/
theorem shift_at (T : S256.Idx → EReal) (g : Fin 256) :
    select (cmpf CmpFPredicate.oeq T (broadcastInDim S256 ![] bcast_S_S256 (constant (F := Ideal) S_ FTy.f32 4286578688#32)))
      (broadcastInDim S256 ![] bcast_S_S256 (id (constant (F := Ideal) S_ FTy.f32 0#32))) T (ix1 g) = shift (T (ix1 g)) := by
  pointwise
  rw [minus_inf]
  show (if _ then Idealize.ShloMosaic.Ideal.ofBits .f32 0#32 else _) = _
  rw [Idealize.ShloMosaic.Ideal.ofBits_zero_f32]
  rfl

include lt eb in
/-- A node's weight is that in its own graph. -/
theorem weights_at (h : S256x128.Idx → EReal) (n : Fin 100000) : weights (F := Ideal) bt (energies (F := Ideal) v.X bt h) (ix1 n) = v.weight h ⟨v.G n, lt n⟩ n := by
  unfold weights
  pointwise
  rw [energies_at v bt lt eb]
  unfold Nodes.weight
  refine congrArg (fun z : EReal => Idealize.ShloMosaic.Ideal.exp (v.energy h ⟨v.G n, lt n⟩ n - z)) ?_
  rw [← tops_at v bt lt eb h, ← shift_at]
  exact Routing.gather_take1 gather_S256_S100000x1_S100000_n_0_n_n_0_1_1 rfl rfl rfl rfl _ (wrapped bt) n ⟨v.G n, lt n⟩ (wrapped_at v bt lt eb n) (by decide)

/-- Where an update of a scatter into a vector lands. -/
theorem lands1 {R N : ℕ} (d : ScatterDims (Routing.shape1 R) (Routing.shape2 N 1) (Routing.shape1 N)) (hiw : d.insertedWindowDims = [0])
    (hsd : d.scatterDimsToOperandDims = [0]) (hivd : d.indexVectorDim = 1) (idx : IVec (Routing.shape2 N 1) 32) (n : Fin N) (g : Fin R) :
    d.resultIdx? (ix1 n) idx = some (ix1 g) ↔ (idx (ix2 n (0 : Fin 1))).toInt = (g.val : ℤ) := by
  have hm : (0 : Fin 1) ∈ d.scatterDimsToOperandDims := by rw [hsd]; exact List.mem_singleton.2 rfl
  have a : d.window (ix1 n) 0 = 0 := by
    unfold ScatterDims.window
    rw [dif_neg fun h => (of_decide_eq_true (List.mem_filter.1 h).2) (by rw [hiw]; exact List.mem_singleton.2 rfl)]
  have b : d.start (ix1 n) idx 0 = (idx (ix2 n (0 : Fin 1))).toInt := by
    unfold ScatterDims.start
    rw [dif_pos hm]
    refine congrArg (fun i => (idx i).toInt) (funext fun c => Fin.ext ?_)
    unfold ScatterDims.siIdx
    match c with
    | ⟨0, _⟩ =>
      rw [dif_neg (by rw [hivd]; exact Nat.zero_ne_one)]
      unfold ScatterDims.siCoord
      simp only [Fin.val_cast]
      have e : ∀ X : Fin 1, (ix1 n X).val = n.val := fun X => by
        obtain rfl : X = 0 := Subsingleton.elim _ _
        rfl
      exact e _
    | ⟨1, _⟩ =>
      rw [dif_pos (by rw [hivd])]
      show List.idxOf (0 : Fin 1) d.scatterDimsToOperandDims = 0
      rw [hsd]; simp
  refine (Routing.resultIdx?_ix1 d _ idx g).trans ?_
  rw [a, b]
  omega

/-- Where an update of a scatter of rows into a matrix lands. -/
theorem lands2 {R C N : ℕ} (d : ScatterDims (Routing.shape2 R C) (Routing.shape2 N 1) (Routing.shape2 N C)) (huw : d.updateWindowDims = [1])
    (hiw : d.insertedWindowDims = [0]) (hsd : d.scatterDimsToOperandDims = [0]) (hivd : d.indexVectorDim = 1) (idx : IVec (Routing.shape2 N 1) 32)
    (n : Fin N) (k : Fin C) (g : Fin R) (j : Fin C) :
    d.resultIdx? (ix2 n k) idx = some (ix2 g j) ↔ (idx (ix2 n (0 : Fin 1))).toInt = (g.val : ℤ) ∧ k = j := by
  have hm : (0 : Fin 2) ∈ d.scatterDimsToOperandDims := by rw [hsd]; exact List.mem_singleton.2 rfl
  have hkept : d.sKept = [1] := by
    show (Routing.shape2 R C).kept d.insertedWindowDims = _
    rw [hiw]
    rfl
  have hu : d.uScatter = [0] := by
    show (Routing.shape2 N C).kept d.updateWindowDims = _
    rw [huw]
    rfl
  have e0 : ∀ X : Fin 2, X = 0 → (ix2 n k X).val = n.val := fun X h => by subst h; rfl
  have e1 : ∀ X : Fin 2, X = 1 → (ix2 n k X).val = k.val := fun X h => by subst h; rfl
  have mem : ∀ (l : List (Fin 2)) (a : Fin 2) (i : ℕ) (h : i < l.length), l = [a] → l[i]'h = a := by
    intro l a i h hl
    subst hl
    simp
  have a0 : d.window (ix2 n k) 0 = 0 := by
    unfold ScatterDims.window
    rw [dif_neg fun h => (of_decide_eq_true (List.mem_filter.1 h).2) (by rw [hiw]; exact List.mem_singleton.2 rfl)]
  have a1 : d.window (ix2 n k) 1 = k.val := by
    unfold ScatterDims.window
    rw [dif_pos (by rw [hkept]; exact List.mem_singleton.2 rfl)]
    exact e1 _ (mem _ 1 _ _ huw)
  have b0 : d.start (ix2 n k) idx 0 = (idx (ix2 n (0 : Fin 1))).toInt := by
    unfold ScatterDims.start
    rw [dif_pos hm]
    refine congrArg (fun i => (idx i).toInt) (funext fun c => Fin.ext ?_)
    unfold ScatterDims.siIdx
    match c with
    | ⟨0, _⟩ =>
      rw [dif_neg (by rw [hivd]; exact Nat.zero_ne_one)]
      unfold ScatterDims.siCoord
      simp only [Fin.val_cast]
      exact e0 _ (mem _ 0 _ _ hu)
    | ⟨1, _⟩ =>
      rw [dif_pos (by rw [hivd])]
      show List.idxOf (0 : Fin 2) d.scatterDimsToOperandDims = 0
      rw [hsd]; simp
  have b1 : d.start (ix2 n k) idx 1 = 0 := by
    unfold ScatterDims.start
    rw [dif_neg fun h => by rw [hsd] at h; exact absurd (List.mem_singleton.1 h) (by decide : (1 : Fin 2) ≠ 0)]
  refine (Routing.resultIdx?_ix2 d _ idx g j).trans ?_
  rw [a0, a1, b0, b1, Fin.ext_iff]
  omega

/-- An accumulating scatter at an index. -/
theorem scatterAdd_at {s si su : Shape} (d : ScatterDims s si su) (x : s.Idx → EReal) (idx : IVec si 32) (f : su.Idx → EReal) (i : s.Idx) :
    Host.scatterAdd (F := Ideal) (φ := .f32) d x idx f i = x i + ∑ j ∈ Finset.univ.filter (fun j => d.resultIdx? j idx = some i), f j := rfl

/-- A sum over the places of a vector, -/
theorem sum1 {N : ℕ} (P : (Routing.shape1 N).Idx → Prop) [DecidablePred P] (Q : Finset (Fin N)) (h : ∀ n, P (ix1 n) ↔ n ∈ Q) (f : (Routing.shape1 N).Idx → EReal) :
    ∑ i ∈ Finset.univ.filter P, f i = ∑ n ∈ Q, f (ix1 n) := by
  refine Finset.sum_nbij' (fun i => i 0) (fun n => ix1 n) ?_ ?_ ?_ ?_ ?_
  · intro i hi
    obtain ⟨n, rfl⟩ : ∃ n, i = ix1 (n0 := N) n := ⟨_, eq_ix1 i⟩
    exact (h n).1 (Finset.mem_filter.1 hi).2
  · intro n hn
    exact Finset.mem_filter.2 ⟨Finset.mem_univ _, (h n).2 hn⟩
  · intro i _; exact (eq_ix1 i).symm
  · intro n _; rfl
  · intro i _; exact congrArg f (eq_ix1 i)

/-- and over the places of a matrix in one column. -/
theorem sum2 {N C : ℕ} (P : (Routing.shape2 N C).Idx → Prop) [DecidablePred P] (Q : Finset (Fin N)) (j : Fin C) (h : ∀ n k, P (ix2 n k) ↔ n ∈ Q ∧ k = j)
    (f : (Routing.shape2 N C).Idx → EReal) : ∑ i ∈ Finset.univ.filter P, f i = ∑ n ∈ Q, f (ix2 n j) := by
  refine Finset.sum_nbij' (fun i => i 0) (fun n => ix2 n j) ?_ ?_ ?_ ?_ ?_
  · intro i hi
    obtain ⟨n, k, rfl⟩ : ∃ n k, i = ix2 (n0 := N) (n1 := C) n k := ⟨_, _, eq_ix2 i⟩
    exact ((h n k).1 (Finset.mem_filter.1 hi).2).1
  · intro n hn
    exact Finset.mem_filter.2 ⟨Finset.mem_univ _, (h n j).2 ⟨hn, rfl⟩⟩
  · intro i hi
    obtain ⟨n, k, rfl⟩ : ∃ n k, i = ix2 (n0 := N) (n1 := C) n k := ⟨_, _, eq_ix2 i⟩
    rw [((h n k).1 (Finset.mem_filter.1 hi).2).2]
    rfl
  · intro n _; rfl
  · intro i hi
    obtain ⟨n, k, rfl⟩ : ∃ n k, i = ix2 (n0 := N) (n1 := C) n k := ⟨_, _, eq_ix2 i⟩
    rw [((h n k).1 (Finset.mem_filter.1 hi).2).2]
    rfl

include lt eb in
/-- A node's word, read signed. -/
theorem column_iff (n : Fin 100000) (g : Fin 256) : (column bt (ix2 n 0)).toInt = (g.val : ℤ) ↔ v.G n = g.val := by
  rw [column_at, eb, Predicate.toInt_ofNat_small _ (by have := lt n; omega)]
  omega

/-- The nodes of a graph are those with its number. -/
theorem of_iff (n : Fin 100000) (g : Fin 256) : v.G n = g.val ↔ n ∈ v.of g := by
  unfold Nodes.of
  rw [Finset.mem_filter]
  exact ⟨fun h => ⟨Finset.mem_univ _, h⟩, fun h => h.2⟩

include lt eb in
/-- A graph's sum is over its nodes. -/
theorem sums_at (f : S100000.Idx → EReal) (g : Fin 256) : sums (F := Ideal) bt f (ix1 g) = ∑ n ∈ v.of g, f (ix1 n) := by
  unfold sums
  have z : broadcastInDim S256 ![] bcast_S_S256 (constant (F := Ideal) S_ .f32 0x00000000#32) (ix1 g) = (0 : EReal) := by pointwise
  rw [scatterAdd_at, z, zero_add]
  exact sum1 _ _ (fun n => (lands1 _ rfl rfl rfl _ n g).trans ((column_iff v bt lt eb n g).trans (of_iff v n g))) f

include lt eb in
/-- A node's share is its weight over its graph's total. -/
theorem shares_at (h : S256x128.Idx → EReal) (n : Fin 100000) : shares (F := Ideal) bt (weights (F := Ideal) bt (energies (F := Ideal) v.X bt h)) (ix1 n)
    = Idealize.ShloMosaic.Ideal.div (v.weight h ⟨v.G n, lt n⟩ n) (v.total h ⟨v.G n, lt n⟩) := by
  unfold shares
  pointwise
  rw [weights_at v bt lt eb]
  unfold Nodes.total
  have e0 := Routing.gather_take1 gather_S256_S100000x1_S100000_n_0_n_n_0_1_1 rfl rfl rfl rfl (sums (F := Ideal) bt (weights (F := Ideal) bt (energies (F := Ideal) v.X bt h)))
    (wrapped bt) n ⟨v.G n, lt n⟩ (wrapped_at v bt lt eb n) (by decide)
  refine congrArg (fun z : EReal => Idealize.ShloMosaic.Ideal.div (v.weight h ⟨v.G n, lt n⟩ n) (z + Idealize.ShloMosaic.Ideal.ofBits .f32 0x24E69595#32)) (e0.trans ?_)
  refine (sums_at v bt lt eb _ _).trans (Finset.sum_congr rfl fun k hk => ?_)
  have e : (⟨v.G k, lt k⟩ : Fin 256) = ⟨v.G n, lt n⟩ := Fin.ext ((of_iff v k _).2 hk)
  rw [weights_at v bt lt eb, e]

include lt eb in
/-- The readout is the computation's. -/
theorem readout_at (h : S256x128.Idx → EReal) (g : Fin 256) (j : Fin 128) :
    readout (F := Ideal) v.X bt (weights (F := Ideal) bt (energies (F := Ideal) v.X bt h)) (ix2 g j) = v.read h g j := by
  unfold readout
  have z : zero128 (F := Ideal) (ix2 g j) = (0 : EReal) := by unfold zero128; pointwise
  rw [scatterAdd_at, z, zero_add]
  refine (sum2 _ (v.of g) j (fun n k => (lands2 _ rfl rfl rfl rfl _ n k g j).trans (and_congr_left' ((column_iff v bt lt eb n g).trans (of_iff v n g)))) _).trans ?_
  unfold Nodes.read
  refine Finset.sum_congr rfl fun n hn => ?_
  have e : (⟨v.G n, lt n⟩ : Fin 256) = g := Fin.ext ((of_iff v n g).2 hn)
  pointwise
  rw [shares_at v bt lt eb, e]

include lt eb in
/-- One step of the reference is one of the computation. -/
theorem query_at (h : S256x128.Idx → EReal) (g a : Fin 256) : query (F := Ideal) v.X bt h (ix2 g a)
    = if k : a.val < 128 then h (ix2 g ⟨a.val, k⟩) else v.read h g ⟨a.val - 128, by omega⟩ := by
  unfold query
  pointwise
  by_cases k : a.val < 128
  · rw [dif_pos k, dif_pos k]
  · rw [dif_neg k, dif_neg k]
    exact readout_at v bt lt eb h g _

end Cert.Proof.Ref
-- ==== Proof.Result.lean ====
/-
What the reference leaves: the query after three steps.
-/
module

public import proofs.«01_k».proof.Proof.Terms

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.ShloMosaic.Tactic

section terms

variable {F : FTy → Type} [FloatOps F] (V0 : Valuation τ sig (Elt F))

/-- The arguments: the nodes, -/
def nodes : FVec F S100000x128 .f32 := V0 (Proc.devRef .tc main_arg0)
/-- their graphs, -/
def graphs : IVec S100000 32 := V0 (Proc.devRef .tc main_arg1)
/-- and the gates of the weights among them. -/
def gated (q : FVec F S256x256 .f32) (h : FVec F S256x128 .f32) : FVec F S256x512 .f32 :=
  gates (F := F) (V0 (Proc.devRef .tc main_arg2)) (V0 (Proc.devRef .tc main_arg3)) (V0 (Proc.devRef .tc main_arg4)) (V0 (Proc.devRef .tc main_arg5)) q h
/-- The query after a state. -/
def asked (h : FVec F S256x128 .f32) : FVec F S256x256 .f32 := query (F := F) (nodes V0) (graphs V0) h

/-- The first step's cell -/
theorem cell1 : res_main_v39 V0 = memory (F := F) (gated V0 zero256 zero128) zero128 := by
  unfold res_main_v39 res_main_v19 gated gates memory logi zero256 zero128; rfl

/-- and state. -/
theorem state1 : res_main_v47 V0 = hidden (F := F) (gated V0 zero256 zero128) zero128 := by
  unfold res_main_v47 hidden; rw [cell1]; unfold res_main_v19 gated gates logi zero256 zero128; rfl

/-- The second step's gates, -/
theorem gates2 : res_main_v102 V0 = gated V0 (asked V0 (res_main_v47 V0)) (res_main_v47 V0) := by
  unfold res_main_v102 res_main_v71 res_main_v59 res_main_v56 res_main_v8
  unfold gated gates asked query readout shares sums weights tops member energies column wrapped nodes graphs zero128; rfl

/-- cell -/
theorem cell2 : res_main_v122 V0 = memory (F := F) (res_main_v102 V0) (res_main_v39 V0) := by
  unfold res_main_v122 memory logi; rfl

/-- and state. -/
theorem state2 : res_main_v130 V0 = hidden (F := F) (res_main_v102 V0) (res_main_v39 V0) := by
  unfold res_main_v130 hidden; rw [cell2]; unfold logi; rfl

/-- The third step's gates -/
theorem gates3 : res_main_v185 V0 = gated V0 (asked V0 (res_main_v130 V0)) (res_main_v130 V0) := by
  unfold res_main_v185 res_main_v154 res_main_v142 res_main_v139 res_main_v8
  unfold gated gates asked query readout shares sums weights tops member energies column wrapped nodes graphs zero128; rfl

/-- and state. -/
theorem state3 : res_main_v213 V0 = hidden (F := F) (res_main_v185 V0) (res_main_v122 V0) := by
  unfold res_main_v213 hidden memory logi; rfl

end terms

variable (V0 : Valuation τ sig (Elt Ideal)) (v : Nodes) (w : Weights)

/-- The arguments are the nodes `v` and the weights `w`. -/
structure Args : Prop where
  x : nodes V0 = v.X
  lt : ∀ n, v.G n < 256
  eb : ∀ n, graphs V0 (ix1 n) = BitVec.ofNat 32 (v.G n)
  wi : (V0 (Proc.devRef .tc main_arg2) : S512x256.Idx → EReal) = w.wi
  wh : (V0 (Proc.devRef .tc main_arg3) : S512x128.Idx → EReal) = w.wh
  bi : ∀ a, (V0 (Proc.devRef .tc main_arg4) : S512.Idx → EReal) (ix1 a) = w.bi a
  bh : ∀ a, (V0 (Proc.devRef .tc main_arg5) : S512.Idx → EReal) (ix1 a) = w.bh a

variable {V0 v w} (ha : Args V0 v w)
include ha

/-- A step's cell, -/
theorem Args.cell (s : St) : memory (F := Ideal) (gated V0 s.q s.h) s.c = (s.next w v).c := by
  funext i
  rw [eq_ix2 i]
  unfold gated
  rw [ha.wi, ha.wh]
  exact memory_at w _ _ ha.bi ha.bh s.q s.h s.c (i 0) (i 1)

/-- its state -/
theorem Args.state (s : St) : hidden (F := Ideal) (gated V0 s.q s.h) s.c = (s.next w v).h := by
  funext i
  rw [eq_ix2 i]
  unfold gated
  rw [ha.wi, ha.wh]
  exact hidden_at w _ _ ha.bi ha.bh s.q s.h s.c (i 0) (i 1)

/-- and its query. -/
theorem Args.query (s : St) : asked V0 (s.next w v).h = (s.next w v).q := by
  funext i
  rw [eq_ix2 i]
  unfold asked
  rw [ha.x]
  exact query_at v _ ha.lt ha.eb (s.next w v).h (i 0) (i 1)

/-- The reference's state after three steps, queried, is the result. -/
theorem Args.result : asked V0 (res_main_v213 V0) = St.result w v := by
  have z2 : zero256 (F := Ideal) = St.zero.q := by funext i; rw [eq_ix2 i]; unfold zero256; pointwise; rfl
  have z1 : zero128 (F := Ideal) = St.zero.h := by funext i; rw [eq_ix2 i]; unfold zero128; pointwise; rfl
  have c1 : res_main_v39 V0 = (St.zero.next w v).c := by
    rw [cell1, z2, z1]; exact ha.cell St.zero
  have h1 : res_main_v47 V0 = (St.zero.next w v).h := by
    rw [state1, z2, z1]; exact ha.state St.zero
  have g2 : res_main_v102 V0 = gated V0 (St.zero.next w v).q (St.zero.next w v).h := by
    rw [gates2, h1, ha.query]
  have c2 : res_main_v122 V0 = ((St.zero.next w v).next w v).c := by
    rw [cell2, g2, c1]; exact ha.cell (St.zero.next w v)
  have h2 : res_main_v130 V0 = ((St.zero.next w v).next w v).h := by
    rw [state2, g2, c1]; exact ha.state (St.zero.next w v)
  have g3 : res_main_v185 V0 = gated V0 ((St.zero.next w v).next w v).q ((St.zero.next w v).next w v).h := by
    rw [gates3, h2, ha.query]
  have h3 : res_main_v213 V0 = (((St.zero.next w v).next w v).next w v).h := by
    rw [state3, g3, c2]; exact ha.state ((St.zero.next w v).next w v)
  rw [h3, ha.query]
  rfl

end Cert.Proof.Ref
-- ==== Proof.Values.lean ====
/-
The kernel and the reference leave the same result.
-/
module

public import proofs.«01_k».proof.Proof.Whole
public import proofs.«01_k».proof.Proof.Frames
public import proofs.«01_k».proof.Proof.Result
public import proofs.«01_k».proof.Proof.Gen.Pre_sorted_graphs
public import Idealize.ShloMosaic.Lib.Pipeline.ValueKit.Geometry

@[expose] public section

noncomputable section

namespace Cert.Proof

open Cert.KernelIdeal Cert.KernelIdeal.Gen Cert.KernelIdeal.Facts
open Idealize.ShloMosaic Idealize.ShloMosaic.TcCoe Idealize.ShloMosaic.Tactic
open Idealize.SL.Sem Idealize.ShloMosaic.Pipeline

/-- The plan that the launch's tables hold for sorted nodes. -/
def planOf (bt : IVec S100000 32) (hs : Sorted bt) : Plan where
  G n := gr bt n.val
  TB t := (table bt (rows (iotaInDim S25 32 0)) (ix1 t)).toNat
  TL t := (table bt (lows bt) (ix1 t)).toNat
  K := (total bt (ix1 0)).toNat
  lt n := gr_lt hs n.val
  len := (planned hs).len
  tb t h := ((planned hs).win t h).1
  tl t h := ((planned hs).win t h).2
  one n := by
    have e : (bt (ix1 n)).toNat = gr bt n.val := by
      rw [gr_eq (bt := bt) n, BitVec.toNat_ofNat]; have := gr_lt hs n.val; omega
    have h := (planned hs).one n
    rwa [e] at h

section
variable (bt : IVec S100000 32) (hs : Sorted bt)

/-- Its fields. -/
theorem planOf_G (n : Fin 100000) : (planOf bt hs).G n = gr bt n.val := by simp only [planOf]
@[inherit_doc planOf_G] theorem planOf_TB (t : Fin 200) : (table bt (rows (iotaInDim S25 32 0)) (ix1 t)).toNat = (planOf bt hs).TB t := by simp only [planOf]
@[inherit_doc planOf_G] theorem planOf_TL (t : Fin 200) : (table bt (lows bt) (ix1 t)).toNat = (planOf bt hs).TL t := by simp only [planOf]
@[inherit_doc planOf_G] theorem planOf_K : (total bt (ix1 0)).toNat = (planOf bt hs).K := by simp only [planOf]
end

section
variable (m : (ℓ : Loc nD τ sig) → Buf (Elt Ideal) ℓ) (c : Dev nD)

/-- The weights among the arguments. -/
def weightsOf : Weights where
  wi := m ((c : Thread nD τ).loc main_arg2)
  wh := m ((c : Thread nD τ).loc main_arg3)
  bi a := (m ((c : Thread nD τ).loc main_arg4) : S512.Idx → EReal) (ix1 a)
  bh a := (m ((c : Thread nD τ).loc main_arg5) : S512.Idx → EReal) (ix1 a)

variable (hs : Sorted (m ((c : Thread nD τ).loc main_arg1)))

/-- The kernel's entry holds the plan and the nodes, -/
theorem fits (j : Sto Ideal) : Fits (planOf (m ((c : Thread nD τ).loc main_arg1)) hs) (m ((c : Thread nD τ).loc main_arg0)) (from0 m c j) := by
  have e0 : from0 m c j .x = m ((c : Thread nD τ).loc main_arg0) := (blk_x m c).trans (V_main_arg0 m c)
  have e1 : from0 m c j .bt = blocks (m ((c : Thread nD τ).loc main_arg1)) := (blk_bt m c).trans (V_blocks m c)
  have e2 : from0 m c j .tb = table (m ((c : Thread nD τ).loc main_arg1)) (rows (iotaInDim S25 32 0)) := (blk_tb m c).trans (V_tb m c)
  have e3 : from0 m c j .tl = table (m ((c : Thread nD τ).loc main_arg1)) (lows (m ((c : Thread nD τ).loc main_arg1))) := (blk_tl m c).trans (V_tl m c)
  have e4 : from0 m c j .nt = total (m ((c : Thread nD τ).loc main_arg1)) := (blk_nt m c).trans (V_nt m c)
  constructor
  · exact e0
  · intro i k h
    rw [e1, planOf_G]
    exact blocks_at (bt := m ((c : Thread nD τ).loc main_arg1)) i k
  · rw [e2]; exact planOf_TB _ hs
  · rw [e3]; exact planOf_TL _ hs
  · unfold cnt; rw [e4]; exact planOf_K _ hs

/-- and the weights. -/
theorem given (j : Sto Ideal) : Given (planOf (m ((c : Thread nD τ).loc main_arg1)) hs) (m ((c : Thread nD τ).loc main_arg0)) (weightsOf m c) (from0 m c j) := by
  have e0 : from0 m c j .wi = m ((c : Thread nD τ).loc main_arg2) := (blk_wi m c).trans (V_main_arg2 m c)
  have e1 : from0 m c j .wh = m ((c : Thread nD τ).loc main_arg3) := (blk_wh m c).trans (V_main_arg3 m c)
  have e2 : from0 m c j .bi = shapeCast S1x512 (m ((c : Thread nD τ).loc main_arg4)) shapeCasts_S512_S1x512 := (blk_bi m c).trans (V_bi m c)
  have e3 : from0 m c j .bh = shapeCast S1x512 (m ((c : Thread nD τ).loc main_arg5)) shapeCasts_S512_S1x512 := (blk_bh m c).trans (V_bh m c)
  refine ⟨fits m c hs j, e0, e1, fun a => ?_, fun a => ?_⟩
  · rw [e2]; exact Routing.cast12 (a := 1) (b := 512) _ shapeCasts_S512_S1x512 0 a a (by simp)
  · rw [e3]; exact Routing.cast12 (a := 1) (b := 512) _ shapeCasts_S512_S1x512 0 a a (by simp)

/-- The result of the arguments. -/
def resultOf : S256x256.Idx → EReal :=
  St.result (weightsOf m c) ((planOf (m ((c : Thread nD τ).loc main_arg1)) hs).v (m ((c : Thread nD τ).loc main_arg0)))

/-- The kernel's result is that of its arguments. -/
theorem leaves (d : S256x256.Idx → Elt Ideal .f32) (h : Leaves m c d) : d = resultOf m c hs := by
  obtain ⟨j, s', hk, rfl⟩ := h
  exact (given m c hs j).kern hk
end

/-- The one block written back is the whole array. -/
theorem written (m : (ℓ : Loc nD τ sig) → Buf (Elt Ideal) ℓ) (out : Dev nD → (S256x256.Idx → Elt Ideal .f32)) (c : Dev nD) :
    (dats m out 0 c).arrAt 9 cfg0.N = out c :=
  (dats m out 0 c).arrAt_eq_of_after_last 9 t0_0 (by decide +kernel) (out c) fun _ => rfl

/-- From sorted nodes the kernel ends with the result of its arguments, and they are unchanged. -/
theorem kernel_value (m : (ℓ : Loc nD τ sig) → Buf (Elt Ideal) ℓ) (ρ : Dev nD → PrngReg)
    (hs : ∀ c : Dev nD, Sorted (m ((c : Thread nD τ).loc main_arg1))) :
    θ_run defs (onTc (τ := τ) (main (F := Ideal))) ⟨m, fun _ => 0, ρ⟩ (fun r => ∀ c : Dev nD,
      r.2.mem ((c.tc : Thread nD τ).loc main_v0) = resultOf m c (hs c) ∧ Same m r c) :=
  (θ_run defs _ _).mono (fun r h c => by
      refine ⟨((h c).1 9).trans (written m _ c), ?_⟩
      have i (w : Fin 10) (hw : (cfg0.win w).isOut = false) := ((h c).1 w).trans (((dats m (fun c => resultOf m c (hs c)) 0 c).arrAt_in w hw cfg0.N).trans (A_eq m _ c w))
      exact ⟨(i 0 rfl).trans (V_main_arg0 m c),
        ((h c).2 main_arg1 (mem_restRefs_of main_arg1 (by decide) (by decide))).trans (V_main_arg1 m c),
        (i 5 rfl).trans (V_main_arg2 m c),
        (i 6 rfl).trans (V_main_arg3 m c),
        ((h c).2 main_arg4 (mem_restRefs_of main_arg4 (by decide) (by decide))).trans (V_main_arg4 m c),
        ((h c).2 main_arg5 (mem_restRefs_of main_arg5 (by decide) (by decide))).trans (V_main_arg5 m c)⟩)
    (named_run m ρ (fun c => resultOf m c (hs c)) (fun c j => tab_ok m c (planned (hs c)) j) fun c d h => leaves m c (hs c) d h)

/-- The reference's result of the same arguments is the same. -/
theorem reference_value (m : (ℓ : Loc nD τ sig) → Buf (Elt Ideal) ℓ) (c : Dev nD) (hs : Sorted (m ((c : Thread nD τ).loc main_arg1)))
    (V0 : Valuation Cert.ReferenceIdeal.τ Cert.ReferenceIdeal.sig (Elt Ideal))
    (h0 : V0 (Proc.devRef .tc Cert.ReferenceIdeal.main_arg0) = m ((c : Thread nD τ).loc main_arg0))
    (h1 : V0 (Proc.devRef .tc Cert.ReferenceIdeal.main_arg1) = m ((c : Thread nD τ).loc main_arg1))
    (h2 : V0 (Proc.devRef .tc Cert.ReferenceIdeal.main_arg2) = m ((c : Thread nD τ).loc main_arg2))
    (h3 : V0 (Proc.devRef .tc Cert.ReferenceIdeal.main_arg3) = m ((c : Thread nD τ).loc main_arg3))
    (h4 : V0 (Proc.devRef .tc Cert.ReferenceIdeal.main_arg4) = m ((c : Thread nD τ).loc main_arg4))
    (h5 : V0 (Proc.devRef .tc Cert.ReferenceIdeal.main_arg5) = m ((c : Thread nD τ).loc main_arg5)) :
    Ref.asked V0 (Cert.ReferenceIdeal.Value.res_main_v213 V0) = resultOf m c hs :=
  Ref.Args.result
    { x := h0
      lt := (planOf (m ((c : Thread nD τ).loc main_arg1)) hs).lt
      eb := fun n => (congrFun h1 (ix1 n)).trans (gr_eq n)
      wi := h2
      wh := h3
      bi := fun a => congrFun h4 (ix1 a)
      bh := fun a => congrFun h5 (ix1 a) }

/-- Over the extended reals the kernel and the reference leave the same result. -/
theorem same_result : Cert.algebraic_KernelIdeal_ReferenceIdeal (hKernelIdeal := Cert.KernelIdeal.Gen.facts)
    (hReferenceIdeal := Cert.ReferenceIdeal.Gen.facts) (hPre_sorted_graphs := Cert.Pre_sorted_graphs.Gen.facts) := by
  intro m g m' g' hp he
  have hs : ∀ c : Dev nD, Sorted (m ((c : Thread nD τ).loc main_arg1)) := fun c => sorted_of_pre _ _ _ _ _ _ (hp c)
  refine ⟨fun c => resultOf m c (hs c), kernel_value m g hs, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5⟩ := he c
  refine Eq.trans ?_ (reference_value m c (hs c) (StableHlo.launchContents m' c) e0 e1 e2 e3 e4 e5)
  unfold Ref.asked Ref.query Ref.readout Ref.shares Ref.sums Ref.weights Ref.tops Ref.member Ref.energies Ref.column Ref.wrapped Ref.nodes Ref.graphs Ref.zero128
  unfold Cert.ReferenceIdeal.Value.res_main_v237 Cert.ReferenceIdeal.Value.res_main_v225 Cert.ReferenceIdeal.Value.res_main_v222 Cert.ReferenceIdeal.Value.res_main_v8
  rfl

end Cert.Proof
-- ==== Proof.lean ====
/-
  The claims: the kernel runs, as printed and with its mask named, so does the reference, and they leave the same result.
-/
module

public import proofs.«01_k».proof.Defs
public import proofs.«01_k».proof.Proof.Printed
public import proofs.«01_k».proof.Proof.Refs
public import proofs.«01_k».proof.Proof.Values
public import proofs.«01_k».proof.Proof.Gen.ReferenceIdeal.Run

@[expose] public section

noncomputable section

namespace Cert.Proof

open Idealize.ShloMosaic Idealize.SL.Sem

/-- Every claim. -/
theorem claim : Cert.Claim := ⟨Cert.Kernel.Gen.facts, Cert.KernelIdeal.Gen.facts, Cert.ReferenceIdeal.Gen.facts, Cert.Pre_sorted_graphs.Gen.facts,
  quiescent_kernel, quiescent_ideal, reference_frame, reference_frame_sorted, mask_named, same_result⟩

end Cert.Proof

end
